-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_memory [hPre_finite_memory : Cert.Pre_finite_memory.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_memory.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).1 = (fun _ => 1#1)
    ∧ (Cert.Pre_finite_memory.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_memory [hPre_finite_memory : Cert.Pre_finite_memory.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_memory.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).1 = (fun _ => 1#1)
    ∧ (Cert.Pre_finite_memory.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_finite_memory [hKernel2Ideal : Cert.Kernel2Ideal.Facts] [hPre_finite_memory : Cert.Pre_finite_memory.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_memory m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_finite_memory [hReference2Ideal : Cert.Reference2Ideal.Facts] [hPre_finite_memory : Cert.Pre_finite_memory.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_memory m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  IdealRules.named_const.Statement Cert.KernelIdeal.κ "scale_log2e" .f32 0x3E0293EE#32 ((((Real.sqrt 128) * (Real.log 2))⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite_memory [hKernel2Ideal : Cert.Kernel2Ideal.Facts] [hReference2Ideal : Cert.Reference2Ideal.Facts] [hPre_finite_memory : Cert.Pre_finite_memory.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_memory m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  IdealRules.named_const.Statement Cert.Kernel4Ideal.κ "scale_log2e" .f32 0x3E0293EE#32 ((((Real.sqrt 128) * (Real.log 2))⁻¹ : ℝ) : EReal)
  ∧ IdealRules.named_const.Statement Cert.Kernel4Ideal.κ "scale" .f32 0x3DB504F3#32 (((Real.sqrt 128)⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v73_0)) (v1 : (c : Dev Cert.Kernel4Ideal.nD) → Buf (Elt Ideal) ((c.tc : Thread Cert.Kernel4Ideal.nD Cert.Kernel4Ideal.τ).loc Cert.Kernel4Ideal.main_v73_1)) (v2 : (c : Dev Cert.Kernel4Ideal.nD) → Buf (Elt Ideal) ((c.tc : Thread Cert.Kernel4Ideal.nD Cert.Kernel4Ideal.τ).loc Cert.Kernel4Ideal.main_v73_2)) (v3 : (c : Dev Cert.Kernel4Ideal.nD) → Buf (Elt Ideal) ((c.tc : Thread Cert.Kernel4Ideal.nD Cert.Kernel4Ideal.τ).loc Cert.Kernel4Ideal.main_v73_3)) (v4 : (c : Dev Cert.Kernel4Ideal.nD) → Buf (Elt Ideal) ((c.tc : Thread Cert.Kernel4Ideal.nD Cert.Kernel4Ideal.τ).loc Cert.Kernel4Ideal.main_v73_4)) (v5 : (c : Dev Cert.Kernel4Ideal.nD) → Buf (Elt Ideal) ((c.tc : Thread Cert.Kernel4Ideal.nD Cert.Kernel4Ideal.τ).loc Cert.Kernel4Ideal.main_v73_5)) (v6 : (c : Dev Cert.Kernel4Ideal.nD) → Buf (Elt Ideal) ((c.tc : Thread Cert.Kernel4Ideal.nD Cert.Kernel4Ideal.τ).loc Cert.Kernel4Ideal.main_v73_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v73_0) = v0 c
          ∧ r.2.mem ((c.tc : Thread Cert.Kernel4Ideal.nD Cert.Kernel4Ideal.τ).loc Cert.Kernel4Ideal.main_v73_1) = v1 c
          ∧ r.2.mem ((c.tc : Thread Cert.Kernel4Ideal.nD Cert.Kernel4Ideal.τ).loc Cert.Kernel4Ideal.main_v73_2) = v2 c
          ∧ r.2.mem ((c.tc : Thread Cert.Kernel4Ideal.nD Cert.Kernel4Ideal.τ).loc Cert.Kernel4Ideal.main_v73_3) = v3 c
          ∧ r.2.mem ((c.tc : Thread Cert.Kernel4Ideal.nD Cert.Kernel4Ideal.τ).loc Cert.Kernel4Ideal.main_v73_4) = v4 c
          ∧ r.2.mem ((c.tc : Thread Cert.Kernel4Ideal.nD Cert.Kernel4Ideal.τ).loc Cert.Kernel4Ideal.main_v73_5) = v5 c
          ∧ r.2.mem ((c.tc : Thread Cert.Kernel4Ideal.nD Cert.Kernel4Ideal.τ).loc Cert.Kernel4Ideal.main_v73_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v271) = v0 c
          ∧ r.2.mem ((c.tc : Thread Cert.Reference4Ideal.nD Cert.Reference4Ideal.τ).loc Cert.Reference4Ideal.main_v273) = v1 c
          ∧ r.2.mem ((c.tc : Thread Cert.Reference4Ideal.nD Cert.Reference4Ideal.τ).loc Cert.Reference4Ideal.main_v275) = v2 c
          ∧ r.2.mem ((c.tc : Thread Cert.Reference4Ideal.nD Cert.Reference4Ideal.τ).loc Cert.Reference4Ideal.main_v276) = v3 c
          ∧ r.2.mem ((c.tc : Thread Cert.Reference4Ideal.nD Cert.Reference4Ideal.τ).loc Cert.Reference4Ideal.main_v277) = v4 c
          ∧ r.2.mem ((c.tc : Thread Cert.Reference4Ideal.nD Cert.Reference4Ideal.τ).loc Cert.Reference4Ideal.main_v282) = v5 c
          ∧ r.2.mem ((c.tc : Thread Cert.Reference4Ideal.nD Cert.Reference4Ideal.τ).loc Cert.Reference4Ideal.main_v284) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts) (hPre_finite_memory : Cert.Pre_finite_memory.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_finite_memory (hKernel2Ideal := hKernel2Ideal) (hPre_finite_memory := hPre_finite_memory)
    ∧ quiescent_Reference2Ideal (hReference2Ideal := hReference2Ideal)
    ∧ quiescent_Reference2Ideal_pre_finite_memory (hReference2Ideal := hReference2Ideal) (hPre_finite_memory := hPre_finite_memory)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_finite_memory (hKernel2Ideal := hKernel2Ideal) (hReference2Ideal := hReference2Ideal) (hPre_finite_memory := hPre_finite_memory)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_memory.lean ====
abbrev S8x4096x1024 : Shape := ⟨3, ![8, 4096, 1024]⟩
abbrev S8x4096x512 : Shape := ⟨3, ![8, 4096, 512]⟩
abbrev S8x4096x2048 : Shape := ⟨3, ![8, 4096, 2048]⟩
abbrev S8x256x1024 : Shape := ⟨3, ![8, 256, 1024]⟩
abbrev S1x128 : Shape := ⟨2, ![1, 128]⟩
abbrev S1x2048x1024 : Shape := ⟨3, ![1, 2048, 1024]⟩
abbrev S1x1024 : Shape := ⟨2, ![1, 1024]⟩
abbrev S_ : Shape := ⟨0, ![]⟩
abbrev S8x256x512 : Shape := ⟨3, ![8, 256, 512]⟩

class Facts : Prop where
  bcast_S_S8x4096x512 : S_.BroadcastsInDim S8x4096x512 (![] : Fin 0 → Fin S8x4096x512.rank)
  slices_S8x256x1024_S8x256x512_0_0_0 : S8x256x1024.Slices ![0, 0, 0] S8x256x512
  bcast_S_S8x256x512 : S_.BroadcastsInDim S8x256x512 (![] : Fin 0 → Fin S8x256x512.rank)

variable [Facts]

def fn {F : FTy → Type} [FloatOps F] (main_arg0 : FVec F S8x4096x1024 .f32) (main_arg1 : FVec F S8x4096x512 .f32) (main_arg2 : FVec F S8x4096x512 .f32) (main_arg3 : FVec F S8x4096x2048 .f32) (main_arg4 : FVec F S8x4096x512 .f32) (main_arg5 : FVec F S8x256x1024 .f32) (main_arg6 : FVec F S1x128 .f32) (main_arg7 : FVec F S1x2048x1024 .f32) (main_arg8 : FVec F S1x1024 .f32) (main_arg9 : FVec F S8x4096x1024 .f32) : IVec S8x4096x512 1 × IVec S8x256x512 1 :=
  let main_v0 : FVec F S8x4096x512 .f32 := Host.absf main_arg4
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_v3 : FVec F S8x256x512 .f32 := (extractStridedSlice S8x256x512 ![0, 0, 0] · slices_S8x256x1024_S8x256x512_0_0_0) main_arg5
  let main_v4 : FVec F S8x256x512 .f32 := Host.absf main_v3
  let main_cst_0 : FVec F S_ .f32 := constant S_ .f32 0x7F800000#32
  let main_v5 : FVec F S8x256x512 .f32 := broadcastInDim S8x256x512 ![] bcast_S_S8x256x512 main_cst_0
  let main_v6 : IVec S8x256x512 1 := cmpf .olt main_v4 main_v5
  (main_v2, main_v6)
-- ==== Pre_finite_scores.lean ====
abbrev S8x4096x8x128 : Shape := ⟨4, ![8, 4096, 8, 128]⟩
abbrev S8x4096x2x128 : Shape := ⟨4, ![8, 4096, 2, 128]⟩
abbrev S8x4096x2048 : Shape := ⟨3, ![8, 4096, 2048]⟩
abbrev S_ : Shape := ⟨0, ![]⟩

class Facts : Prop where
  bcast_S_S8x4096x8x128 : S_.BroadcastsInDim S8x4096x8x128 (![] : Fin 0 → Fin S8x4096x8x128.rank)
  bcast_S_S8x4096x2x128 : S_.BroadcastsInDim S8x4096x2x128 (![] : Fin 0 → Fin S8x4096x2x128.rank)

variable [Facts]

def fn {F : FTy → Type} [FloatOps F] (main_arg0 : FVec F S8x4096x8x128 .f32) (main_arg1 : FVec F S8x4096x2x128 .f32) (main_arg2 : FVec F S8x4096x2x128 .f32) (main_arg3 : FVec F S8x4096x2048 .f32) : IVec S8x4096x8x128 1 × IVec S8x4096x2x128 1 :=
  let main_v0 : FVec F S8x4096x8x128 .f32 := Host.absf main_arg0
  let main_cst : FVec F S_ .f32 := constant S_ .f32 0x7F800000#32
  let main_v1 : FVec F S8x4096x8x128 .f32 := broadcastInDim S8x4096x8x128 ![] bcast_S_S8x4096x8x128 main_cst
  let main_v2 : IVec S8x4096x8x128 1 := cmpf .olt main_v0 main_v1
  let main_v3 : FVec F S8x4096x2x128 .f32 := Host.absf main_arg1
  let main_cst_0 : FVec F S_ .f32 := constant S_ .f32 0x7F800000#32
  let main_v4 : FVec F S8x4096x2x128 .f32 := broadcastInDim S8x4096x2x128 ![] bcast_S_S8x4096x2x128 main_cst_0
  let main_v5 : IVec S8x4096x2x128 1 := cmpf .olt main_v3 main_v4
  (main_v2, main_v5)
-- ==== Kernel.lean ====
abbrev S8x4096x8x128 : Shape := ⟨4, ![8, 4096, 8, 128]⟩
abbrev S8x4096x2x128 : Shape := ⟨4, ![8, 4096, 2, 128]⟩
abbrev S8x4096x2048 : Shape := ⟨3, ![8, 4096, 2048]⟩
abbrev S8x8x512x1024 : Shape := ⟨4, ![8, 8, 512, 1024]⟩
abbrev S8x8x1024x512 : Shape := ⟨4, ![8, 8, 1024, 512]⟩
abbrev S8x4096x256 : Shape := ⟨3, ![8, 4096, 256]⟩
abbrev S8x8x512x2x128 : Shape := ⟨5, ![8, 8, 512, 2, 128]⟩
abbrev S8x8x2x128x512 : Shape := ⟨5, ![8, 8, 2, 128, 512]⟩
abbrev S_ : Shape := ⟨0, ![]⟩
abbrev S8x8x2x1x512 : Shape := ⟨5, ![8, 8, 2, 1, 512]⟩
abbrev S8x8x2x15x512 : Shape := ⟨5, ![8, 8, 2, 15, 512]⟩
abbrev S8x8x2x144x512 : Shape := ⟨5, ![8, 8, 2, 144, 512]⟩
abbrev S8x8x288x512 : Shape := ⟨4, ![8, 8, 288, 512]⟩
abbrev S8x8x512x256 : Shape := ⟨4, ![8, 8, 512, 256]⟩
abbrev S8x4096x1024 : Shape := ⟨3, ![8, 4096, 1024]⟩
abbrev S1x8x512x512 : Shape := ⟨4, ![1, 8, 512, 512]⟩
abbrev S1x8x512x128 : Shape := ⟨4, ![1, 8, 512, 128]⟩
abbrev S1x8x144x512 : Shape := ⟨4, ![1, 8, 144, 512]⟩
abbrev S1x4096x512 : Shape := ⟨3, ![1, 4096, 512]⟩
abbrev S4x1x512 : Shape := ⟨3, ![4, 1, 512]⟩
abbrev S4x144x512 : Shape := ⟨3, ![4, 144, 512]⟩
abbrev S2x4x512x512 : Shape := ⟨4, ![2, 4, 512, 512]⟩
abbrev S1x1x128x512 : Shape := ⟨4, ![1, 1, 128, 512]⟩
abbrev S128x512 : Shape := ⟨2, ![128, 512]⟩
abbrev S1x1x512x128 : Shape := ⟨4, ![1, 1, 512, 128]⟩
abbrev S512x128 : Shape := ⟨2, ![512, 128]⟩
abbrev S512x512 : Shape := ⟨2, ![512, 512]⟩
abbrev S1x1x512x512 : Shape := ⟨4, ![1, 1, 512, 512]⟩
abbrev S1x1x8x512 : Shape := ⟨4, ![1, 1, 8, 512]⟩
abbrev S8x512 : Shape := ⟨2, ![8, 512]⟩
abbrev S512 : Shape := ⟨1, ![512]⟩
abbrev S1x512 : Shape := ⟨2, ![1, 512]⟩
abbrev S1x1x512 : Shape := ⟨3, ![1, 1, 512]⟩
abbrev S1x1x32x512 : Shape := ⟨4, ![1, 1, 32, 512]⟩
abbrev S32x512 : Shape := ⟨2, ![32, 512]⟩
abbrev S1x1x144x512 : Shape := ⟨4, ![1, 1, 144, 512]⟩
abbrev S144x512 : Shape := ⟨2, ![144, 512]⟩
abbrev S1x144x512 : Shape := ⟨3, ![1, 144, 512]⟩
abbrev S1x128x512 : Shape := ⟨3, ![1, 128, 512]⟩
abbrev S1x512x128 : Shape := ⟨3, ![1, 512, 128]⟩

abbrev nBuf : Space → Nat
  | .hbm => 20
  | .vmem => 14
  | .smem => 0
  | _ => 0

abbrev bufTy : (tb : Table) → Fin (tcTables nBuf tb) → BufTy
  | .hbm, ⟨0, _⟩ => ⟨S8x4096x8x128, .f32⟩
  | .hbm, ⟨1, _⟩ => ⟨S8x4096x2x128, .f32⟩
  | .hbm, ⟨2, _⟩ => ⟨S8x4096x2x128, .f32⟩
  | .hbm, ⟨3, _⟩ => ⟨S8x4096x2048, .f32⟩
  | .hbm, ⟨4, _⟩ => ⟨S8x8x512x1024, .f32⟩
  | .hbm, ⟨5, _⟩ => ⟨S8x8x1024x512, .f32⟩
  | .hbm, ⟨6, _⟩ => ⟨S8x4096x256, .f32⟩
  | .hbm, ⟨7, _⟩ => ⟨S8x4096x256, .bf16⟩
  | .hbm, ⟨8, _⟩ => ⟨S8x8x512x2x128, .f32⟩
  | .hbm, ⟨9, _⟩ => ⟨S8x8x2x128x512, .f32⟩
  | .hbm, ⟨10, _⟩ => ⟨S_, .f32⟩
  | .hbm, ⟨11, _⟩ => ⟨S8x8x2x1x512, .f32⟩
  | .hbm, ⟨12, _⟩ => ⟨S_, .f32⟩
  | .hbm, ⟨13, _⟩ => ⟨S8x8x2x15x512, .f32⟩
  | .hbm, ⟨14, _⟩ => ⟨S8x8x2x144x512, .f32⟩
  | .hbm, ⟨15, _⟩ => ⟨S8x8x288x512, .f32⟩
  | .hbm, ⟨16, _⟩ => ⟨S8x8x288x512, .bf16⟩
  | .hbm, ⟨17, _⟩ => ⟨S8x4096x2048, .bf16⟩
  | .hbm, ⟨18, _⟩ => ⟨S8x8x512x256, .bf16⟩
  | .hbm, ⟨19, _⟩ => ⟨S8x4096x1024, .bf16⟩
  | .local _ .vmem, ⟨0, _⟩ => ⟨S1x8x512x512, .f32⟩
  | .local _ .vmem, ⟨1, _⟩ => ⟨S1x8x512x512, .f32⟩
  | .local _ .vmem, ⟨2, _⟩ => ⟨S1x8x512x128, .bf16⟩
  | .local _ .vmem, ⟨3, _⟩ => ⟨S1x8x512x128, .bf16⟩
  | .local _ .vmem, ⟨4, _⟩ => ⟨S1x8x144x512, .bf16⟩
  | .local _ .vmem, ⟨5, _⟩ => ⟨S1x8x144x512, .bf16⟩
  | .local _ .vmem, ⟨6, _⟩ => ⟨S1x4096x512, .bf16⟩
  | .local _ .vmem, ⟨7, _⟩ => ⟨S1x4096x512, .bf16⟩
  | .local _ .vmem, ⟨8, _⟩ => ⟨S1x4096x512, .bf16⟩
  | .local _ .vmem, ⟨9, _⟩ => ⟨S1x4096x512, .bf16⟩
  | .local _ .vmem, ⟨10, _⟩ => ⟨S4x1x512, .f32⟩
  | .local _ .vmem, ⟨11, _⟩ => ⟨S4x144x512, .f32⟩
  | .local _ .vmem, ⟨12, _⟩ => ⟨S2x4x512x512, .f32⟩
  | .local _ .vmem, ⟨13, _⟩ => ⟨S2x4x512x512, .bf16⟩
  | _, _ => ⟨S8x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32 : BitVec 32 := 0#32
  let c8_i32 : BitVec 32 := 8#32
  let v44 : BitVec 32 := Scalar.addi c0_i32 c8_i32
  let c1_i32 : BitVec 32 := 1#32
  ⟨c0_i32, v44, c1_i32⟩
def k0_off1 (k0_t1 : Fin k0_t1_loop.trips) : Fin 4 → Nat :=
  let c0_49 : Index := 0#32
  let c0_i32 : BitVec 32 := 0#32
  let c1_i32 : BitVec 32 := 1#32
  let arg11 : BitVec 32 := Scf.iv c0_i32 c1_i32 k0_t1
  let v45 : Index := Scalar.indexCast arg11
  let c0_50 : Index := 0#32
  let c0_51 : Index := 0#32
  ![0, v45.toNat, 0, 0]
def k0_off2 (k0_t1 : Fin k0_t1_loop.trips) : Fin 4 → Nat :=
  let c0_402 : Index := 0#32
  let c0_i32 : BitVec 32 := 0#32
  let c1_i32 : BitVec 32 := 1#32
  let arg11 : BitVec 32 := Scf.iv c0_i32 c1_i32 k0_t1
  let v405 : Index := Scalar.indexCast arg11
  let c128_403 : Index := 128#32
  let c0_404 : Index := 0#32
  ![0, v405.toNat, 128, 0]
def k0_off3 (k0_t1 : Fin k0_t1_loop.trips) : Fin 4 → Nat :=
  let c0_815 : Index := 0#32
  let c0_i32 : BitVec 32 := 0#32
  let c1_i32 : BitVec 32 := 1#32
  let arg11 : BitVec 32 := Scf.iv c0_i32 c1_i32 k0_t1
  let v765 : Index := Scalar.indexCast arg11
  let c256_816 : Index := 256#32
  let c0_817 : Index := 0#32
  ![0, v765.toNat, 256, 0]
def k0_off4 (k0_t1 : Fin k0_t1_loop.trips) : Fin 4 → Nat :=
  let c0_1228 : Index := 0#32
  let c0_i32 : BitVec 32 := 0#32
  let c1_i32 : BitVec 32 := 1#32
  let arg11 : BitVec 32 := Scf.iv c0_i32 c1_i32 k0_t1
  let v1125 : Index := Scalar.indexCast arg11
  let c384_1229 : Index := 384#32
  let c0_1230 : Index := 0#32
  ![0, v1125.toNat, 384, 0]
def k0_off5 (k0_t1 : Fin k0_t1_loop.trips) : Fin 4 → Nat :=
  let c0_11694 : Index := 0#32
  let c0_i32 : BitVec 32 := 0#32
  let c1_i32 : BitVec 32 := 1#32
  let arg11 : BitVec 32 := Scf.iv c0_i32 c1_i32 k0_t1
  let c1_i32_11693 : BitVec 32 := 1#32
  let v10365 : BitVec 32 := Scalar.addi arg11 c1_i32_11693
  let c7_i32 : BitVec 32 := 7#32
  let v10366 : BitVec 32 := Scalar.minsi v10365 c7_i32
  let v10367 : Index := Scalar.indexCast v10366
  let c0_11695 : Index := 0#32
  let c0_11696 : Index := 0#32
  ![0, v10367.toNat, 0, 0]
def k0_off6 (k0_t1 : Fin k0_t1_loop.trips) : Fin 4 → Nat :=
  let c0_12115 : Index := 0#32
  let c0_i32 : BitVec 32 := 0#32
  let c1_i32 : BitVec 32 := 1#32
  let arg11 : BitVec 32 := Scf.iv c0_i32 c1_i32 k0_t1
  let c1_i32_12113 : BitVec 32 := 1#32
  let v10737 : BitVec 32 := Scalar.addi arg11 c1_i32_12113
  let c7_i32_12114 : BitVec 32 := 7#32
  let v10738 : BitVec 32 := Scalar.minsi v10737 c7_i32_12114
  let v10739 : Index := Scalar.indexCast v10738
  let c128_12116 : Index := 128#32
  let c0_12117 : Index := 0#32
  ![0, v10739.toNat, 128, 0]
def k0_off7 (k0_t1 : Fin k0_t1_loop.trips) : Fin 4 → Nat :=
  let c0_12536 : Index := 0#32
  let c0_i32 : BitVec 32 := 0#32
  let c1_i32 : BitVec 32 := 1#32
  let arg11 : BitVec 32 := Scf.iv c0_i32 c1_i32 k0_t1
  let c1_i32_12534 : BitVec 32 := 1#32
  let v11109 : BitVec 32 := Scalar.addi arg11 c1_i32_12534
  let c7_i32_12535 : BitVec 32 := 7#32
  let v11110 : BitVec 32 := Scalar.minsi v11109 c7_i32_12535
  let v11111 : Index := Scalar.indexCast v11110
  let c256_12537 : Index := 256#32
  let c0_12538 : Index := 0#32
  ![0, v11111.toNat, 256, 0]
def k0_off8 (k0_t1 : Fin k0_t1_loop.trips) : Fin 4 → Nat :=
  let c0_12957 : Index := 0#32
  let c0_i32 : BitVec 32 := 0#32
  let c1_i32 : BitVec 32 := 1#32
  let arg11 : BitVec 32 := Scf.iv c0_i32 c1_i32 k0_t1
  let c1_i32_12955 : BitVec 32 := 1#32
  let v11481 : BitVec 32 := Scalar.addi arg11 c1_i32_12955
  let c7_i32_12956 : BitVec 32 := 7#32
  let v11482 : BitVec 32 := Scalar.minsi v11481 c7_i32_12956
  let v11483 : Index := Scalar.indexCast v11482
  let c384_12958 : Index := 384#32
  let c0_12959 : Index := 0#32
  ![0, v11483.toNat, 384, 0]
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c512_i32 : BitVec 32 := 512#32
  let v11853 : BitVec 32 := Scalar.muli arg11 c512_i32
  v11853
def k0_off9 (k0_t1 : Fin k0_t1_loop.trips) : Fin 3 → Nat :=
  let c0_13382 : Index := 0#32
  let c0_i32 : BitVec 32 := 0#32
  let c1_i32 : BitVec 32 := 1#32
  let arg11 : BitVec 32 := Scf.iv c0_i32 c1_i32 k0_t1
  let c512_i32 : BitVec 32 := 512#32
  let v11853 : BitVec 32 := Scalar.muli arg11 c512_i32
  let v11854 : BitVec 32 := v11853
  let v11862 : Index := Scalar.indexCast v11854
  let c0_13383 : Index := 0#32
  ![0, v11862.toNat, 0]
def k0_off10 (k0_t1 : Fin k0_t1_loop.trips) : Fin 3 → Nat :=
  let c0_13392 : Index := 0#32
  let c0_i32 : BitVec 32 := 0#32
  let c1_i32 : BitVec 32 := 1#32
  let arg11 : BitVec 32 := Scf.iv c0_i32 c1_i32 k0_t1
  let c512_i32 : BitVec 32 := 512#32
  let v11853 : BitVec 32 := Scalar.muli arg11 c512_i32
  let v11854 : BitVec 32 := v11853
  let v11881 : Index := Scalar.indexCast v11854
  let c128_13393 : Index := 128#32
  ![0, v11881.toNat, 128]
def k0_off11 (k0_t1 : Fin k0_t1_loop.trips) : Fin 3 → Nat :=
  let c0_13402 : Index := 0#32
  let c0_i32 : BitVec 32 := 0#32
  let c1_i32 : BitVec 32 := 1#32
  let arg11 : BitVec 32 := Scf.iv c0_i32 c1_i32 k0_t1
  let c512_i32 : BitVec 32 := 512#32
  let v11853 : BitVec 32 := Scalar.muli arg11 c512_i32
  let v11854 : BitVec 32 := v11853
  let v11900 : Index := Scalar.indexCast v11854
  let c256_13403 : Index := 256#32
  ![0, v11900.toNat, 256]
def k0_off12 (k0_t1 : Fin k0_t1_loop.trips) : Fin 3 → Nat :=
  let c0_13412 : Index := 0#32
  let c0_i32 : BitVec 32 := 0#32
  let c1_i32 : BitVec 32 := 1#32
  let arg11 : BitVec 32 := Scf.iv c0_i32 c1_i32 k0_t1
  let c512_i32 : BitVec 32 := 512#32
  let v11853 : BitVec 32 := Scalar.muli arg11 c512_i32
  let v11854 : BitVec 32 := v11853
  let v11919 : Index := Scalar.indexCast v11854
  let c384_13413 : Index := 384#32
  ![0, v11919.toNat, 384]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x144x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "scale_log2e" => some ((((Real.sqrt 128) * (Real.log 2))⁻¹ : ℝ) : EReal)
  | _ => none
-- ==== ReferenceIdeal.lean ====
abbrev S8x4096x8x128 : Shape := ⟨4, ![8, 4096, 8, 128]⟩
abbrev S8x4096x2x128 : Shape := ⟨4, ![8, 4096, 2, 128]⟩
abbrev S8x4096x2048 : Shape := ⟨3, ![8, 4096, 2048]⟩
abbrev S_ : Shape := ⟨0, ![]⟩
abbrev S8x4096x2x4x128 : Shape := ⟨5, ![8, 4096, 2, 4, 128]⟩
abbrev S8x2x4096x4096x4 : Shape := ⟨5, ![8, 2, 4096, 4096, 4]⟩
abbrev S8x2x4x4096x4096 : Shape := ⟨5, ![8, 2, 4, 4096, 4096]⟩
abbrev S8x2x4x4096 : Shape := ⟨4, ![8, 2, 4, 4096]⟩
abbrev S8x2x4x4096x1 : Shape := ⟨5, ![8, 2, 4, 4096, 1]⟩
abbrev S8x2x128x4x4096 : Shape := ⟨5, ![8, 2, 128, 4, 4096]⟩
abbrev S8x4096x1024 : Shape := ⟨3, ![8, 4096, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x4096x8x128, .f32⟩
  | .hbm, ⟨1, _⟩ => ⟨S8x4096x2x128, .f32⟩
  | .hbm, ⟨2, _⟩ => ⟨S8x4096x2x128, .f32⟩
  | .hbm, ⟨3, _⟩ => ⟨S8x4096x2048, .f32⟩
  | .hbm, ⟨4, _⟩ => ⟨S_, .f32⟩
  | .hbm, ⟨5, _⟩ => ⟨S_, .f32⟩
  | .hbm, ⟨6, _⟩ => ⟨S8x4096x8x128, .f32⟩
  | .hbm, ⟨7, _⟩ => ⟨S8x4096x8x128, .f32⟩
  | .hbm, ⟨8, _⟩ => ⟨S8x4096x2x4x128, .f32⟩
  | .hbm, ⟨9, _⟩ => ⟨S8x2x4096x4096x4, .f32⟩
  | .hbm, ⟨10, _⟩ => ⟨S8x2x4x4096x4096, .f32⟩
  | .hbm, ⟨11, _⟩ => ⟨S_, .f32⟩
  | .hbm, ⟨12, _⟩ => ⟨S8x2x4x4096, .f32⟩
  | .hbm, ⟨13, _⟩ => ⟨S_, .f32⟩
  | .hbm, ⟨14, _⟩ => ⟨S8x2x4x4096, .f32⟩
  | .hbm, ⟨15, _⟩ => ⟨S8x2x4x4096, .f32⟩
  | .hbm, ⟨16, _⟩ => ⟨S8x2x4x4096x1, .f32⟩
  | .hbm, ⟨17, _⟩ => ⟨S8x2x4x4096x4096, .f32⟩
  | .hbm, ⟨18, _⟩ => ⟨S8x2x4x4096x4096, .f32⟩
  | .hbm, ⟨19, _⟩ => ⟨S8x2x4x4096x4096, .f32⟩
  | .hbm, ⟨20, _⟩ => ⟨S_, .f32⟩
  | .hbm, ⟨21, _⟩ => ⟨S8x2x4x4096, .f32⟩
  | .hbm, ⟨22, _⟩ => ⟨S8x2x4x4096x1, .f32⟩
  | .hbm, ⟨23, _⟩ => ⟨S8x2x4x4096x4096, .f32⟩
  | .hbm, ⟨24, _⟩ => ⟨S8x2x4x4096x4096, .f32⟩
  | .hbm, ⟨25, _⟩ => ⟨S8x2x128x4x4096, .f32⟩
  | .hbm, ⟨26, _⟩ => ⟨S8x4096x2x4x128, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S_, .f32⟩
  | .hbm, ⟨32, _⟩ => ⟨S8x4096x1024, .f32⟩
  | .hbm, ⟨33, _⟩ => ⟨S8x4096x1024, .f32⟩
  | .hbm, ⟨34, _⟩ => ⟨S_, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x4096x1024, .bf16⟩
  | _, _ => ⟨S8x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x4096x512 : Shape := ⟨3, ![8, 4096, 512]⟩
abbrev S8x4096x2048 : Shape := ⟨3, ![8, 4096, 2048]⟩
abbrev S8x256x1024 : Shape := ⟨3, ![8, 256, 1024]⟩
abbrev S1x128 : Shape := ⟨2, ![1, 128]⟩
abbrev S1x2048x1024 : Shape := ⟨3, ![1, 2048, 1024]⟩
abbrev S1x1024 : Shape := ⟨2, ![1, 1024]⟩
abbrev S128 : Shape := ⟨1, ![128]⟩
abbrev S2048x1024 : Shape := ⟨2, ![2048, 1024]⟩
abbrev S1024 : Shape := ⟨1, ![1024]⟩
abbrev S1x512x1024 : Shape := ⟨3, ![1, 512, 1024]⟩
abbrev S1x512x512 : Shape := ⟨3, ![1, 512, 512]⟩
abbrev S1x256x1024 : Shape := ⟨3, ![1, 256, 1024]⟩
abbrev S512x1024 : Shape := ⟨2, ![512, 1024]⟩
abbrev S1024x1024 : Shape := ⟨2, ![1024, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1x512x128 : Shape := ⟨3, ![1, 512, 128]⟩
abbrev S1x256x128 : Shape := ⟨3, ![1, 256, 128]⟩
abbrev S256x128 : Shape := ⟨2, ![256, 128]⟩
abbrev S512x256 : Shape := ⟨2, ![512, 256]⟩

abbrev nBuf : Space → Nat
  | .hbm => 23
  | .vmem => 19
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S8x4096x2048, .f32⟩
  | .hbm, ⟨4, _⟩ => ⟨S8x4096x512, .f32⟩
  | .hbm, ⟨5, _⟩ => ⟨S8x256x1024, .f32⟩
  | .hbm, ⟨6, _⟩ => ⟨S1x128, .f32⟩
  | .hbm, ⟨7, _⟩ => ⟨S1x2048x1024, .f32⟩
  | .hbm, ⟨8, _⟩ => ⟨S1x1024, .f32⟩
  | .hbm, ⟨9, _⟩ => ⟨S8x4096x1024, .f32⟩
  | .hbm, ⟨10, _⟩ => ⟨S8x4096x1024, .bf16⟩
  | .hbm, ⟨11, _⟩ => ⟨S8x4096x512, .bf16⟩
  | .hbm, ⟨12, _⟩ => ⟨S8x4096x512, .bf16⟩
  | .hbm, ⟨13, _⟩ => ⟨S8x4096x2048, .bf16⟩
  | .hbm, ⟨14, _⟩ => ⟨S8x4096x512, .bf16⟩
  | .hbm, ⟨15, _⟩ => ⟨S8x256x1024, .bf16⟩
  | .hbm, ⟨16, _⟩ => ⟨S128, .f32⟩
  | .hbm, ⟨17, _⟩ => ⟨S1x128, .f32⟩
  | .hbm, ⟨18, _⟩ => ⟨S2048x1024, .f32⟩
  | .hbm, ⟨19, _⟩ => ⟨S2048x1024, .bf16⟩
  | .hbm, ⟨20, _⟩ => ⟨S1024, .f32⟩
  | .hbm, ⟨21, _⟩ => ⟨S1x1024, .f32⟩
  | .hbm, ⟨22, _⟩ => ⟨S8x4096x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x512, .bf16⟩
  | .local _ .vmem, ⟨9, _⟩ => ⟨S1x512x512, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x128, .f32⟩
  | .local _ .vmem, ⟨13, _⟩ => ⟨S2048x1024, .bf16⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | .local _ .vmem, ⟨18, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S8x4096x1024 : Shape := ⟨3, ![8, 4096, 1024]⟩
abbrev S8x4096x512 : Shape := ⟨3, ![8, 4096, 512]⟩
abbrev S8x4096x2048 : Shape := ⟨3, ![8, 4096, 2048]⟩
abbrev S8x256x1024 : Shape := ⟨3, ![8, 256, 1024]⟩
abbrev S1x128 : Shape := ⟨2, ![1, 128]⟩
abbrev S1x2048x1024 : Shape := ⟨3, ![1, 2048, 1024]⟩
abbrev S1x1024 : Shape := ⟨2, ![1, 1024]⟩
abbrev S8x4096x4x128 : Shape := ⟨4, ![8, 4096, 4, 128]⟩
abbrev S128 : Shape := ⟨1, ![128]⟩
abbrev S_ : Shape := ⟨0, ![]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩
abbrev S8x256x512 : Shape := ⟨3, ![8, 256, 512]⟩
abbrev S8x256x4x128 : Shape := ⟨4, ![8, 256, 4, 128]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x128x4096 : Shape := ⟨4, ![8, 4, 128, 4096]⟩
abbrev S2048x1024 : Shape := ⟨2, ![2048, 1024]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 86
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S8x4096x2048, .f32⟩
  | .hbm, ⟨4, _⟩ => ⟨S8x4096x512, .f32⟩
  | .hbm, ⟨5, _⟩ => ⟨S8x256x1024, .f32⟩
  | .hbm, ⟨6, _⟩ => ⟨S1x128, .f32⟩
  | .hbm, ⟨7, _⟩ => ⟨S1x2048x1024, .f32⟩
  | .hbm, ⟨8, _⟩ => ⟨S1x1024, .f32⟩
  | .hbm, ⟨9, _⟩ => ⟨S8x4096x1024, .f32⟩
  | .hbm, ⟨10, _⟩ => ⟨S8x4096x512, .f32⟩
  | .hbm, ⟨11, _⟩ => ⟨S8x4096x4x128, .f32⟩
  | .hbm, ⟨12, _⟩ => ⟨S128, .f32⟩
  | .hbm, ⟨13, _⟩ => ⟨S8x4096x4x128, .f32⟩
  | .hbm, ⟨14, _⟩ => ⟨S_, .f32⟩
  | .hbm, ⟨15, _⟩ => ⟨S8x4096x4, .f32⟩
  | .hbm, ⟨16, _⟩ => ⟨S8x4096x4x1, .f32⟩
  | .hbm, ⟨17, _⟩ => ⟨S_, .f32⟩
  | .hbm, ⟨18, _⟩ => ⟨S8x4096x4x1, .f32⟩
  | .hbm, ⟨19, _⟩ => ⟨S8x4096x4x1, .f32⟩
  | .hbm, ⟨20, _⟩ => ⟨S_, .f32⟩
  | .hbm, ⟨21, _⟩ => ⟨S8x4096x4x1, .f32⟩
  | .hbm, ⟨22, _⟩ => ⟨S8x4096x4x1, .f32⟩
  | .hbm, ⟨23, _⟩ => ⟨S8x4096x4x1, .f32⟩
  | .hbm, ⟨24, _⟩ => ⟨S8x4096x4x128, .f32⟩
  | .hbm, ⟨25, _⟩ => ⟨S8x4096x4x128, .f32⟩
  | .hbm, ⟨26, _⟩ => ⟨S1x1x1x128, .f32⟩
  | .hbm, ⟨27, _⟩ => ⟨S8x4096x4x128, .f32⟩
  | .hbm, ⟨28, _⟩ => ⟨S8x4096x4x128, .f32⟩
  | .hbm, ⟨29, _⟩ => ⟨S8x4096x512, .f32⟩
  | .hbm, ⟨30, _⟩ => ⟨S8x256x512, .f32⟩
  | .hbm, ⟨31, _⟩ => ⟨S8x256x512, .f32⟩
  | .hbm, ⟨32, _⟩ => ⟨S8x256x4x128, .f32⟩
  | .hbm, ⟨33, _⟩ => ⟨S8x256x4x128, .f32⟩
  | .hbm, ⟨34, _⟩ => ⟨S8x4096x4x128, .f32⟩
  | .hbm, ⟨35, _⟩ => ⟨S8x4x4096x256, .f32⟩
  | .hbm, ⟨36, _⟩ => ⟨S_, .f32⟩
  | .hbm, ⟨37, _⟩ => ⟨S8x4x4096, .f32⟩
  | .hbm, ⟨38, _⟩ => ⟨S_, .f32⟩
  | .hbm, ⟨39, _⟩ => ⟨S8x4x4096, .f32⟩
  | .hbm, ⟨40, _⟩ => ⟨S8x4x4096, .f32⟩
  | .hbm, ⟨41, _⟩ => ⟨S8x4x4096x1, .f32⟩
  | .hbm, ⟨42, _⟩ => ⟨S8x4x4096x256, .f32⟩
  | .hbm, ⟨43, _⟩ => ⟨S8x4x4096x256, .f32⟩
  | .hbm, ⟨44, _⟩ => ⟨S8x4x4096x256, .f32⟩
  | .hbm, ⟨45, _⟩ => ⟨S_, .f32⟩
  | .hbm, ⟨46, _⟩ => ⟨S8x4x4096, .f32⟩
  | .hbm, ⟨47, _⟩ => ⟨S8x4x4096x1, .f32⟩
  | .hbm, ⟨48, _⟩ => ⟨S8x4x4096x256, .f32⟩
  | .hbm, ⟨49, _⟩ => ⟨S8x4x4096x256, .f32⟩
  | .hbm, ⟨50, _⟩ => ⟨S8x4x128x4096, .f32⟩
  | .hbm, ⟨51, _⟩ => ⟨S8x4096x4x128, .f32⟩
  | .hbm, ⟨52, _⟩ => ⟨S8x4096x512, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S8x4096x1024, .f32⟩
  | .hbm, ⟨57, _⟩ => ⟨S_, .f32⟩
  | .hbm, ⟨58, _⟩ => ⟨S8x4096x1024, .f32⟩
  | .hbm, ⟨59, _⟩ => ⟨S8x4096x1024, .f32⟩
  | .hbm, ⟨60, _⟩ => ⟨S_, .f32⟩
  | .hbm, ⟨61, _⟩ => ⟨S8x4096x1024, .f32⟩
  | .hbm, ⟨62, _⟩ => ⟨S8x4096x1024, .f32⟩
  | .hbm, ⟨63, _⟩ => ⟨S8x4096x1024, .f32⟩
  | .hbm, ⟨64, _⟩ => ⟨S8x4096x1024, .f32⟩
  | .hbm, ⟨65, _⟩ => ⟨S8x4096x2048, .f32⟩
  | .hbm, ⟨66, _⟩ => ⟨S2048x1024, .f32⟩
  | .hbm, ⟨67, _⟩ => ⟨S8x4096x1024, .f32⟩
  | .hbm, ⟨68, _⟩ => ⟨S1024, .f32⟩
  | .hbm, ⟨69, _⟩ => ⟨S8x4096x1024, .f32⟩
  | .hbm, ⟨70, _⟩ => ⟨S_, .f32⟩
  | .hbm, ⟨71, _⟩ => ⟨S8x4096, .f32⟩
  | .hbm, ⟨72, _⟩ => ⟨S8x4096x1, .f32⟩
  | .hbm, ⟨73, _⟩ => ⟨S_, .f32⟩
  | .hbm, ⟨74, _⟩ => ⟨S8x4096x1, .f32⟩
  | .hbm, ⟨75, _⟩ => ⟨S8x4096x1, .f32⟩
  | .hbm, ⟨76, _⟩ => ⟨S_, .f32⟩
  | .hbm, ⟨77, _⟩ => ⟨S8x4096x1, .f32⟩
  | .hbm, ⟨78, _⟩ => ⟨S8x4096x1, .f32⟩
  | .hbm, ⟨79, _⟩ => ⟨S8x4096x1, .f32⟩
  | .hbm, ⟨80, _⟩ => ⟨S8x4096x1024, .f32⟩
  | .hbm, ⟨81, _⟩ => ⟨S8x4096x1024, .f32⟩
  | .hbm, ⟨82, _⟩ => ⟨S1x1x1024, .f32⟩
  | .hbm, ⟨83, _⟩ => ⟨S8x4096x1024, .f32⟩
  | .hbm, ⟨84, _⟩ => ⟨S8x4096x1024, .f32⟩
  | .hbm, ⟨85, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_5 : Ref sig .tc := ⟨.hbm, 70, rfl⟩
abbrev main_v46 : Ref sig .tc := ⟨.hbm, 71, rfl⟩
abbrev main_v47 : Ref sig .tc := ⟨.hbm, 72, rfl⟩
abbrev main_cst_6 : Ref sig .tc := ⟨.hbm, 73, rfl⟩
abbrev main_v48 : Ref sig .tc := ⟨.hbm, 74, rfl⟩
abbrev main_v49 : Ref sig .tc := ⟨.hbm, 75, rfl⟩
abbrev main_cst_7 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩

abbrev nD : Nat := 1
abbrev τ : Topo := Topo.v7x

variable {F : FTy → Type} [FloatOps F]
-- ==== Kernel3.lean ====
abbrev S8x256x1024 : Shape := ⟨3, ![8, 256, 1024]⟩
abbrev S1x1024 : Shape := ⟨2, ![1, 1024]⟩
abbrev S1x1024x1024 : Shape := ⟨3, ![1, 1024, 1024]⟩
abbrev S2048x1024 : Shape := ⟨2, ![2048, 1024]⟩
abbrev S1024 : Shape := ⟨1, ![1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 6
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x1024, .f32⟩
  | .hbm, ⟨3, _⟩ => ⟨S2048x1024, .f32⟩
  | .hbm, ⟨4, _⟩ => ⟨S1024, .f32⟩
  | .hbm, ⟨5, _⟩ => ⟨S1x1024, .f32⟩
  | .hbm, ⟨6, _⟩ => ⟨S1024x1024, .f32⟩
  | .hbm, ⟨7, _⟩ => ⟨S1024x1024, .bf16⟩
  | .hbm, ⟨8, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S8x256x1024 : Shape := ⟨3, ![8, 256, 1024]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1024x1024 : Shape := ⟨2, ![1024, 1024]⟩
abbrev S2048x1024 : Shape := ⟨2, ![2048, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x1024, .f32⟩
  | .hbm, ⟨3, _⟩ => ⟨S1024, .f32⟩
  | .hbm, ⟨4, _⟩ => ⟨S8x256x1024, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x1024, .f32⟩
  | .hbm, ⟨16, _⟩ => ⟨S8x256x1024, .f32⟩
  | .hbm, ⟨17, _⟩ => ⟨S1x1x1024, .f32⟩
  | .hbm, ⟨18, _⟩ => ⟨S8x256x1024, .f32⟩
  | .hbm, ⟨19, _⟩ => ⟨S8x256x1024, .f32⟩
  | .hbm, ⟨20, _⟩ => ⟨S1024x1024, .f32⟩
  | .hbm, ⟨21, _⟩ => ⟨S8x256x1024, .f32⟩
  | .hbm, ⟨22, _⟩ => ⟨S2048x1024, .f32⟩
  | .hbm, ⟨23, _⟩ => ⟨S2048x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel4.lean ====
abbrev S8x4096x1024 : Shape := ⟨3, ![8, 4096, 1024]⟩
abbrev S1x1024 : Shape := ⟨2, ![1, 1024]⟩
abbrev S1x1024x5648 : Shape := ⟨3, ![1, 1024, 5648]⟩
abbrev S1x128 : Shape := ⟨2, ![1, 128]⟩
abbrev S1x5x1536 : Shape := ⟨3, ![1, 5, 1536]⟩
abbrev S1x2x4 : Shape := ⟨3, ![1, 2, 4]⟩
abbrev S64 : Shape := ⟨1, ![64]⟩
abbrev S64x64 : Shape := ⟨2, ![64, 64]⟩
abbrev S4096 : Shape := ⟨1, ![4096]⟩
abbrev S_ : Shape := ⟨0, ![]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S8x128 : Shape := ⟨2, ![8, 128]⟩
abbrev S128 : Shape := ⟨1, ![128]⟩
abbrev S1 : Shape := ⟨1, ![1]⟩
abbrev S8x1536 : Shape := ⟨2, ![8, 1536]⟩
abbrev S5x1536 : Shape := ⟨2, ![5, 1536]⟩
abbrev S1024x5648 : Shape := ⟨2, ![1024, 5648]⟩
abbrev S32768x1024 : Shape := ⟨2, ![32768, 1024]⟩
abbrev S1024 : Shape := ⟨1, ![1024]⟩
abbrev S1024x2576 : Shape := ⟨2, ![1024, 2576]⟩
abbrev S1024x8 : Shape := ⟨2, ![1024, 8]⟩
abbrev S1024x512 : Shape := ⟨2, ![1024, 512]⟩
abbrev S1024x2048 : Shape := ⟨2, ![1024, 2048]⟩
abbrev S1024x120 : Shape := ⟨2, ![1024, 120]⟩
abbrev S1024x4 : Shape := ⟨2, ![1024, 4]⟩
abbrev S1024x2816 : Shape := ⟨2, ![1024, 2816]⟩
abbrev S2x4 : Shape := ⟨2, ![2, 4]⟩
abbrev S2x128 : Shape := ⟨2, ![2, 128]⟩
abbrev S1x256 : Shape := ⟨2, ![1, 256]⟩
abbrev S8x8x1024x512 : Shape := ⟨4, ![8, 8, 1024, 512]⟩
abbrev S32768x256 : Shape := ⟨2, ![32768, 256]⟩
abbrev S8x8x288x512 : Shape := ⟨4, ![8, 8, 288, 512]⟩
abbrev S32768x1536 : Shape := ⟨2, ![32768, 1536]⟩
abbrev S32768x512 : Shape := ⟨2, ![32768, 512]⟩
abbrev S32768x2048 : Shape := ⟨2, ![32768, 2048]⟩
abbrev S512x1024 : Shape := ⟨2, ![512, 1024]⟩
abbrev S16x1024 : Shape := ⟨2, ![16, 1024]⟩
abbrev S1024x3072 : Shape := ⟨2, ![1024, 3072]⟩
abbrev S512x128 : Shape := ⟨2, ![512, 128]⟩
abbrev S1x1x1024x512 : Shape := ⟨4, ![1, 1, 1024, 512]⟩
abbrev S512x256 : Shape := ⟨2, ![512, 256]⟩
abbrev S1x1x288x512 : Shape := ⟨4, ![1, 1, 288, 512]⟩
abbrev S512x1536 : Shape := ⟨2, ![512, 1536]⟩
abbrev S512x512 : Shape := ⟨2, ![512, 512]⟩
abbrev S512x2048 : Shape := ⟨2, ![512, 2048]⟩
abbrev S544x1536 : Shape := ⟨2, ![544, 1536]⟩
abbrev S512 : Shape := ⟨1, ![512]⟩
abbrev S512x1 : Shape := ⟨2, ![512, 1]⟩
abbrev S16 : Shape := ⟨1, ![16]⟩
abbrev S16x1 : Shape := ⟨2, ![16, 1]⟩
abbrev S544x1024 : Shape := ⟨2, ![544, 1024]⟩
abbrev S1024x256 : Shape := ⟨2, ![1024, 256]⟩
abbrev S128x512 : Shape := ⟨2, ![128, 512]⟩
abbrev S1x1x128x512 : Shape := ⟨4, ![1, 1, 128, 512]⟩
abbrev S256x512 : Shape := ⟨2, ![256, 512]⟩
abbrev S16x512 : Shape := ⟨2, ![16, 512]⟩
abbrev S1x1x16x512 : Shape := ⟨4, ![1, 1, 16, 512]⟩
abbrev S544x256 : Shape := ⟨2, ![544, 256]⟩
abbrev S16x256 : Shape := ⟨2, ![16, 256]⟩
abbrev S544x128 : Shape := ⟨2, ![544, 128]⟩

abbrev nBuf : Space → Nat
  | .hbm => 124
  | .vmem => 32
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x5648, .f32⟩
  | .hbm, ⟨3, _⟩ => ⟨S1x128, .f32⟩
  | .hbm, ⟨4, _⟩ => ⟨S1x128, .f32⟩
  | .hbm, ⟨5, _⟩ => ⟨S1x5x1536, .f32⟩
  | .hbm, ⟨6, _⟩ => ⟨S1x2x4, .f32⟩
  | .hbm, ⟨7, _⟩ => ⟨S1x2x4, .f32⟩
  | .hbm, ⟨8, _⟩ => ⟨S64, .i32⟩
  | .hbm, ⟨9, _⟩ => ⟨S64x64, .i32⟩
  | .hbm, ⟨10, _⟩ => ⟨S4096, .i32⟩
  | .hbm, ⟨11, _⟩ => ⟨S4096, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S_, .i32⟩
  | .hbm, ⟨27, _⟩ => ⟨S_, .i1⟩
  | .hbm, ⟨28, _⟩ => ⟨S4096, .i1⟩
  | .hbm, ⟨29, _⟩ => ⟨S4096, .i1⟩
  | .hbm, ⟨30, _⟩ => ⟨S4096, .i1⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S4096, .f32⟩
  | .hbm, ⟨49, _⟩ => ⟨S4096x1, .f32⟩
  | .hbm, ⟨50, _⟩ => ⟨S1x32, .f32⟩
  | .hbm, ⟨51, _⟩ => ⟨S4096x32, .f32⟩
  | .hbm, ⟨52, _⟩ => ⟨S4096x32, .f32⟩
  | .hbm, ⟨53, _⟩ => ⟨S4096x32, .f32⟩
  | .hbm, ⟨54, _⟩ => ⟨S4096, .f32⟩
  | .hbm, ⟨55, _⟩ => ⟨S4096x1, .f32⟩
  | .hbm, ⟨56, _⟩ => ⟨S1x32, .f32⟩
  | .hbm, ⟨57, _⟩ => ⟨S4096x32, .f32⟩
  | .hbm, ⟨58, _⟩ => ⟨S4096x32, .f32⟩
  | .hbm, ⟨59, _⟩ => ⟨S4096x32, .f32⟩
  | .hbm, ⟨60, _⟩ => ⟨S4096x32, .f32⟩
  | .hbm, ⟨61, _⟩ => ⟨S4096x32, .f32⟩
  | .hbm, ⟨62, _⟩ => ⟨S4096x32, .f32⟩
  | .hbm, ⟨63, _⟩ => ⟨S4096x32, .f32⟩
  | .hbm, ⟨64, _⟩ => ⟨S4096x128, .f32⟩
  | .hbm, ⟨65, _⟩ => ⟨S4096x32, .f32⟩
  | .hbm, ⟨66, _⟩ => ⟨S4096x32, .f32⟩
  | .hbm, ⟨67, _⟩ => ⟨S4096x128, .f32⟩
  | .hbm, ⟨68, _⟩ => ⟨S_, .f32⟩
  | .hbm, ⟨69, _⟩ => ⟨S8x128, .f32⟩
  | .hbm, ⟨70, _⟩ => ⟨S128, .f32⟩
  | .hbm, ⟨71, _⟩ => ⟨S_, .i32⟩
  | .hbm, ⟨72, _⟩ => ⟨S1, .i32⟩
  | .hbm, ⟨73, _⟩ => ⟨S8x128, .f32⟩
  | .hbm, ⟨74, _⟩ => ⟨S128, .f32⟩
  | .hbm, ⟨75, _⟩ => ⟨S_, .i32⟩
  | .hbm, ⟨76, _⟩ => ⟨S1, .i32⟩
  | .hbm, ⟨77, _⟩ => ⟨S8x128, .f32⟩
  | .hbm, ⟨78, _⟩ => ⟨S_, .f32⟩
  | .hbm, ⟨79, _⟩ => ⟨S8x1536, .f32⟩
  | .hbm, ⟨80, _⟩ => ⟨S5x1536, .f32⟩
  | .hbm, ⟨81, _⟩ => ⟨S_, .i32⟩
  | .hbm, ⟨82, _⟩ => ⟨S1, .i32⟩
  | .hbm, ⟨83, _⟩ => ⟨S8x1536, .f32⟩
  | .hbm, ⟨84, _⟩ => ⟨S1024x5648, .f32⟩
  | .hbm, ⟨85, _⟩ => ⟨S1024x5648, .bf16⟩
  | .hbm, ⟨86, _⟩ => ⟨S32768x1024, .f32⟩
  | .hbm, ⟨87, _⟩ => ⟨S1024, .f32⟩
  | .hbm, ⟨88, _⟩ => ⟨S1x1024, .f32⟩
  | .hbm, ⟨89, _⟩ => ⟨S1024x2576, .bf16⟩
  | .hbm, ⟨90, _⟩ => ⟨S1024x8, .bf16⟩
  | .hbm, ⟨91, _⟩ => ⟨S1024x8, .bf16⟩
  | .hbm, ⟨92, _⟩ => ⟨S1024x512, .bf16⟩
  | .hbm, ⟨93, _⟩ => ⟨S1024x2048, .bf16⟩
  | .hbm, ⟨94, _⟩ => ⟨S_, .bf16⟩
  | .hbm, ⟨95, _⟩ => ⟨S1024x120, .bf16⟩
  | .hbm, ⟨96, _⟩ => ⟨S1024x4, .bf16⟩
  | .hbm, ⟨97, _⟩ => ⟨S1024x4, .bf16⟩
  | .hbm, ⟨98, _⟩ => ⟨S_, .bf16⟩
  | .hbm, ⟨99, _⟩ => ⟨S1024x120, .bf16⟩
  | .hbm, ⟨100, _⟩ => ⟨S1024x4, .bf16⟩
  | .hbm, ⟨101, _⟩ => ⟨S1024x4, .bf16⟩
  | .hbm, ⟨102, _⟩ => ⟨S1024x2816, .bf16⟩
  | .hbm, ⟨103, _⟩ => ⟨S2x4, .f32⟩
  | .hbm, ⟨104, _⟩ => ⟨S_, .f32⟩
  | .hbm, ⟨105, _⟩ => ⟨S2x128, .f32⟩
  | .hbm, ⟨106, _⟩ => ⟨S_, .i32⟩
  | .hbm, ⟨107, _⟩ => ⟨S1, .i32⟩
  | .hbm, ⟨108, _⟩ => ⟨S2x128, .f32⟩
  | .hbm, ⟨109, _⟩ => ⟨S1x256, .f32⟩
  | .hbm, ⟨110, _⟩ => ⟨S2x4, .f32⟩
  | .hbm, ⟨111, _⟩ => ⟨S_, .f32⟩
  | .hbm, ⟨112, _⟩ => ⟨S2x128, .f32⟩
  | .hbm, ⟨113, _⟩ => ⟨S_, .i32⟩
  | .hbm, ⟨114, _⟩ => ⟨S1, .i32⟩
  | .hbm, ⟨115, _⟩ => ⟨S2x128, .f32⟩
  | .hbm, ⟨116, _⟩ => ⟨S1x256, .f32⟩
  | .hbm, ⟨117, _⟩ => ⟨S8x8x1024x512, .bf16⟩
  | .hbm, ⟨118, _⟩ => ⟨S32768x256, .bf16⟩
  | .hbm, ⟨119, _⟩ => ⟨S8x8x288x512, .bf16⟩
  | .hbm, ⟨120, _⟩ => ⟨S32768x1536, .bf16⟩
  | .hbm, ⟨121, _⟩ => ⟨S32768x256, .f32⟩
  | .hbm, ⟨122, _⟩ => ⟨S32768x512, .bf16⟩
  | .hbm, ⟨123, _⟩ => ⟨S32768x2048, .bf16⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S1x1024, .f32⟩
  | .local _ .vmem, ⟨7, _⟩ => ⟨S1024x3072, .bf16⟩
  | .local _ .vmem, ⟨8, _⟩ => ⟨S1024x2816, .bf16⟩
  | .local _ .vmem, ⟨9, _⟩ => ⟨S8x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S8x1536, .f32⟩
  | .local _ .vmem, ⟨15, _⟩ => ⟨S1x256, .f32⟩
  | .local _ .vmem, ⟨16, _⟩ => ⟨S1x256, .f32⟩
  | .local _ .vmem, ⟨17, _⟩ => ⟨S1x1x1024x512, .bf16⟩
  | .local _ .vmem, ⟨18, _⟩ => ⟨S1x1x1024x512, .bf16⟩
  | .local _ .vmem, ⟨19, _⟩ => ⟨S512x256, .bf16⟩
  | .local _ .vmem, ⟨20, _⟩ => ⟨S512x256, .bf16⟩
  | .local _ .vmem, ⟨21, _⟩ => ⟨S1x1x288x512, .bf16⟩
  | .local _ .vmem, ⟨22, _⟩ => ⟨S1x1x288x512, .bf16⟩
  | .local _ .vmem, ⟨23, _⟩ => ⟨S512x1536, .bf16⟩
  | .local _ .vmem, ⟨24, _⟩ => ⟨S512x1536, .bf16⟩
  | .local _ .vmem, ⟨25, _⟩ => ⟨S512x256, .f32⟩
  | .local _ .vmem, ⟨26, _⟩ => ⟨S512x256, .f32⟩
  | .local _ .vmem, ⟨27, _⟩ => ⟨S512x512, .bf16⟩
  | .local _ .vmem, ⟨28, _⟩ => ⟨S512x512, .bf16⟩
  | .local _ .vmem, ⟨29, _⟩ => ⟨S512x2048, .bf16⟩
  | .local _ .vmem, ⟨30, _⟩ => ⟨S512x2048, .bf16⟩
  | .local _ .vmem, ⟨31, _⟩ => ⟨S544x1536, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_c_3 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_v4 : Ref sig .tc := ⟨.hbm, 33, rfl⟩
abbrev main_v5 : Ref sig .tc := ⟨.hbm, 34, rfl⟩
abbrev main_cst : Ref sig .tc := ⟨.hbm, 35, rfl⟩
abbrev main_v6 : Ref sig .tc := ⟨.hbm, 36, rfl⟩
abbrev main_v7 : Ref sig .tc := ⟨.hbm, 37, rfl⟩
abbrev main_cst_0 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst_1 : Ref sig .tc := ⟨.hbm, 42, rfl⟩
abbrev main_v11 : Ref sig .tc := ⟨.hbm, 43, rfl⟩
abbrev main_v12 : Ref sig .tc := ⟨.hbm, 44, rfl⟩
abbrev main_cst_2 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_3 : Ref sig .tc := ⟨.hbm, 68, rfl⟩
abbrev main_v35 : Ref sig .tc := ⟨.hbm, 69, rfl⟩
abbrev main_v36 : Ref sig .tc := ⟨.hbm, 70, rfl⟩
abbrev main_c_4 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_c_5 : Ref sig .tc := ⟨.hbm, 75, rfl⟩
abbrev main_v40 : Ref sig .tc := ⟨.hbm, 76, rfl⟩
abbrev main_v41 : Ref sig .tc := ⟨.hbm, 77, rfl⟩
abbrev main_cst_6 : Ref sig .tc := ⟨.hbm, 78, rfl⟩
abbrev main_v42 : Ref sig .tc := ⟨.hbm, 79, rfl⟩
abbrev main_v43 : Ref sig .tc := ⟨.hbm, 80, rfl⟩
abbrev main_c_7 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_8 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_9 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_10 : Ref sig .tc := ⟨.hbm, 104, rfl⟩
abbrev main_v64 : Ref sig .tc := ⟨.hbm, 105, rfl⟩
abbrev main_c_11 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_cst_12 : Ref sig .tc := ⟨.hbm, 111, rfl⟩
abbrev main_v69 : Ref sig .tc := ⟨.hbm, 112, rfl⟩
abbrev main_c_13 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73_0 : Ref sig .tc := ⟨.hbm, 117, rfl⟩
abbrev main_v73_1 : Ref sig .tc := ⟨.hbm, 118, rfl⟩
abbrev main_v73_2 : Ref sig .tc := ⟨.hbm, 119, rfl⟩
abbrev main_v73_3 : Ref sig .tc := ⟨.hbm, 120, rfl⟩
abbrev main_v73_4 : Ref sig .tc := ⟨.hbm, 121, rfl⟩
abbrev main_v73_5 : Ref sig .tc := ⟨.hbm, 122, rfl⟩
abbrev main_v73_6 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x288x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1536 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Kernel4Ideal.lean ====
variable {F : FTy → Type} [FloatOps F] [Named F]
def κ : String → Option EReal := fun
  | "scale" => some (((Real.sqrt 128)⁻¹ : ℝ) : EReal)
  | "scale_log2e" => some ((((Real.sqrt 128) * (Real.log 2))⁻¹ : ℝ) : EReal)
  | _ => none
-- ==== Reference4Ideal.lean ====
abbrev S8x4096x1024 : Shape := ⟨3, ![8, 4096, 1024]⟩
abbrev S1x1024 : Shape := ⟨2, ![1, 1024]⟩
abbrev S1x1024x5648 : Shape := ⟨3, ![1, 1024, 5648]⟩
abbrev S1x128 : Shape := ⟨2, ![1, 128]⟩
abbrev S1x5x1536 : Shape := ⟨3, ![1, 5, 1536]⟩
abbrev S1x2x4 : Shape := ⟨3, ![1, 2, 4]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x5648 : Shape := ⟨2, ![1024, 5648]⟩
abbrev S8x4096x5648 : Shape := ⟨3, ![8, 4096, 5648]⟩
abbrev S8x4096x256 : Shape := ⟨3, ![8, 4096, 256]⟩
abbrev S8x4096x1536 : Shape := ⟨3, ![8, 4096, 1536]⟩
abbrev S8x4096x8 : Shape := ⟨3, ![8, 4096, 8]⟩
abbrev S8x4096x512 : Shape := ⟨3, ![8, 4096, 512]⟩
abbrev S8x4096x2048 : Shape := ⟨3, ![8, 4096, 2048]⟩
abbrev S64 : Shape := ⟨1, ![64]⟩
abbrev S64x64 : Shape := ⟨2, ![64, 64]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S8x4096x8x128 : Shape := ⟨4, ![8, 4096, 8, 128]⟩
abbrev S128 : Shape := ⟨1, ![128]⟩
abbrev S8x4096x8x1 : Shape := ⟨4, ![8, 4096, 8, 1]⟩
abbrev S1x1x1x128 : Shape := ⟨4, ![1, 1, 1, 128]⟩
abbrev S8x4096x8x64 : Shape := ⟨4, ![8, 4096, 8, 64]⟩
abbrev S4096x1x32 : Shape := ⟨3, ![4096, 1, 32]⟩
abbrev S8x4096x8x32 : Shape := ⟨4, ![8, 4096, 8, 32]⟩
abbrev S1x4096x1x32 : Shape := ⟨4, ![1, 4096, 1, 32]⟩
abbrev S8x4096x2x128 : Shape := ⟨4, ![8, 4096, 2, 128]⟩
abbrev S8x4096x2 : Shape := ⟨3, ![8, 4096, 2]⟩
abbrev S8x4096x2x1 : Shape := ⟨4, ![8, 4096, 2, 1]⟩
abbrev S8x4096x2x64 : Shape := ⟨4, ![8, 4096, 2, 64]⟩
abbrev S8x4096x2x32 : Shape := ⟨4, ![8, 4096, 2, 32]⟩
abbrev S8x4100x1536 : Shape := ⟨3, ![8, 4100, 1536]⟩
abbrev S1x1x1536 : Shape := ⟨3, ![1, 1, 1536]⟩
abbrev S1536 : Shape := ⟨1, ![1536]⟩
abbrev S8x4096x4x128 : Shape := ⟨4, ![8, 4096, 4, 128]⟩
abbrev S8x4096x4 : Shape := ⟨3, ![8, 4096, 4]⟩
abbrev S8x4096x4x1 : Shape := ⟨4, ![8, 4096, 4, 1]⟩
abbrev S32768x512 : Shape := ⟨2, ![32768, 512]⟩
abbrev S32768x1536 : Shape := ⟨2, ![32768, 1536]⟩
abbrev S2x4 : Shape := ⟨2, ![2, 4]⟩
abbrev S8x4096x2x4 : Shape := ⟨4, ![8, 4096, 2, 4]⟩
abbrev S1x1x2x4 : Shape := ⟨4, ![1, 1, 2, 4]⟩
abbrev S8x4096x2x120 : Shape := ⟨4, ![8, 4096, 2, 120]⟩
abbrev S8x8x512x1024 : Shape := ⟨4, ![8, 8, 512, 1024]⟩
abbrev S8x8x1024x512 : Shape := ⟨4, ![8, 8, 1024, 512]⟩
abbrev S8x8x512x2x128 : Shape := ⟨5, ![8, 8, 512, 2, 128]⟩
abbrev S8x8x2x128x512 : Shape := ⟨5, ![8, 8, 2, 128, 512]⟩
abbrev S8x8x2x1x512 : Shape := ⟨5, ![8, 8, 2, 1, 512]⟩
abbrev S8x8x2x15x512 : Shape := ⟨5, ![8, 8, 2, 15, 512]⟩
abbrev S8x8x2x144x512 : Shape := ⟨5, ![8, 8, 2, 144, 512]⟩
abbrev S32768x256 : Shape := ⟨2, ![32768, 256]⟩
abbrev S8x8x288x512 : Shape := ⟨4, ![8, 8, 288, 512]⟩
abbrev S32768x2048 : Shape := ⟨2, ![32768, 2048]⟩

abbrev nBuf : Space → Nat
  | .hbm => 364
  | .vmem => 0
  | .smem => 0
  | _ => 0

abbrev hbmTy0_0 (i : Nat) : BufTy := match i % 128 with
  | 0 => ⟨S8x4096x1024, .f32⟩
  | 1 => ⟨S1x1024, .f32⟩
  | 2 => ⟨S1x1024x5648, .f32⟩
  | 3 => ⟨S1x128, .f32⟩
  | 4 => ⟨S1x128, .f32⟩
  | 5 => ⟨S1x5x1536, .f32⟩
  | 6 => ⟨S1x2x4, .f32⟩
  | 7 => ⟨S1x2x4, .f32⟩
  | 8 => ⟨S1024, .f32⟩
  | 9 => ⟨S8x4096x1024, .f32⟩
  | 10 => ⟨S_, .f32⟩
  | 11 => ⟨S8x4096, .f32⟩
  | 12 => ⟨S8x4096x1, .f32⟩
  | 13 => ⟨S_, .f32⟩
  | 14 => ⟨S8x4096x1, .f32⟩
  | 15 => ⟨S8x4096x1, .f32⟩
  | 16 => ⟨S_, .f32⟩
  | 17 => ⟨S8x4096x1, .f32⟩
  | 18 => ⟨S8x4096x1, .f32⟩
  | 19 => ⟨S8x4096x1, .f32⟩
  | 20 => ⟨S8x4096x1024, .f32⟩
  | 21 => ⟨S8x4096x1024, .f32⟩
  | 22 => ⟨S1x1x1024, .f32⟩
  | 23 => ⟨S8x4096x1024, .f32⟩
  | 24 => ⟨S8x4096x1024, .f32⟩
  | 25 => ⟨S1024x5648, .f32⟩
  | 26 => ⟨S8x4096x5648, .f32⟩
  | 27 => ⟨S8x4096x1024, .f32⟩
  | 28 => ⟨S8x4096x256, .f32⟩
  | 29 => ⟨S8x4096x256, .f32⟩
  | 30 => ⟨S8x4096x1536, .f32⟩
  | 31 => ⟨S8x4096x8, .f32⟩
  | 32 => ⟨S8x4096x8, .f32⟩
  | 33 => ⟨S8x4096x512, .f32⟩
  | 34 => ⟨S8x4096x2048, .f32⟩
  | 35 => ⟨S64, .i32⟩
  | 36 => ⟨S64x64, .i32⟩
  | 37 => ⟨S4096, .i32⟩
  | 38 => ⟨S4096, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S4096, .i32⟩
  | 46 => ⟨S4096, .i32⟩
  | 47 => ⟨S_, .i32⟩
  | 48 => ⟨S4096, .i32⟩
  | 49 => ⟨S4096, .i1⟩
  | 50 => ⟨S_, .i32⟩
  | 51 => ⟨S4096, .i32⟩
  | 52 => ⟨S4096, .i1⟩
  | 53 => ⟨S_, .i32⟩
  | 54 => ⟨S_, .i1⟩
  | 55 => ⟨S4096, .i1⟩
  | 56 => ⟨S4096, .i1⟩
  | 57 => ⟨S4096, .i1⟩
  | 58 => ⟨S4096, .i32⟩
  | 59 => ⟨S4096, .i32⟩
  | 60 => ⟨S4096, .i32⟩
  | 61 => ⟨S32, .f32⟩
  | 62 => ⟨S_, .f32⟩
  | 63 => ⟨S32, .f32⟩
  | 64 => ⟨S32, .f32⟩
  | 65 => ⟨S_, .f32⟩
  | 66 => ⟨S32, .f32⟩
  | 67 => ⟨S32, .f32⟩
  | 68 => ⟨S32, .f32⟩
  | 69 => ⟨S_, .f32⟩
  | 70 => ⟨S32, .f32⟩
  | 71 => ⟨S32, .f32⟩
  | 72 => ⟨S_, .f32⟩
  | 73 => ⟨S32, .f32⟩
  | 74 => ⟨S32, .f32⟩
  | 75 => ⟨S4096, .f32⟩
  | 76 => ⟨S4096x1, .f32⟩
  | 77 => ⟨S1x32, .f32⟩
  | 78 => ⟨S4096x32, .f32⟩
  | 79 => ⟨S4096x32, .f32⟩
  | 80 => ⟨S4096x32, .f32⟩
  | 81 => ⟨S4096, .f32⟩
  | 82 => ⟨S4096x1, .f32⟩
  | 83 => ⟨S1x32, .f32⟩
  | 84 => ⟨S4096x32, .f32⟩
  | 85 => ⟨S4096x32, .f32⟩
  | 86 => ⟨S4096x32, .f32⟩
  | 87 => ⟨S8x4096x8x128, .f32⟩
  | 88 => ⟨S128, .f32⟩
  | 89 => ⟨S8x4096x8x128, .f32⟩
  | 90 => ⟨S_, .f32⟩
  | 91 => ⟨S8x4096x8, .f32⟩
  | 92 => ⟨S8x4096x8x1, .f32⟩
  | 93 => ⟨S_, .f32⟩
  | 94 => ⟨S8x4096x8x1, .f32⟩
  | 95 => ⟨S8x4096x8x1, .f32⟩
  | 96 => ⟨S_, .f32⟩
  | 97 => ⟨S8x4096x8x1, .f32⟩
  | 98 => ⟨S8x4096x8x1, .f32⟩
  | 99 => ⟨S8x4096x8x1, .f32⟩
  | 100 => ⟨S8x4096x8x128, .f32⟩
  | 101 => ⟨S8x4096x8x128, .f32⟩
  | 102 => ⟨S1x1x1x128, .f32⟩
  | 103 => ⟨S8x4096x8x128, .f32⟩
  | 104 => ⟨S8x4096x8x128, .f32⟩
  | 105 => ⟨S8x4096x8x64, .f32⟩
  | 106 => ⟨S8x4096x8x64, .f32⟩
  | 107 => ⟨S4096x32, .f32⟩
  | 108 => ⟨S4096x1x32, .f32⟩
  | 109 => ⟨S4096x32, .f32⟩
  | 110 => ⟨S4096x1x32, .f32⟩
  | 111 => ⟨S8x4096x8x32, .f32⟩
  | 112 => ⟨S8x4096x8x32, .f32⟩
  | 113 => ⟨S1x4096x1x32, .f32⟩
  | 114 => ⟨S8x4096x8x32, .f32⟩
  | 115 => ⟨S8x4096x8x32, .f32⟩
  | 116 => ⟨S1x4096x1x32, .f32⟩
  | 117 => ⟨S8x4096x8x32, .f32⟩
  | 118 => ⟨S8x4096x8x32, .f32⟩
  | 119 => ⟨S8x4096x8x32, .f32⟩
  | 120 => ⟨S1x4096x1x32, .f32⟩
  | 121 => ⟨S8x4096x8x32, .f32⟩
  | 122 => ⟨S8x4096x8x32, .f32⟩
  | 123 => ⟨S1x4096x1x32, .f32⟩
  | 124 => ⟨S8x4096x8x32, .f32⟩
  | 125 => ⟨S8x4096x8x32, .f32⟩
  | 126 => ⟨S8x4096x8x32, .f32⟩
  | 127 => ⟨S8x4096x8x64, .f32⟩
  | _ => ⟨S8x4096x1024, .f32⟩

abbrev hbmTy0_1 (i : Nat) : BufTy := match i % 128 with
  | 0 => ⟨S4096x32, .f32⟩
  | 1 => ⟨S4096x1x32, .f32⟩
  | 2 => ⟨S4096x32, .f32⟩
  | 3 => ⟨S4096x1x32, .f32⟩
  | 4 => ⟨S8x4096x8x32, .f32⟩
  | 5 => ⟨S8x4096x8x32, .f32⟩
  | 6 => ⟨S1x4096x1x32, .f32⟩
  | 7 => ⟨S8x4096x8x32, .f32⟩
  | 8 => ⟨S8x4096x8x32, .f32⟩
  | 9 => ⟨S1x4096x1x32, .f32⟩
  | 10 => ⟨S8x4096x8x32, .f32⟩
  | 11 => ⟨S8x4096x8x32, .f32⟩
  | 12 => ⟨S8x4096x8x32, .f32⟩
  | 13 => ⟨S1x4096x1x32, .f32⟩
  | 14 => ⟨S8x4096x8x32, .f32⟩
  | 15 => ⟨S8x4096x8x32, .f32⟩
  | 16 => ⟨S1x4096x1x32, .f32⟩
  | 17 => ⟨S8x4096x8x32, .f32⟩
  | 18 => ⟨S8x4096x8x32, .f32⟩
  | 19 => ⟨S8x4096x8x32, .f32⟩
  | 20 => ⟨S8x4096x8x64, .f32⟩
  | 21 => ⟨S8x4096x8x128, .f32⟩
  | 22 => ⟨S_, .f32⟩
  | 23 => ⟨S_, .f32⟩
  | 24 => ⟨S_, .f32⟩
  | 25 => ⟨S_, .f32⟩
  | 26 => ⟨S_, .f32⟩
  | 27 => ⟨S8x4096x8x128, .f32⟩
  | 28 => ⟨S8x4096x8x128, .f32⟩
  | 29 => ⟨S8x4096x2x128, .f32⟩
  | 30 => ⟨S128, .f32⟩
  | 31 => ⟨S8x4096x2x128, .f32⟩
  | 32 => ⟨S_, .f32⟩
  | 33 => ⟨S8x4096x2, .f32⟩
  | 34 => ⟨S8x4096x2x1, .f32⟩
  | 35 => ⟨S_, .f32⟩
  | 36 => ⟨S8x4096x2x1, .f32⟩
  | 37 => ⟨S8x4096x2x1, .f32⟩
  | 38 => ⟨S_, .f32⟩
  | 39 => ⟨S8x4096x2x1, .f32⟩
  | 40 => ⟨S8x4096x2x1, .f32⟩
  | 41 => ⟨S8x4096x2x1, .f32⟩
  | 42 => ⟨S8x4096x2x128, .f32⟩
  | 43 => ⟨S8x4096x2x128, .f32⟩
  | 44 => ⟨S1x1x1x128, .f32⟩
  | 45 => ⟨S8x4096x2x128, .f32⟩
  | 46 => ⟨S8x4096x2x128, .f32⟩
  | 47 => ⟨S8x4096x2x64, .f32⟩
  | 48 => ⟨S8x4096x2x64, .f32⟩
  | 49 => ⟨S4096x32, .f32⟩
  | 50 => ⟨S4096x1x32, .f32⟩
  | 51 => ⟨S4096x32, .f32⟩
  | 52 => ⟨S4096x1x32, .f32⟩
  | 53 => ⟨S8x4096x2x32, .f32⟩
  | 54 => ⟨S8x4096x2x32, .f32⟩
  | 55 => ⟨S1x4096x1x32, .f32⟩
  | 56 => ⟨S8x4096x2x32, .f32⟩
  | 57 => ⟨S8x4096x2x32, .f32⟩
  | 58 => ⟨S1x4096x1x32, .f32⟩
  | 59 => ⟨S8x4096x2x32, .f32⟩
  | 60 => ⟨S8x4096x2x32, .f32⟩
  | 61 => ⟨S8x4096x2x32, .f32⟩
  | 62 => ⟨S1x4096x1x32, .f32⟩
  | 63 => ⟨S8x4096x2x32, .f32⟩
  | 64 => ⟨S8x4096x2x32, .f32⟩
  | 65 => ⟨S1x4096x1x32, .f32⟩
  | 66 => ⟨S8x4096x2x32, .f32⟩
  | 67 => ⟨S8x4096x2x32, .f32⟩
  | 68 => ⟨S8x4096x2x32, .f32⟩
  | 69 => ⟨S8x4096x2x64, .f32⟩
  | 70 => ⟨S4096x32, .f32⟩
  | 71 => ⟨S4096x1x32, .f32⟩
  | 72 => ⟨S4096x32, .f32⟩
  | 73 => ⟨S4096x1x32, .f32⟩
  | 74 => ⟨S8x4096x2x32, .f32⟩
  | 75 => ⟨S8x4096x2x32, .f32⟩
  | 76 => ⟨S1x4096x1x32, .f32⟩
  | 77 => ⟨S8x4096x2x32, .f32⟩
  | 78 => ⟨S8x4096x2x32, .f32⟩
  | 79 => ⟨S1x4096x1x32, .f32⟩
  | 80 => ⟨S8x4096x2x32, .f32⟩
  | 81 => ⟨S8x4096x2x32, .f32⟩
  | 82 => ⟨S8x4096x2x32, .f32⟩
  | 83 => ⟨S1x4096x1x32, .f32⟩
  | 84 => ⟨S8x4096x2x32, .f32⟩
  | 85 => ⟨S8x4096x2x32, .f32⟩
  | 86 => ⟨S1x4096x1x32, .f32⟩
  | 87 => ⟨S8x4096x2x32, .f32⟩
  | 88 => ⟨S8x4096x2x32, .f32⟩
  | 89 => ⟨S8x4096x2x32, .f32⟩
  | 90 => ⟨S8x4096x2x64, .f32⟩
  | 91 => ⟨S8x4096x2x128, .f32⟩
  | 92 => ⟨S_, .i32⟩
  | 93 => ⟨S_, .f32⟩
  | 94 => ⟨S8x4100x1536, .f32⟩
  | 95 => ⟨S8x4096x1536, .f32⟩
  | 96 => ⟨S1x1x1536, .f32⟩
  | 97 => ⟨S1536, .f32⟩
  | 98 => ⟨S1x1x1536, .f32⟩
  | 99 => ⟨S8x4096x1536, .f32⟩
  | 100 => ⟨S8x4096x1536, .f32⟩
  | 101 => ⟨S_, .f32⟩
  | 102 => ⟨S8x4096x1536, .f32⟩
  | 103 => ⟨S8x4096x1536, .f32⟩
  | 104 => ⟨S8x4096x1536, .f32⟩
  | 105 => ⟨S1x1x1536, .f32⟩
  | 106 => ⟨S1536, .f32⟩
  | 107 => ⟨S1x1x1536, .f32⟩
  | 108 => ⟨S8x4096x1536, .f32⟩
  | 109 => ⟨S8x4096x1536, .f32⟩
  | 110 => ⟨S8x4096x1536, .f32⟩
  | 111 => ⟨S8x4096x1536, .f32⟩
  | 112 => ⟨S1x1x1536, .f32⟩
  | 113 => ⟨S1536, .f32⟩
  | 114 => ⟨S1x1x1536, .f32⟩
  | 115 => ⟨S8x4096x1536, .f32⟩
  | 116 => ⟨S8x4096x1536, .f32⟩
  | 117 => ⟨S8x4096x1536, .f32⟩
  | 118 => ⟨S8x4096x1536, .f32⟩
  | 119 => ⟨S1x1x1536, .f32⟩
  | 120 => ⟨S1536, .f32⟩
  | 121 => ⟨S1x1x1536, .f32⟩
  | 122 => ⟨S8x4096x1536, .f32⟩
  | 123 => ⟨S8x4096x1536, .f32⟩
  | 124 => ⟨S8x4096x1536, .f32⟩
  | 125 => ⟨S8x4096x1536, .f32⟩
  | 126 => ⟨S1x1x1536, .f32⟩
  | 127 => ⟨S1536, .f32⟩
  | _ => ⟨S8x4096x1024, .f32⟩

abbrev hbmTy0_2 (i : Nat) : BufTy := match i % 128 with
  | 0 => ⟨S1x1x1536, .f32⟩
  | 1 => ⟨S8x4096x1536, .f32⟩
  | 2 => ⟨S8x4096x1536, .f32⟩
  | 3 => ⟨S8x4096x1536, .f32⟩
  | 4 => ⟨S8x4096x1536, .f32⟩
  | 5 => ⟨S8x4096x1536, .f32⟩
  | 6 => ⟨S_, .f32⟩
  | 7 => ⟨S8x4096x1536, .f32⟩
  | 8 => ⟨S8x4096x1536, .f32⟩
  | 9 => ⟨S_, .f32⟩
  | 10 => ⟨S8x4096x1536, .f32⟩
  | 11 => ⟨S8x4096x1536, .f32⟩
  | 12 => ⟨S8x4096x1536, .f32⟩
  | 13 => ⟨S8x4096x512, .f32⟩
  | 14 => ⟨S8x4096x512, .f32⟩
  | 15 => ⟨S8x4096x512, .f32⟩
  | 16 => ⟨S8x4096x4x128, .f32⟩
  | 17 => ⟨S8x4096x4x128, .f32⟩
  | 18 => ⟨S8x4096x4x128, .f32⟩
  | 19 => ⟨S8x4096x4x128, .f32⟩
  | 20 => ⟨S_, .f32⟩
  | 21 => ⟨S8x4096x4, .f32⟩
  | 22 => ⟨S8x4096x4x1, .f32⟩
  | 23 => ⟨S_, .f32⟩
  | 24 => ⟨S8x4096x4x1, .f32⟩
  | 25 => ⟨S8x4096x4x1, .f32⟩
  | 26 => ⟨S8x4096x4x1, .f32⟩
  | 27 => ⟨S8x4096x4x128, .f32⟩
  | 28 => ⟨S8x4096x4x128, .f32⟩
  | 29 => ⟨S_, .f32⟩
  | 30 => ⟨S_, .f32⟩
  | 31 => ⟨S8x4096x4x128, .f32⟩
  | 32 => ⟨S8x4096x4x128, .f32⟩
  | 33 => ⟨S32768x512, .f32⟩
  | 34 => ⟨S8x4096x4x128, .f32⟩
  | 35 => ⟨S_, .f32⟩
  | 36 => ⟨S8x4096x4, .f32⟩
  | 37 => ⟨S8x4096x4x1, .f32⟩
  | 38 => ⟨S_, .f32⟩
  | 39 => ⟨S8x4096x4x1, .f32⟩
  | 40 => ⟨S8x4096x4x1, .f32⟩
  | 41 => ⟨S8x4096x4x1, .f32⟩
  | 42 => ⟨S8x4096x4x128, .f32⟩
  | 43 => ⟨S8x4096x4x128, .f32⟩
  | 44 => ⟨S32768x512, .f32⟩
  | 45 => ⟨S32768x512, .f32⟩
  | 46 => ⟨S32768x1536, .f32⟩
  | 47 => ⟨S2x4, .f32⟩
  | 48 => ⟨S2x4, .f32⟩
  | 49 => ⟨S2x4, .f32⟩
  | 50 => ⟨S8x4096x2x4, .f32⟩
  | 51 => ⟨S2x4, .f32⟩
  | 52 => ⟨S1x1x2x4, .f32⟩
  | 53 => ⟨S8x4096x2x4, .f32⟩
  | 54 => ⟨S8x4096x2x4, .f32⟩
  | 55 => ⟨S_, .f32⟩
  | 56 => ⟨S8x4096x2x4, .f32⟩
  | 57 => ⟨S8x4096x2x4, .f32⟩
  | 58 => ⟨S8x4096x2x4, .f32⟩
  | 59 => ⟨S8x4096x2x4, .f32⟩
  | 60 => ⟨S8x4096x2x4, .i1⟩
  | 61 => ⟨S8x4096x2x4, .f32⟩
  | 62 => ⟨S8x4096x2x4, .f32⟩
  | 63 => ⟨S8x4096x2x4, .f32⟩
  | 64 => ⟨S8x4096x2x4, .f32⟩
  | 65 => ⟨S8x4096x2x4, .f32⟩
  | 66 => ⟨S8x4096x2x4, .f32⟩
  | 67 => ⟨S8x4096x2x4, .f32⟩
  | 68 => ⟨S8x4096x2x4, .f32⟩
  | 69 => ⟨S1x1x2x4, .f32⟩
  | 70 => ⟨S8x4096x2x4, .f32⟩
  | 71 => ⟨S8x4096x2x4, .f32⟩
  | 72 => ⟨S8x4096x2x4, .f32⟩
  | 73 => ⟨S8x4096x2x4, .f32⟩
  | 74 => ⟨S8x4096x2x4, .f32⟩
  | 75 => ⟨S_, .f32⟩
  | 76 => ⟨S8x4096x2x4, .f32⟩
  | 77 => ⟨S8x4096x2x4, .f32⟩
  | 78 => ⟨S_, .f32⟩
  | 79 => ⟨S8x4096x2x4, .f32⟩
  | 80 => ⟨S8x4096x2x4, .f32⟩
  | 81 => ⟨S_, .f32⟩
  | 82 => ⟨S8x4096x2x120, .f32⟩
  | 83 => ⟨S8x4096x2x128, .f32⟩
  | 84 => ⟨S8x8x512x1024, .f32⟩
  | 85 => ⟨S8x8x1024x512, .f32⟩
  | 86 => ⟨S8x8x512x2x128, .f32⟩
  | 87 => ⟨S8x8x2x128x512, .f32⟩
  | 88 => ⟨S_, .f32⟩
  | 89 => ⟨S8x8x2x1x512, .f32⟩
  | 90 => ⟨S_, .f32⟩
  | 91 => ⟨S8x8x2x15x512, .f32⟩
  | 92 => ⟨S8x8x2x144x512, .f32⟩
  | 93 => ⟨S8x8x1024x512, .bf16⟩
  | 94 => ⟨S32768x256, .f32⟩
  | 95 => ⟨S32768x256, .bf16⟩
  | 96 => ⟨S8x8x288x512, .f32⟩
  | 97 => ⟨S8x8x288x512, .bf16⟩
  | 98 => ⟨S32768x1536, .bf16⟩
  | 99 => ⟨S32768x256, .f32⟩
  | 100 => ⟨S_, .f32⟩
  | 101 => ⟨S_, .f32⟩
  | 102 => ⟨S8x4096x512, .f32⟩
  | 103 => ⟨S8x4096x512, .f32⟩
  | 104 => ⟨S32768x512, .f32⟩
  | 105 => ⟨S32768x512, .bf16⟩
  | 106 => ⟨S32768x2048, .f32⟩
  | 107 => ⟨S32768x2048, .bf16⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c : Ref sig .tc := ⟨.hbm, 39, rfl⟩
abbrev main_call0_v0 : Ref sig .tc := ⟨.hbm, 40, rfl⟩
abbrev main_call0_c : Ref sig .tc := ⟨.hbm, 41, rfl⟩
abbrev main_call0_v1 : Ref sig .tc := ⟨.hbm, 42, rfl⟩
abbrev main_call0_c_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_c_1 : Ref sig .tc := ⟨.hbm, 47, rfl⟩
abbrev main_call0_v5 : Ref sig .tc := ⟨.hbm, 48, rfl⟩
abbrev main_call0_v6 : Ref sig .tc := ⟨.hbm, 49, rfl⟩
abbrev main_call0_c_2 : Ref sig .tc := ⟨.hbm, 50, rfl⟩
abbrev main_call0_v7 : Ref sig .tc := ⟨.hbm, 51, rfl⟩
abbrev main_call0_v8 : Ref sig .tc := ⟨.hbm, 52, rfl⟩
abbrev main_call0_c_3 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_v12 : Ref sig .tc := ⟨.hbm, 57, rfl⟩
abbrev main_call0_v13 : Ref sig .tc := ⟨.hbm, 58, rfl⟩
abbrev main_call0_v14 : Ref sig .tc := ⟨.hbm, 59, rfl⟩
abbrev main_v28 : Ref sig .tc := ⟨.hbm, 60, rfl⟩
abbrev main_v29 : Ref sig .tc := ⟨.hbm, 61, rfl⟩
abbrev main_cst_2 : Ref sig .tc := ⟨.hbm, 62, rfl⟩
abbrev main_v30 : Ref sig .tc := ⟨.hbm, 63, rfl⟩
abbrev main_v31 : Ref sig .tc := ⟨.hbm, 64, rfl⟩
abbrev main_cst_3 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_cst_4 : Ref sig .tc := ⟨.hbm, 69, rfl⟩
abbrev main_v35 : Ref sig .tc := ⟨.hbm, 70, rfl⟩
abbrev main_v36 : Ref sig .tc := ⟨.hbm, 71, rfl⟩
abbrev main_cst_5 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_6 : Ref sig .tc := ⟨.hbm, 90, rfl⟩
abbrev main_v54 : Ref sig .tc := ⟨.hbm, 91, rfl⟩
abbrev main_v55 : Ref sig .tc := ⟨.hbm, 92, rfl⟩
abbrev main_cst_7 : Ref sig .tc := ⟨.hbm, 93, rfl⟩
abbrev main_v56 : Ref sig .tc := ⟨.hbm, 94, rfl⟩
abbrev main_v57 : Ref sig .tc := ⟨.hbm, 95, rfl⟩
abbrev main_cst_8 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_9 : Ref sig .tc := ⟨.hbm, 150, rfl⟩
abbrev main_v111 : Ref sig .tc := ⟨.hbm, 151, rfl⟩
abbrev main_cst_10 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_cst_11 : Ref sig .tc := ⟨.hbm, 160, rfl⟩
abbrev main_v119 : Ref sig .tc := ⟨.hbm, 161, rfl⟩
abbrev main_v120 : Ref sig .tc := ⟨.hbm, 162, rfl⟩
abbrev main_cst_12 : Ref sig .tc := ⟨.hbm, 163, rfl⟩
abbrev main_v121 : Ref sig .tc := ⟨.hbm, 164, rfl⟩
abbrev main_v122 : Ref sig .tc := ⟨.hbm, 165, rfl⟩
abbrev main_cst_13 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_c_14 : Ref sig .tc := ⟨.hbm, 220, rfl⟩
abbrev main_call1_v0 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_cst_15 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩
abbrev main_call2_v0 : Ref sig .tc := ⟨.hbm, 260, rfl⟩
abbrev main_call2_v1 : Ref sig .tc := ⟨.hbm, 261, rfl⟩
abbrev main_call2_cst : Ref sig .tc := ⟨.hbm, 262, rfl⟩
abbrev main_call2_v2 : Ref sig .tc := ⟨.hbm, 263, rfl⟩
abbrev main_call2_v3 : Ref sig .tc := ⟨.hbm, 264, rfl⟩
abbrev main_call2_cst_0 : Ref sig .tc := ⟨.hbm, 265, rfl⟩
abbrev main_call2_v4 : Ref sig .tc := ⟨.hbm, 266, rfl⟩
abbrev main_call2_v5 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_cst_16 : Ref sig .tc := ⟨.hbm, 276, rfl⟩
abbrev main_v221 : Ref sig .tc := ⟨.hbm, 277, rfl⟩
abbrev main_v222 : Ref sig .tc := ⟨.hbm, 278, rfl⟩
abbrev main_cst_17 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_cst_18 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_cst_19 : Ref sig .tc := ⟨.hbm, 291, rfl⟩
abbrev main_v233 : Ref sig .tc := ⟨.hbm, 292, rfl⟩
abbrev main_v234 : Ref sig .tc := ⟨.hbm, 293, rfl⟩
abbrev main_cst_20 : Ref sig .tc := ⟨.hbm, 294, rfl⟩
abbrev main_v235 : Ref sig .tc := ⟨.hbm, 295, rfl⟩
abbrev main_v236 : Ref sig .tc := ⟨.hbm, 296, rfl⟩
abbrev main_v237 : Ref sig .tc := ⟨.hbm, 297, rfl⟩
abbrev main_v238 : Ref sig .tc := ⟨.hbm, 298, rfl⟩
abbrev main_v239 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_v245 : Ref sig .tc := ⟨.hbm, 305, rfl⟩
abbrev main_v246 : Ref sig .tc := ⟨.hbm, 306, rfl⟩
abbrev main_v247 : Ref sig .tc := ⟨.hbm, 307, rfl⟩
abbrev main_v248 : Ref sig .tc := ⟨.hbm, 308, rfl⟩
abbrev main_v249 : Ref sig .tc := ⟨.hbm, 309, rfl⟩
abbrev main_v250 : Ref sig .tc := ⟨.hbm, 310, rfl⟩
abbrev main_call3_cst : Ref sig .tc := ⟨.hbm, 311, rfl⟩
abbrev main_call3_v0 : Ref sig .tc := ⟨.hbm, 312, rfl⟩
abbrev main_call3_v1 : Ref sig .tc := ⟨.hbm, 313, rfl⟩
abbrev main_call3_v2 : Ref sig .tc := ⟨.hbm, 314, rfl⟩
abbrev main_call3_v3 : Ref sig .tc := ⟨.hbm, 315, rfl⟩
abbrev main_call3_v4 : Ref sig .tc := ⟨.hbm, 316, rfl⟩
abbrev main_call3_v5 : Ref sig .tc := ⟨.hbm, 317, rfl⟩
abbrev main_call3_v6 : Ref sig .tc := ⟨.hbm, 318, rfl⟩
abbrev main_call3_v7 : Ref sig .tc := ⟨.hbm, 319, rfl⟩
abbrev main_call3_v8 : Ref sig .tc := ⟨.hbm, 320, rfl⟩
abbrev main_call3_v9 : Ref sig .tc := ⟨.hbm, 321, rfl⟩
abbrev main_call3_v10 : Ref sig .tc := ⟨.hbm, 322, rfl⟩
abbrev main_call3_v11 : Ref sig .tc := ⟨.hbm, 323, rfl⟩
abbrev main_v251 : Ref sig .tc := ⟨.hbm, 324, rfl⟩
abbrev main_v252 : Ref sig .tc := ⟨.hbm, 325, rfl⟩
abbrev main_v253 : Ref sig .tc := ⟨.hbm, 326, rfl⟩
abbrev main_v254 : Ref sig .tc := ⟨.hbm, 327, rfl⟩
abbrev main_v255 : Ref sig .tc := ⟨.hbm, 328, rfl⟩
abbrev main_v256 : Ref sig .tc := ⟨.hbm, 329, rfl⟩
abbrev main_v257 : Ref sig .tc := ⟨.hbm, 330, rfl⟩
abbrev main_cst_21 : Ref sig .tc := ⟨.hbm, 331, rfl⟩
abbrev main_v258 : Ref sig .tc := ⟨.hbm, 332, rfl⟩
abbrev main_v259 : Ref sig .tc := ⟨.hbm, 333, rfl⟩
abbrev main_cst_22 : Ref sig .tc := ⟨.hbm, 334, rfl⟩
abbrev main_v260 : Ref sig .tc := ⟨.hbm, 335, rfl⟩
abbrev main_v261 : Ref sig .tc := ⟨.hbm, 336, rfl⟩
abbrev main_cst_23 : Ref sig .tc := ⟨.hbm, 337, rfl⟩
abbrev main_v262 : Ref sig .tc := ⟨.hbm, 338, rfl⟩
abbrev main_v263 : Ref sig .tc := ⟨.hbm, 339, rfl⟩
abbrev main_v264 : Ref sig .tc := ⟨.hbm, 340, rfl⟩
abbrev main_v265 : Ref sig .tc := ⟨.hbm, 341, rfl⟩
abbrev main_v266 : Ref sig .tc := ⟨.hbm, 342, rfl⟩
abbrev main_v267 : Ref sig .tc := ⟨.hbm, 343, rfl⟩
abbrev main_cst_24 : Ref sig .tc := ⟨.hbm, 344, rfl⟩
abbrev main_v268 : Ref sig .tc := ⟨.hbm, 345, rfl⟩
abbrev main_cst_25 : Ref sig .tc := ⟨.hbm, 346, rfl⟩
abbrev main_v269 : Ref sig .tc := ⟨.hbm, 347, rfl⟩
abbrev main_v270 : Ref sig .tc := ⟨.hbm, 348, rfl⟩
abbrev main_v271 : Ref sig .tc := ⟨.hbm, 349, rfl⟩
abbrev main_v272 : Ref sig .tc := ⟨.hbm, 350, rfl⟩
abbrev main_v273 : Ref sig .tc := ⟨.hbm, 351, rfl⟩
abbrev main_v274 : Ref sig .tc := ⟨.hbm, 352, rfl⟩
abbrev main_v275 : Ref sig .tc := ⟨.hbm, 353, rfl⟩
abbrev main_v276 : Ref sig .tc := ⟨.hbm, 354, rfl⟩
abbrev main_v277 : Ref sig .tc := ⟨.hbm, 355, rfl⟩
abbrev main_cst_26 : Ref sig .tc := ⟨.hbm, 356, rfl⟩
abbrev main_v278 : Ref sig .tc := ⟨.hbm, 357, rfl⟩
abbrev main_v279 : Ref sig .tc := ⟨.hbm, 358, rfl⟩
abbrev main_v280 : Ref sig .tc := ⟨.hbm, 359, rfl⟩
abbrev main_v281 : Ref sig .tc := ⟨.hbm, 360, rfl⟩
abbrev main_v282 : Ref sig .tc := ⟨.hbm, 361, rfl⟩
abbrev main_v283 : Ref sig .tc := ⟨.hbm, 362, rfl⟩
abbrev main_v284 : Ref sig .tc := ⟨.hbm, 363, rfl⟩

abbrev nD : Nat := 1
abbrev τ : Topo := Topo.v7x

variable {F : FTy → Type} [FloatOps F]
-- ==== Proof.Stages.lean ====
/- The attention kernel's body as nested stages: the scores of one key block, the softmax step of one key block, and the
   normalised, gated output, each written once over the block's numbers. -/
module

public import proofs.«01_k».proof.KernelIdeal
public import Idealize.ShloMosaic.Lib.Pipeline.Regions
public import Idealize.ShloMosaic.Lib.VecWindow

@[expose] public section

noncomputable section

namespace Attn

open Idealize.ShloMosaic Idealize.SL.Sem Cert.KernelIdeal

variable {F : FTy → Type} [FloatOps F]

/-! ## Windows inside the buffers -/

theorem inb4 {a b c d p q r s x y z w : Nat} (h0 : p + x ≤ a) (h1 : q + y ≤ b) (h2 : r + z ≤ c) (h3 : s + w ≤ d) :
    ∀ i, (![p, q, r, s] : Fin 4 → Nat) i + (![x, y, z, w] : Fin 4 → Nat) i ≤ (![a, b, c, d] : Fin 4 → Nat) i := by
  intro i
  match i with
  | 0 => exact h0
  | 1 => exact h1
  | 2 => exact h2
  | 3 => exact h3

theorem inb3 {a b c p q r x y z : Nat} (h0 : p + x ≤ a) (h1 : q + y ≤ b) (h2 : r + z ≤ c) :
    ∀ i, (![p, q, r] : Fin 3 → Nat) i + (![x, y, z] : Fin 3 → Nat) i ≤ (![a, b, c] : Fin 3 → Nat) i := by
  intro i
  match i with
  | 0 => exact h0
  | 1 => exact h1
  | 2 => exact h2

theorem inbK {j : Nat} (hj : j < 8) : ∀ i, (![0, j, 0, 0] : Fin 4 → Nat) i + S1x1x512x128.size i ≤ S1x8x512x128.size i :=
  inb4 (by omega) (by omega) (by omega) (by omega)

theorem inbV {j : Nat} (hj : j < 8) : ∀ i, (![0, j, 0, 0] : Fin 4 → Nat) i + S1x1x144x512.size i ≤ S1x8x144x512.size i :=
  inb4 (by omega) (by omega) (by omega) (by omega)

theorem inbS {s g : Nat} (hs : s < 2) (hg : g < 4) : ∀ i, (![s, g, 0, 0] : Fin 4 → Nat) i + S1x1x512x512.size i ≤ S2x4x512x512.size i :=
  inb4 (by omega) (by omega) (by omega) (by omega)

theorem inbS8 {s g r : Nat} (hs : s < 2) (hg : g < 4) (hr : r < 64) :
    ∀ i, (![s, g, 8 * r, 0] : Fin 4 → Nat) i + S1x1x8x512.size i ≤ S2x4x512x512.size i :=
  inb4 (by omega) (by omega) (by omega) (by omega)

theorem inbS32 {s g r : Nat} (hs : s < 2) (hg : g < 4) (hr : r < 16) :
    ∀ i, (![s, g, 32 * r, 0] : Fin 4 → Nat) i + S1x1x32x512.size i ≤ S2x4x512x512.size i :=
  inb4 (by omega) (by omega) (by omega) (by omega)

theorem inbM {g : Nat} (hg : g < 4) : ∀ i, (![g, 0, 0] : Fin 3 → Nat) i + S1x1x512.size i ≤ S4x1x512.size i :=
  inb3 (by omega) (by omega) (by omega)

theorem inbA {g : Nat} (hg : g < 4) : ∀ i, (![g, 0, 0] : Fin 3 → Nat) i + S1x144x512.size i ≤ S4x144x512.size i :=
  inb3 (by omega) (by omega) (by omega)

theorem inbN {g : Nat} (hg : g < 4) : ∀ i, (![g, 0, 0] : Fin 3 → Nat) i + S1x128x512.size i ≤ S4x144x512.size i :=
  inb3 (by omega) (by omega) (by omega)

theorem inbL {g : Nat} (hg : g < 4) : ∀ i, (![g, 128, 0] : Fin 3 → Nat) i + S1x1x512.size i ≤ S4x144x512.size i :=
  inb3 (by omega) (by omega) (by omega)

/-- A stored block of 32 rows of the weights is whole words of the buffer's layout. -/
theorem packedP {s g r : Nat} (hs : s < 2) (hg : g < 4) (hr : r < 16) :
    (Rect.unit (s := S2x4x512x512) ![s, g, 32 * r, 0] S1x1x32x512.size (inbS32 hs hg hr)).PackedRows (EltTy.packing .bf16) := by
  have h : ∀ (s : Fin 2) (g : Fin 4) (r : Fin 16), (Rect.unit (s := S2x4x512x512) ![s.val, g.val, 32 * r.val, 0] S1x1x32x512.size
      (inbS32 s.isLt g.isLt r.isLt)).PackedRows (EltTy.packing .bf16) := by decide
  exact h ⟨s, hs⟩ ⟨g, hg⟩ ⟨r, hr⟩

theorem n_k : 0 < S1x1x512x128.numel := by decide
theorem n_q : 0 < S1x1x128x512.numel := by decide
theorem n_s : 0 < S1x1x512x512.numel := by decide
theorem n_s8 : 0 < S1x1x8x512.numel := by decide
theorem n_s32 : 0 < S1x1x32x512.numel := by decide
theorem n_m : 0 < S1x1x512.numel := by decide
theorem n_a : 0 < S1x144x512.numel := by decide
theorem n_v : 0 < S1x1x144x512.numel := by decide
theorem n_n : 0 < S1x128x512.numel := by decide
theorem n_o : 0 < S1x512x128.numel := by decide
theorem casts_q : S1x1x128x512.ShapeCasts S128x512 := by decide
theorem casts_k : S1x1x512x128.ShapeCasts S512x128 := by decide
theorem casts_v : S1x1x144x512.ShapeCasts S144x512 := by decide
theorem casts_s : S1x1x512x512.ShapeCasts S512x512 := by decide
theorem casts_s' : S512x512.ShapeCasts S1x1x512x512 := by decide
theorem casts_s8 : S1x1x8x512.ShapeCasts S8x512 := by decide
theorem casts_s32 : S1x1x32x512.ShapeCasts S32x512 := by decide
theorem casts_p32 : S32x512.ShapeCasts S1x1x32x512 := by decide
theorem casts_red : S512.ShapeCasts S1x512 := by decide
theorem casts_m : S1x1x512.ShapeCasts S1x512 := by decide
theorem casts_m' : S1x512.ShapeCasts S1x1x512 := by decide
theorem casts_a : S1x144x512.ShapeCasts S144x512 := by decide
theorem casts_a' : S144x512.ShapeCasts S1x144x512 := by decide
theorem casts_n : S1x128x512.ShapeCasts S128x512 := by decide
theorem casts_o : S1x512x128.ShapeCasts S512x128 := by decide
theorem casts_o' : S512x128.ShapeCasts S1x512x128 := by decide
theorem reduces8 : S8x512.Reduces [0] S512 := by decide
theorem bc32 : S1x512.Broadcasts S32x512 := by decide
theorem bc128 : S1x512.Broadcasts S128x512 := by decide
theorem bc144 : S1x512.Broadcasts S144x512 := by decide
theorem transp : S128x512.Transposes [1, 0] S512x128 := by decide
theorem bits_bf16 : FTy.bf16.bits < FTy.f32.bits := by decide

/-! ## The pure steps -/

/-- The factor the queries are scaled by. -/
class Scale (F : FTy → Type) where
  c : F .f32

variable [Scale F]

/-- The scores of 512 keys against 512 queries, keys along the rows. -/
def scoreMat (k : FVec F S1x1x512x128 .bf16) (q : FVec F S1x1x128x512 .f32) : FVec F S1x1x512x512 .f32 :=
  shapeCast S1x1x512x512
    (matmul (DotDims.plain 512 128 512) none (shapeCast S512x128 k casts_k)
      (truncf .bf16 (mulf (shapeCast S128x512 q casts_q) (broadcast S128x512 Scale.c)) bits_bf16)
      (constant S512x512 .f32 0x00000000#32)) casts_s'

/-- The maximum over the eight rows that are left of the running maximum. -/
def max8 (v : FVec F S8x512 .f32) : FVec F S1x512 .f32 :=
  shapeCast S1x512 (multiReduction .maximumf [0] S512 v 0xFF800000#32 reduces8 (.inl rfl) rfl) casts_red

/-- The weights of 32 keys: powers of two of the scores less the maximum. -/
def weights (m : FVec F S1x512 .f32) (x : FVec F S1x1x32x512 .f32) : FVec F S1x1x32x512 .bf16 :=
  shapeCast S1x1x32x512 (truncf .bf16 (exp2 (subf (shapeCast S32x512 x casts_s32) (broadcastTo S32x512 m bc32))) bits_bf16) casts_p32

/-- The weighted sum of a block's values. -/
def weighted (v : FVec F S1x1x144x512 .bf16) (p : FVec F S1x1x512x512 .bf16) : FVec F S144x512 .f32 :=
  matmul (DotDims.plain 144 512 512) none (shapeCast S144x512 v casts_v) (shapeCast S512x512 p casts_s)
    (constant S144x512 .f32 0x00000000#32)

/-- The accumulator rescaled to the new maximum, plus the new block's weighted sum. -/
def rescaled (mOld mNew : FVec F S1x512 .f32) (acc : FVec F S1x144x512 .f32) (pv : FVec F S144x512 .f32) : FVec F S1x144x512 .f32 :=
  shapeCast S1x144x512
    (addf (mulf (broadcastTo S144x512 (exp2 (subf mOld mNew)) bc144) (shapeCast S144x512 acc casts_a)) pv) casts_a'

/-- The normalised accumulator, transposed back and gated. -/
def gated (num : FVec F S1x128x512 .f32) (den : FVec F S1x1x512 .f32) (z : FVec F S1x512x128 .bf16) : FVec F S1x512x128 .bf16 :=
  let o := transpose S512x128 [1, 0] (divf (shapeCast S128x512 num casts_n) (broadcastTo S128x512 (shapeCast S1x512 den casts_m) bc128)) transp
  let zf := extf .f32 (shapeCast S512x128 z casts_o) bits_bf16
  shapeCast S1x512x128 (truncf .bf16 (mulf o (mulf zf (logistic zf))) bits_bf16) casts_o'

/-! ## The programs -/

variable (sig : RefSig) in
/-- The buffers the body is given: the queries, keys, values, gates and output, and the four buffers it keeps to itself. -/
structure Bufs where
  q : Memref sig .tc .vmem S1x8x512x512 .f32
  k : Memref sig .tc .vmem S1x8x512x128 .bf16
  v : Memref sig .tc .vmem S1x8x144x512 .bf16
  z : Memref sig .tc .vmem S1x4096x512 .bf16
  o : Memref sig .tc .vmem S1x4096x512 .bf16
  m : Memref sig .tc .vmem S4x1x512 .f32
  a : Memref sig .tc .vmem S4x144x512 .f32
  s : Memref sig .tc .vmem S2x4x512x512 .f32
  p : Memref sig .tc .vmem S2x4x512x512 .bf16
  ho : o.IsWhole
  hp : p.IsWhole

variable {sig : RefSig} {nD : Nat} {τ : Topo} {Λ : Labels}

/-- The programs of one TensorCore. -/
abbrev Pg (nD : Nat) (τ : Topo) (sig : RefSig) (F : FTy → Type) (Λ : Labels) := Prog (TpuEff nD τ sig (Elt F) Λ .tc) PUnit

/-- Load a window and go on with it. -/
abbrev ld {s : Shape} {e : EltTy} (b : Memref sig .tc .vmem s e) (off size : Fin s.rank → Nat) (inb : ∀ a, off a + size a ≤ s.size a)
    (hn : 0 < (Rect.unit off size inb).toLoadRect.shape.numel) (K : (((a : Fin s.rank) → Fin (size a)) → Elt F e) → Pg nD τ sig F Λ) : Pg nD τ sig F Λ :=
  .op (.load b (Rect.unit off size inb).toLoadRect (View.loadsAt_vmem hn)) K

/-- Store a window and go on. -/
abbrev st {s : Shape} {e : EltTy} (b : Memref sig .tc .vmem s e) (off size : Fin s.rank → Nat) (inb : ∀ a, off a + size a ≤ s.size a)
    (w : ((a : Fin s.rank) → Fin (size a)) → Elt F e) (hs : (b.access (Rect.unit off size inb)).Stores Finset.univ) (K : Pg nD τ sig F Λ) : Pg nD τ sig F Λ :=
  .op (.store b (Rect.unit off size inb) w Finset.univ hs (.inl rfl)) fun _ => K

variable (B : Bufs sig)

/-- The scores of key block `j` against the query rows at `off`, into slot `s`, head `g`. -/
def scores (off : Fin 4 → Nat) (inb : ∀ i, off i + S1x1x128x512.size i ≤ S1x8x512x512.size i) (j s g : Nat) (hj : j < 8) (hs : s < 2) (hg : g < 4)
    (K : Pg nD τ sig F Λ) : Pg nD τ sig F Λ :=
  ld B.q off S1x1x128x512.size inb n_q fun q =>
  ld B.k ![0, j, 0, 0] S1x1x512x128.size (inbK hj) n_k fun k =>
  ld B.s ![s, g, 0, 0] S1x1x512x512.size (inbS hs hg) n_s fun _ =>
  st B.s ![s, g, 0, 0] S1x1x512x512.size (inbS hs hg) (scoreMat k q) (View.stores_vmem_bits_univ n_s rfl) K

/-- The running maximum over the blocks of eight rows from `64 - n` on. -/
def maxRows (s g : Nat) (hs : s < 2) (hg : g < 4) (K : FVec F S8x512 .f32 → Pg nD τ sig F Λ) :
    (n : Nat) → n < 64 → FVec F S8x512 .f32 → Pg nD τ sig F Λ
  | 0, _, v => K v
  | n + 1, h, v =>
    ld B.s ![s, g, 8 * (64 - (n + 1)), 0] S1x1x8x512.size (inbS8 hs hg (by omega)) n_s8 fun x =>
    maxRows s g hs hg K n (by omega) (maximumf v (shapeCast S8x512 x casts_s8))

/-- The weights of the blocks of 32 rows from `16 - n` on. -/
def expRows (s g : Nat) (hs : s < 2) (hg : g < 4) (m : FVec F S1x512 .f32) :
    (n : Nat) → n < 17 → Pg nD τ sig F Λ → Pg nD τ sig F Λ
  | 0, _, K => K
  | n + 1, h, K =>
    ld B.s ![s, g, 32 * (16 - (n + 1)), 0] S1x1x32x512.size (inbS32 hs hg (by omega)) n_s32 fun x =>
    ld B.p ![s, g, 32 * (16 - (n + 1)), 0] S1x1x32x512.size (inbS32 hs hg (by omega)) n_s32 fun _ =>
    st B.p ![s, g, 32 * (16 - (n + 1)), 0] S1x1x32x512.size (inbS32 hs hg (by omega)) (weights m x)
      (View.stores_vmem n_s32 (B.hp.storeExact_slice rfl _ (packedP hs hg (by omega))) (fun _ => rfl))
      (expRows s g hs hg m n (by omega) K)

/-- The maximum of slot `s`, head `g`. -/
def blockMax (s g : Nat) (hs : s < 2) (hg : g < 4) (K : FVec F S1x512 .f32 → Pg nD τ sig F Λ) : Pg nD τ sig F Λ :=
  ld B.s ![s, g, 0, 0] S1x1x8x512.size (inbS8 (r := 0) hs hg (by omega)) n_s8 fun x =>
  maxRows B s g hs hg (fun v => K (max8 v)) 63 (by omega) (shapeCast S8x512 x casts_s8)

/-- The weighted sum of value block `j` under the weights of slot `s`, head `g`. -/
def pvBlock (j s g : Nat) (hj : j < 8) (hs : s < 2) (hg : g < 4) (K : FVec F S144x512 .f32 → Pg nD τ sig F Λ) : Pg nD τ sig F Λ :=
  ld B.v ![0, j, 0, 0] S1x1x144x512.size (inbV hj) n_v fun v =>
  ld B.p ![s, g, 0, 0] S1x1x512x512.size (inbS hs hg) n_s fun p => K (weighted v p)

/-- The first key block's softmax step: it sets the running maximum and the accumulator. -/
def stepFirst (g : Nat) (hg : g < 4) (K : Pg nD τ sig F Λ) : Pg nD τ sig F Λ :=
  blockMax B 0 g (by omega) hg fun m =>
  ld B.m ![g, 0, 0] S1x1x512.size (inbM hg) n_m fun _ =>
  st B.m ![g, 0, 0] S1x1x512.size (inbM hg) (shapeCast S1x1x512 m casts_m') (View.stores_vmem_bits_univ n_m rfl) <|
  expRows B 0 g (by omega) hg m 16 (by omega) <|
  pvBlock B 0 0 g (by omega) (by omega) hg fun pv =>
  ld B.a ![g, 0, 0] S1x144x512.size (inbA hg) n_a fun _ =>
  st B.a ![g, 0, 0] S1x144x512.size (inbA hg) (shapeCast S1x144x512 pv casts_a') (View.stores_vmem_bits_univ n_a rfl) K

/-- A later key block's softmax step: it raises the running maximum and rescales the accumulator. -/
def stepNext (j s g : Nat) (hj : j < 8) (hs : s < 2) (hg : g < 4) (K : Pg nD τ sig F Λ) : Pg nD τ sig F Λ :=
  blockMax B s g hs hg fun mb =>
  ld B.m ![g, 0, 0] S1x1x512.size (inbM hg) n_m fun mo =>
  ld B.m ![g, 0, 0] S1x1x512.size (inbM hg) n_m fun _ =>
  st B.m ![g, 0, 0] S1x1x512.size (inbM hg) (shapeCast S1x1x512 (maximumf (shapeCast S1x512 mo casts_m) mb) casts_m')
    (View.stores_vmem_bits_univ n_m rfl) <|
  expRows B s g hs hg (maximumf (shapeCast S1x512 mo casts_m) mb) 16 (by omega) <|
  pvBlock B j s g hj hs hg fun pv =>
  ld B.a ![g, 0, 0] S1x144x512.size (inbA hg) n_a fun acc =>
  ld B.a ![g, 0, 0] S1x144x512.size (inbA hg) n_a fun _ =>
  st B.a ![g, 0, 0] S1x144x512.size (inbA hg) (rescaled (shapeCast S1x512 mo casts_m) (maximumf (shapeCast S1x512 mo casts_m) mb) acc pv)
    (View.stores_vmem_bits_univ n_a rfl) K

/-- The rows of head `g` of the output at `off`: the normalised accumulator under its gate. -/
def finish (off : Fin 3 → Nat) (inb : ∀ i, off i + S1x512x128.size i ≤ S1x4096x512.size i)
    (hpk : (Rect.unit (s := S1x4096x512) off S1x512x128.size inb).PackedRows (EltTy.packing .bf16)) (g : Nat) (hg : g < 4)
    (K : Pg nD τ sig F Λ) : Pg nD τ sig F Λ :=
  ld B.a ![g, 0, 0] S1x128x512.size (inbN hg) n_n fun num =>
  ld B.a ![g, 128, 0] S1x1x512.size (inbL hg) n_m fun den =>
  ld B.z off S1x512x128.size inb n_o fun z =>
  ld B.o off S1x512x128.size inb n_o fun _ =>
  st B.o off S1x512x128.size inb (gated num den z) (View.stores_vmem n_o (B.ho.storeExact_slice rfl _ hpk) (fun _ => rfl)) K

/-- Where each head's query rows, and its output rows, lie. -/
structure Offs where
  q : Fin 4 → Fin 4 → Nat
  hq : ∀ g i, q g i + S1x1x128x512.size i ≤ S1x8x512x512.size i
  q' : Fin 4 → Fin 4 → Nat
  hq' : ∀ g i, q' g i + S1x1x128x512.size i ≤ S1x8x512x512.size i
  o : Fin 4 → Fin 3 → Nat
  ho : ∀ g i, o g i + S1x512x128.size i ≤ S1x4096x512.size i
  hpk : ∀ g, (Rect.unit (s := S1x4096x512) (o g) S1x512x128.size (ho g)).PackedRows (EltTy.packing .bf16)

variable (T : Offs)

/-- Key block 0 of all four heads, with the scores of block 1. -/
def blockFirst (K : Pg nD τ sig F Λ) : Pg nD τ sig F Λ :=
  scores B (T.q 0) (T.hq 0) 1 1 0 (by omega) (by omega) (by omega) <| stepFirst B 0 (by omega) <|
  scores B (T.q 1) (T.hq 1) 1 1 1 (by omega) (by omega) (by omega) <| stepFirst B 1 (by omega) <|
  scores B (T.q 2) (T.hq 2) 1 1 2 (by omega) (by omega) (by omega) <| stepFirst B 2 (by omega) <|
  scores B (T.q 3) (T.hq 3) 1 1 3 (by omega) (by omega) (by omega) <| stepFirst B 3 (by omega) K

/-- Key block `j` of all four heads, with the scores of block `j + 1`. -/
def blockMid (j s s' : Nat) (hj : j + 1 < 8) (hs : s < 2) (hs' : s' < 2) (K : Pg nD τ sig F Λ) : Pg nD τ sig F Λ :=
  scores B (T.q 0) (T.hq 0) (j + 1) s' 0 hj hs' (by omega) <| stepNext B j s 0 (by omega) hs (by omega) <|
  scores B (T.q 1) (T.hq 1) (j + 1) s' 1 hj hs' (by omega) <| stepNext B j s 1 (by omega) hs (by omega) <|
  scores B (T.q 2) (T.hq 2) (j + 1) s' 2 hj hs' (by omega) <| stepNext B j s 2 (by omega) hs (by omega) <|
  scores B (T.q 3) (T.hq 3) (j + 1) s' 3 hj hs' (by omega) <| stepNext B j s 3 (by omega) hs (by omega) K

/-- The last key block of all four heads, with the scores of the next query block against block 0. -/
def blockLast (K : Pg nD τ sig F Λ) : Pg nD τ sig F Λ :=
  scores B (T.q' 0) (T.hq' 0) 0 0 0 (by omega) (by omega) (by omega) <| stepNext B 7 1 0 (by omega) (by omega) (by omega) <|
  scores B (T.q' 1) (T.hq' 1) 0 0 1 (by omega) (by omega) (by omega) <| stepNext B 7 1 1 (by omega) (by omega) (by omega) <|
  scores B (T.q' 2) (T.hq' 2) 0 0 2 (by omega) (by omega) (by omega) <| stepNext B 7 1 2 (by omega) (by omega) (by omega) <|
  scores B (T.q' 3) (T.hq' 3) 0 0 3 (by omega) (by omega) (by omega) <| stepNext B 7 1 3 (by omega) (by omega) (by omega) K

/-- One trip: one block of queries against every key, and its output rows. -/
def trip (K : Pg nD τ sig F Λ) : Pg nD τ sig F Λ :=
  blockFirst B T <|
  blockMid B T 1 1 0 (by omega) (by omega) (by omega) <|
  blockMid B T 2 0 1 (by omega) (by omega) (by omega) <|
  blockMid B T 3 1 0 (by omega) (by omega) (by omega) <|
  blockMid B T 4 0 1 (by omega) (by omega) (by omega) <|
  blockMid B T 5 1 0 (by omega) (by omega) (by omega) <|
  blockMid B T 6 0 1 (by omega) (by omega) (by omega) <|
  blockLast B T <|
  finish B (T.o 0) (T.ho 0) (T.hpk 0) 0 (by omega) <|
  finish B (T.o 1) (T.ho 1) (T.hpk 1) 1 (by omega) <|
  finish B (T.o 2) (T.ho 2) (T.hpk 2) 2 (by omega) <|
  finish B (T.o 3) (T.ho 3) (T.hpk 3) 3 (by omega) K

theorem inbQ0 {g : Nat} (hg : g < 4) : ∀ i, (![0, 0, 128 * g, 0] : Fin 4 → Nat) i + S1x1x128x512.size i ≤ S1x8x512x512.size i :=
  inb4 (by omega) (by omega) (by omega) (by omega)

/-- Before the trips: the scores of the first block of queries against the first block of keys. -/
def prologue (K : Pg nD τ sig F Λ) : Pg nD τ sig F Λ :=
  scores B ![0, 0, 128 * 0, 0] (inbQ0 (by omega)) 0 0 0 (by omega) (by omega) (by omega) <|
  scores B ![0, 0, 128 * 1, 0] (inbQ0 (by omega)) 0 0 1 (by omega) (by omega) (by omega) <|
  scores B ![0, 0, 128 * 2, 0] (inbQ0 (by omega)) 0 0 2 (by omega) (by omega) (by omega) <|
  scores B ![0, 0, 128 * 3, 0] (inbQ0 (by omega)) 0 0 3 (by omega) (by omega) (by omega) K

end Attn

end
-- ==== Proof.Program.lean ====
/- The printed body is the nested stages. -/
module

public import proofs.«01_k».proof.Proof.Stages
public import proofs.«01_k».proof.Proof.Gen.KernelIdeal

@[expose] public section

noncomputable section

namespace Cert.KernelIdeal

open Idealize.ShloMosaic Idealize.SL.Sem Facts₀ Facts

variable {F : FTy → Type} [FloatOps F] [Named F] [Facts]

/-- The queries are scaled by the named factor. -/
abbrev scale : Attn.Scale F := ⟨Named.named κ "scale_log2e" 0x3E0293EE#32⟩

attribute [local instance] scale

/-- Where trip `t`'s query rows and output rows lie, as the kernel computes them. -/
def offs (t : Fin k0_t1_loop.trips) : Attn.Offs where
  q := ![k0_off1 t, k0_off2 t, k0_off3 t, k0_off4 t]
  hq := fun g => match g with
    | 0 => k0_off1_inb t | 1 => k0_off2_inb t | 2 => k0_off3_inb t | 3 => k0_off4_inb t
  q' := ![k0_off5 t, k0_off6 t, k0_off7 t, k0_off8 t]
  hq' := fun g => match g with
    | 0 => k0_off5_inb t | 1 => k0_off6_inb t | 2 => k0_off7_inb t | 3 => k0_off8_inb t
  o := ![k0_off9 t, k0_off10 t, k0_off11 t, k0_off12 t]
  ho := fun g => match g with
    | 0 => k0_off9_inb t | 1 => k0_off10_inb t | 2 => k0_off11_inb t | 3 => k0_off12_inb t
  hpk := fun g => match g with
    | 0 => k0_off9_packedbf16 t | 1 => k0_off10_packedbf16 t | 2 => k0_off11_packedbf16 t | 3 => k0_off12_packedbf16 t

/-- The printed body is the prologue, then the loop of trips. -/
theorem cc0_attn_eq (i : grid0.Coords) (arg2 : Memref sig .tc .vmem S1x8x512x512 .f32) (harg2 : arg2.IsWhole) (arg3 : Memref sig .tc .vmem S1x8x512x128 .bf16) (harg3 : arg3.IsWhole) (arg4 : Memref sig .tc .vmem S1x8x144x512 .bf16) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S4x1x512 .f32) (harg7 : arg7.IsWhole) (arg8 : Memref sig .tc .vmem S4x144x512 .f32) (harg8 : arg8.IsWhole) (arg9 : Memref sig .tc .vmem S2x4x512x512 .f32) (harg9 : arg9.IsWhole) (arg10 : Memref sig .tc .vmem S2x4x512x512 .bf16) (harg10 : arg10.IsWhole) :
    cc0_attn (F := F) i arg2 harg2 arg3 harg3 arg4 harg4 arg5 harg5 arg6 harg6 arg7 harg7 arg8 harg8 arg9 harg9 arg10 harg10
      = Attn.prologue ⟨arg2, arg3, arg4, arg5, arg6, arg7, arg8, arg9, arg10, harg6, harg10⟩
          ((Scf.Loop.for k0_t1_loop k0_t1_ok ⟨⟩ fun t _ =>
            Attn.trip ⟨arg2, arg3, arg4, arg5, arg6, arg7, arg8, arg9, arg10, harg6, harg10⟩ (offs t) (.ret ⟨⟩)).bind fun _ => .ret ⟨⟩) := by
  chain_rfl

end Cert.KernelIdeal

end
-- ==== Proof.Rules.lean ====
/- The body's state, and the rules by which a load or a store of a window takes one state to the next. -/
module

public import proofs.«01_k».proof.Proof.Stages
public import Idealize.ShloMosaic.Lib.Memref
public import Idealize.ShloMosaic.Lib.Writes
public import Idealize.ShloMosaic.Lib.Tactic

@[expose] public section

noncomputable section

namespace Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal

variable {F : FTy → Type} [FloatOps F]
variable {sig : RefSig} {nD : Nat} {τ : Topo} {Λ : Labels} {U : Type} [URA U]

local notation "𝕄" => MT nD τ sig Unit (Elt F) ℕ U ℕ

variable {defs : Defs nD τ sig (Elt F) Λ} {𝒱 : Variants} {bd : Option 𝒱.V} {E : Set ℕ} {c : Dev nD} {Q : PUnit → sProp (MT nD τ sig Unit (Elt F) ℕ U ℕ)}

/-- The weakest precondition of a program of core `c`. -/
local notation "WP" => wp frame (wpE defs 𝒱 (c : Thread nD τ) bd) E

/-- A load: what is owned gives the buffer at `X` and goes on from the window of `X`. -/
theorem ld_rule {s : Shape} {e : EltTy} {b : Memref sig .tc .vmem s e} {off size : Fin s.rank → Nat} {inb : ∀ a, off a + size a ≤ s.size a}
    {hn : 0 < (Rect.unit off size inb).toLoadRect.shape.numel} {K : (((a : Fin s.rank) → Fin (size a)) → Elt F e) → Pg nD τ sig F Λ}
    {X : s.Idx → Elt F e} {P R : sProp 𝕄}
    (h₁ : P ⊢ iprop(owns (c : Thread nD τ) b fullShare X ∗ R)) (h₂ : iprop(owns (c : Thread nD τ) b fullShare X ∗ R) ⊢ P)
    (hK : P ⊢ wp frame (wpE defs 𝒱 (c : Thread nD τ) bd) E (K (VecWindow.window X off size inb)) Q) :
    P ⊢ wp frame (wpE defs 𝒱 (c : Thread nD τ) bd) E (ld b off size inb hn K) Q := by
  refine h₁.trans ?_
  unfold owns
  iintro ⟨⟨%f, %hf, H⟩, HR⟩
  subst hf
  iapply (wp_load 𝒱 (c : Thread nD τ) bd E (m := b) (r := (Rect.unit off size inb).toLoadRect)
    (b.view.setOn_subset_set _)) $$ H
  iintro H
  rw [View.readAt_unit b.view f inb rfl inb]
  iapply hK
  iapply h₂
  isplitl [H]
  · iapply (owns_intro (c : Thread nD τ) b fullShare f); iexact H
  iexact HR

/-- A store: it goes on from the buffer with the window put. -/
theorem st_rule {s : Shape} {e : EltTy} {b : Memref sig .tc .vmem s e} {off size : Fin s.rank → Nat} {inb : ∀ a, off a + size a ≤ s.size a}
    {w : ((a : Fin s.rank) → Fin (size a)) → Elt F e} {hs : (b.access (Rect.unit off size inb)).Stores Finset.univ} {K : Pg nD τ sig F Λ}
    {X : s.Idx → Elt F e} {P P' R : sProp 𝕄}
    (h₁ : P ⊢ iprop(owns (c : Thread nD τ) b fullShare X ∗ R))
    (h₂ : iprop(owns (c : Thread nD τ) b fullShare (VecWindow.put X off size w) ∗ R) ⊢ P')
    (hK : P' ⊢ wp frame (wpE defs 𝒱 (c : Thread nD τ) bd) E K Q) :
    P ⊢ wp frame (wpE defs 𝒱 (c : Thread nD τ) bd) E (st b off size inb w hs K) Q := by
  refine h₁.trans ?_
  unfold owns
  iintro ⟨⟨%f, %hf, H⟩, HR⟩
  subst hf
  iapply (wp_store_writes₀ 𝒱 (c : Thread nD τ) bd E (m := b) (r := Rect.unit off size inb) (w := w)
    (View.set_slice_subset _ _)) $$ H
  iintro H
  iapply hK
  iapply h₂
  isplitl [H]
  · rw [← View.writes_nil b.view f, ← View.read_writes_cons_put b.view f inb w [] rfl, View.writes_nil]
    iapply (owns_intro (c : Thread nD τ) b fullShare _); iexact H
  iexact HR

end Attn

end
-- ==== Proof.Values.lean ====
/- What one block of queries computes, over any floats: the running maxima, the rescaled accumulators and the gated rows. -/
module

public import proofs.«01_k».proof.Proof.Stages

@[expose] public section

noncomputable section

namespace Attn

open Idealize.ShloMosaic Cert.KernelIdeal

variable {F : FTy → Type} [FloatOps F] [Scale F]

/-- An index of a block of 32 rows. -/
def ix32 (r : Fin 32) (c : Fin 512) : S1x1x32x512.Idx := fun
  | 0 => (0 : Fin 1) | 1 => (0 : Fin 1) | 2 => r | 3 => c

/-- The weights of 512 keys, 32 rows at a time. -/
def weightsAll (m : FVec F S1x512 .f32) (x : FVec F S1x1x512x512 .f32) : FVec F S1x1x512x512 .bf16 := fun i =>
  have h : (i 2).val < 512 := (i 2).isLt
  weights m (VecWindow.window x ![0, 0, 32 * ((i 2).val / 32), 0] S1x1x32x512.size (inb4 (by omega) (by omega) (by omega) (by omega)))
    (ix32 ⟨(i 2).val % 32, Nat.mod_lt _ (by omega)⟩ (i 3))

/-- Eight rows of the scores, from row `8 r` on. -/
def rows8 (x : FVec F S1x1x512x512 .f32) (r : Nat) (hr : r < 64) : FVec F S8x512 .f32 :=
  shapeCast S8x512 (VecWindow.window x ![0, 0, 8 * r, 0] S1x1x8x512.size (inb4 (by omega) (by omega) (by omega) (by omega))) casts_s8

/-- The running maximum over the blocks of eight rows from `64 - n` on. -/
def maxFrom (x : FVec F S1x1x512x512 .f32) : (n : Nat) → n < 64 → FVec F S8x512 .f32 → FVec F S8x512 .f32
  | 0, _, v => v
  | n + 1, h, v => maxFrom x n (by omega) (maximumf v (rows8 x (64 - (n + 1)) (by omega)))

/-- The maximum over the keys of a block, for each query. -/
def colMax (x : FVec F S1x1x512x512 .f32) : FVec F S1x512 .f32 := max8 (maxFrom x 63 (by omega) (rows8 x 0 (by omega)))

/-- The arrays the body reads. -/
structure Ins (F : FTy → Type) where
  q : FVec F S1x8x512x512 .f32
  k : FVec F S1x8x512x128 .bf16
  v : FVec F S1x8x144x512 .bf16
  z : FVec F S1x4096x512 .bf16

variable (I : Ins F)

theorem inbQ {t g : Nat} (ht : t < 8) (hg : g < 4) : ∀ i, (![0, t, 128 * g, 0] : Fin 4 → Nat) i + S1x1x128x512.size i ≤ S1x8x512x512.size i :=
  inb4 (by omega) (by omega) (by omega) (by omega)

theorem inbO {t g : Nat} (ht : t < 8) (hg : g < 4) : ∀ i, (![0, 512 * t, 128 * g] : Fin 3 → Nat) i + S1x512x128.size i ≤ S1x4096x512.size i :=
  inb3 (by omega) (by omega) (by omega)

/-- The scores of key block `j` against query block `t`, head `g`. -/
def sc (t g j : Nat) (ht : t < 8) (hg : g < 4) (hj : j < 8) : FVec F S1x1x512x512 .f32 :=
  scoreMat (VecWindow.window I.k ![0, j, 0, 0] S1x1x512x128.size (inbK hj)) (VecWindow.window I.q ![0, t, 128 * g, 0] S1x1x128x512.size (inbQ ht hg))

/-- The running maximum after key block `j`. -/
def mx (t g : Nat) (ht : t < 8) (hg : g < 4) : (j : Nat) → j < 8 → FVec F S1x512 .f32
  | 0, h => colMax (sc I t g 0 ht hg h)
  | j + 1, h => maximumf (mx t g ht hg j (by omega)) (colMax (sc I t g (j + 1) ht hg h))

/-- Key block `j`'s weighted sum of values, under the weights of the maximum after it. -/
def pvOf (t g : Nat) (ht : t < 8) (hg : g < 4) (j : Nat) (hj : j < 8) : FVec F S144x512 .f32 :=
  weighted (VecWindow.window I.v ![0, j, 0, 0] S1x1x144x512.size (inbV hj)) (weightsAll (mx I t g ht hg j hj) (sc I t g j ht hg hj))

/-- The accumulator after key block `j`. -/
def ac (t g : Nat) (ht : t < 8) (hg : g < 4) : (j : Nat) → j < 8 → FVec F S1x144x512 .f32
  | 0, h => shapeCast S1x144x512 (pvOf I t g ht hg 0 h) casts_a'
  | j + 1, h => rescaled (mx I t g ht hg j (by omega)) (mx I t g ht hg (j + 1) h) (ac t g ht hg j (by omega)) (pvOf I t g ht hg (j + 1) h)

/-- The rows of head `g` for query block `t`. -/
def outRows (t g : Nat) (ht : t < 8) (hg : g < 4) : FVec F S1x512x128 .bf16 :=
  gated (VecWindow.window (ac I t g ht hg 7 (by omega)) ![0, 0, 0] S1x128x512.size (inb3 (by omega) (by omega) (by omega)))
    (VecWindow.window (ac I t g ht hg 7 (by omega)) ![0, 128, 0] S1x1x512.size (inb3 (by omega) (by omega) (by omega)))
    (VecWindow.window I.z ![0, 512 * t, 128 * g] S1x512x128.size (inbO ht hg))

/-- An index of a block of output rows. -/
def ixO (r : Fin 512) (d : Fin 128) : S1x512x128.Idx := fun
  | 0 => (0 : Fin 1) | 1 => r | 2 => d

/-- The output the body leaves. -/
def out : FVec F S1x4096x512 .bf16 := fun i =>
  have h₁ : (i 1).val < 4096 := (i 1).isLt
  have h₂ : (i 2).val < 512 := (i 2).isLt
  outRows I ((i 1).val / 512) ((i 2).val / 128) (by omega) (by omega)
    (ixO ⟨(i 1).val % 512, Nat.mod_lt _ (by omega)⟩ ⟨(i 2).val % 128, Nat.mod_lt _ (by omega)⟩)

end Attn

end
-- ==== Proof.Steps.lean ====
/- What each stage of the body does to the buffers it keeps. -/
module

public import proofs.«01_k».proof.Proof.Rules
public import proofs.«01_k».proof.Proof.Values
public import Idealize.ShloMosaic.Lib.Pipeline.Value

@[expose] public section

noncomputable section

namespace Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal

variable {F : FTy → Type} [FloatOps F] [Scale F]

/-! ## Windows of windows -/

/-- Eight rows of a head's scores, read from the buffer. -/
theorem rows8_window (x : FVec F S2x4x512x512 .f32) {s g r : Nat} (hs : s < 2) (hg : g < 4) (hr : r < 64) :
    shapeCast S8x512 (VecWindow.window x ![s, g, 8 * r, 0] S1x1x8x512.size (inbS8 hs hg hr)) casts_s8
      = rows8 (VecWindow.window x ![s, g, 0, 0] S1x1x512x512.size (inbS hs hg)) r hr := by
  refine congrArg (fun v => shapeCast S8x512 v casts_s8) (funext fun y => congrArg x (funext fun a => Fin.ext ?_))
  match a with
  | 0 => show s + 1 * (y 0).val = s + 1 * (0 + 1 * (y 0).val); omega
  | 1 => show g + 1 * (y 1).val = g + 1 * (0 + 1 * (y 1).val); omega
  | 2 => show 8 * r + 1 * (y 2).val = 0 + 1 * (8 * r + 1 * (y 2).val); omega
  | 3 => show 0 + 1 * (y 3).val = 0 + 1 * (0 + 1 * (y 3).val); omega

/-- A head's weights, from what each 32 rows of the buffer hold. -/
theorem weightsAll_window (x : FVec F S2x4x512x512 .f32) (p : FVec F S2x4x512x512 .bf16) (m : FVec F S1x512 .f32) {s g : Nat} (hs : s < 2) (hg : g < 4)
    (h : ∀ r (hr : r < 16), VecWindow.window (s := S2x4x512x512) p ![s, g, 32 * r, 0] S1x1x32x512.size (inbS32 hs hg hr)
      = weights m (VecWindow.window x ![s, g, 32 * r, 0] S1x1x32x512.size (inbS32 hs hg hr))) :
    VecWindow.window (s := S2x4x512x512) p ![s, g, 0, 0] S1x1x512x512.size (inbS hs hg)
      = weightsAll m (VecWindow.window x ![s, g, 0, 0] S1x1x512x512.size (inbS hs hg)) := by
  funext y
  have h0 : (y 0).val < 1 := (y 0).isLt
  have h1 : (y 1).val < 1 := (y 1).isLt
  have h2 : (y 2).val < 512 := (y 2).isLt
  have hx : VecWindow.window x ![s, g, 32 * ((y 2).val / 32), 0] S1x1x32x512.size (inbS32 hs hg (by omega))
      = VecWindow.window (VecWindow.window x ![s, g, 0, 0] S1x1x512x512.size (inbS hs hg)) ![0, 0, 32 * ((y 2).val / 32), 0] S1x1x32x512.size
          (inb4 (by omega) (by omega) (by omega) (by omega)) := by
    refine funext fun z => congrArg x (funext fun a => Fin.ext ?_)
    match a with
    | 0 => show s + 1 * (z 0).val = s + 1 * (0 + 1 * (z 0).val); omega
    | 1 => show g + 1 * (z 1).val = g + 1 * (0 + 1 * (z 1).val); omega
    | 2 => show 32 * ((y 2).val / 32) + 1 * (z 2).val = 0 + 1 * (32 * ((y 2).val / 32) + 1 * (z 2).val); omega
    | 3 => show 0 + 1 * (z 3).val = 0 + 1 * (0 + 1 * (z 3).val); omega
  refine Eq.trans ?_ (congrFun (congrArg (weights m) hx) (ix32 ⟨(y 2).val % 32, Nat.mod_lt _ (by omega)⟩ (y 3)))
  rw [← h ((y 2).val / 32) (by omega)]
  refine congrArg p (funext fun a => Fin.ext ?_)
  match a with
  | 0 => show s + 1 * (y 0).val = s + 1 * 0; omega
  | 1 => show g + 1 * (y 1).val = g + 1 * 0; omega
  | 2 => show 0 + 1 * (y 2).val = 32 * ((y 2).val / 32) + 1 * ((y 2).val % 32); omega
  | 3 => rfl

/-- A window of a head's accumulator, read from the buffer. -/
theorem acc_window (x : FVec F S4x144x512 .f32) {g r n : Nat} (hg : g < 4) (hr : r + n ≤ 144) :
    VecWindow.window x ![g, r, 0] ![1, n, 512] (inb3 (by omega) hr (by omega))
      = VecWindow.window (s := S1x144x512) (VecWindow.window x ![g, 0, 0] S1x144x512.size (inbA hg)) ![0, r, 0] ![1, n, 512] (inb3 (by omega) hr (by omega)) := by
  refine funext fun z => congrArg x (funext fun a => Fin.ext ?_)
  match a with
  | 0 => show g + 1 * (z 0).val = g + 1 * (0 + 1 * (z 0).val); omega
  | 1 => show r + 1 * (z 1).val = 0 + 1 * (r + 1 * (z 1).val); omega
  | 2 => show 0 + 1 * (z 2).val = 0 + 1 * (0 + 1 * (z 2).val); omega

/-! ## The state -/

/-- What the buffers the body writes hold, but the weights. -/
structure St (F : FTy → Type) where
  m : FVec F S4x1x512 .f32
  a : FVec F S4x144x512 .f32
  s : FVec F S2x4x512x512 .f32
  o : FVec F S1x4096x512 .bf16

variable {sig : RefSig} {nD : Nat} {τ : Topo} {Λ : Labels} {U : Type} [URA U]

local notation "𝕄" => MT nD τ sig Unit (Elt F) ℕ U ℕ

/-- The core owns every buffer of the body, each at its contents. -/
def bufs (c : Dev nD) (B : Bufs sig) (I : Ins F) (m : FVec F S4x1x512 .f32) (a : FVec F S4x144x512 .f32) (s : FVec F S2x4x512x512 .f32)
    (o : FVec F S1x4096x512 .bf16) (p : FVec F S2x4x512x512 .bf16) : sProp 𝕄 :=
  iprop(owns (c : Thread nD τ) B.q fullShare I.q ∗ owns (c : Thread nD τ) B.k fullShare I.k ∗ owns (c : Thread nD τ) B.v fullShare I.v
    ∗ owns (c : Thread nD τ) B.z fullShare I.z ∗ owns (c : Thread nD τ) B.o fullShare o ∗ owns (c : Thread nD τ) B.m fullShare m
    ∗ owns (c : Thread nD τ) B.a fullShare a ∗ owns (c : Thread nD τ) B.s fullShare s ∗ owns (c : Thread nD τ) B.p fullShare p ∗ emp)

/-- The same, at the inputs `I`, the state `σ` and the weights `p`. -/
def holds (c : Dev nD) (B : Bufs sig) (I : Ins F) (σ : St F) (p : FVec F S2x4x512x512 .bf16) : sProp 𝕄 := bufs c B I σ.m σ.a σ.s σ.o p

/-- `P` is `X` beside `R`. -/
def Splits (P X R : sProp 𝕄) : Prop := (P ⊢ iprop(X ∗ R)) ∧ (iprop(X ∗ R) ⊢ P)

theorem splits_here {X R : sProp 𝕄} : Splits (iprop(X ∗ R)) X R := ⟨.rfl, .rfl⟩

theorem splits_next {A P X R : sProp 𝕄} (h : Splits P X R) : Splits (iprop(A ∗ P)) X (iprop(A ∗ R)) := by
  constructor
  · iintro ⟨HA, HP⟩
    ihave H := h.1 $$ HP
    icases H with ⟨HX, HR⟩
    isplitl [HX]; · iexact HX
    isplitl [HA]; · iexact HA
    iexact HR
  · iintro ⟨HX, HA, HR⟩
    isplitl [HA]; · iexact HA
    iapply h.2
    isplitl [HX]; · iexact HX
    iexact HR

variable {defs : Defs nD τ sig (Elt F) Λ} {𝒱 : Variants} {bd : Option 𝒱.V} {E : Set ℕ} {c : Dev nD} {Q : PUnit → sProp (MT nD τ sig Unit (Elt F) ℕ U ℕ)}
variable {B : Bufs sig} {I : Ins F}

/-- A load, by the split that finds its buffer. -/
theorem ld_split {s : Shape} {e : EltTy} {b : Memref sig .tc .vmem s e} {off size : Fin s.rank → Nat} {inb : ∀ a, off a + size a ≤ s.size a}
    {hn : 0 < (Rect.unit off size inb).toLoadRect.shape.numel} {K : (((a : Fin s.rank) → Fin (size a)) → Elt F e) → Pg nD τ sig F Λ}
    {X : s.Idx → Elt F e} {P R : sProp 𝕄} (h : Splits P (owns (c : Thread nD τ) b fullShare X) R)
    (hK : P ⊢ wp frame (wpE defs 𝒱 (c : Thread nD τ) bd) E (K (VecWindow.window X off size inb)) Q) :
    P ⊢ wp frame (wpE defs 𝒱 (c : Thread nD τ) bd) E (ld b off size inb hn K) Q := ld_rule h.1 h.2 hK

/-- A store, by the splits that find its buffer before and after. -/
theorem st_split {s : Shape} {e : EltTy} {b : Memref sig .tc .vmem s e} {off size : Fin s.rank → Nat} {inb : ∀ a, off a + size a ≤ s.size a}
    {w : ((a : Fin s.rank) → Fin (size a)) → Elt F e} {hs : (b.access (Rect.unit off size inb)).Stores Finset.univ} {K : Pg nD τ sig F Λ}
    {X : s.Idx → Elt F e} {P P' R : sProp 𝕄} (h : Splits P (owns (c : Thread nD τ) b fullShare X) R)
    (h' : Splits P' (owns (c : Thread nD τ) b fullShare (VecWindow.put X off size w)) R)
    (hK : P' ⊢ wp frame (wpE defs 𝒱 (c : Thread nD τ) bd) E K Q) :
    P ⊢ wp frame (wpE defs 𝒱 (c : Thread nD τ) bd) E (st b off size inb w hs K) Q := st_rule h.1 h'.2 hK

section Finds
variable {σ : St F} {p : FVec F S2x4x512x512 .bf16}
/-- Where each buffer stands in the state. -/
theorem find_q : ∃ R, Splits (holds c B I σ p : sProp 𝕄) (owns (c : Thread nD τ) B.q fullShare I.q) R := ⟨_, splits_here⟩
theorem find_k : ∃ R, Splits (holds c B I σ p : sProp 𝕄) (owns (c : Thread nD τ) B.k fullShare I.k) R := ⟨_, splits_next splits_here⟩
theorem find_v : ∃ R, Splits (holds c B I σ p : sProp 𝕄) (owns (c : Thread nD τ) B.v fullShare I.v) R := ⟨_, splits_next <| splits_next splits_here⟩
theorem find_z : ∃ R, Splits (holds c B I σ p : sProp 𝕄) (owns (c : Thread nD τ) B.z fullShare I.z) R :=
  ⟨_, splits_next <| splits_next <| splits_next splits_here⟩
theorem find_o (σ : St F) : ∃ R, ∀ o, Splits (holds c B I { σ with o := o } p : sProp 𝕄) (owns (c : Thread nD τ) B.o fullShare o) R :=
  ⟨_, fun x => show Splits (bufs c B I σ.m σ.a σ.s x p) _ _ from splits_next <| splits_next <| splits_next <| splits_next splits_here⟩
theorem find_m (σ : St F) : ∃ R, ∀ m, Splits (holds c B I { σ with m := m } p : sProp 𝕄) (owns (c : Thread nD τ) B.m fullShare m) R :=
  ⟨_, fun x => show Splits (bufs c B I x σ.a σ.s σ.o p) _ _ from splits_next <| splits_next <| splits_next <| splits_next <| splits_next splits_here⟩
theorem find_a (σ : St F) : ∃ R, ∀ a, Splits (holds c B I { σ with a := a } p : sProp 𝕄) (owns (c : Thread nD τ) B.a fullShare a) R :=
  ⟨_, fun x => show Splits (bufs c B I σ.m x σ.s σ.o p) _ _ from splits_next <| splits_next <| splits_next <| splits_next <| splits_next <| splits_next splits_here⟩
theorem find_s (σ : St F) : ∃ R, ∀ s, Splits (holds c B I { σ with s := s } p : sProp 𝕄) (owns (c : Thread nD τ) B.s fullShare s) R :=
  ⟨_, fun x => show Splits (bufs c B I σ.m σ.a x σ.o p) _ _ from splits_next <| splits_next <| splits_next <| splits_next <| splits_next <| splits_next <| splits_next splits_here⟩
theorem find_p (σ : St F) : ∃ R, ∀ p, Splits (holds c B I σ p : sProp 𝕄) (owns (c : Thread nD τ) B.p fullShare p) R :=
  ⟨_, fun _ => splits_next <| splits_next <| splits_next <| splits_next <| splits_next <| splits_next <| splits_next <| splits_next splits_here⟩
end Finds

/-! ## The inner loops -/

/-- The running maximum, over the blocks of eight rows that are left. -/
theorem maxRows_rule {s g : Nat} (hs : s < 2) (hg : g < 4) {K : FVec F S8x512 .f32 → Pg nD τ sig F Λ} {σ : St F} {p : FVec F S2x4x512x512 .bf16} :
    ∀ (n : Nat) (hn : n < 64) (v : FVec F S8x512 .f32),
      ((holds c B I σ p : sProp 𝕄) ⊢ wp frame (wpE defs 𝒱 (c : Thread nD τ) bd) E
        (K (maxFrom (VecWindow.window σ.s ![s, g, 0, 0] S1x1x512x512.size (inbS hs hg)) n hn v)) Q) →
      (holds c B I σ p : sProp 𝕄) ⊢ wp frame (wpE defs 𝒱 (c : Thread nD τ) bd) E (maxRows B s g hs hg K n hn v) Q
  | 0, _, _, h => h
  | n + 1, hn, v, h => by
    rw [maxRows]
    obtain ⟨R, hR⟩ := find_s (c := c) (B := B) (I := I) (p := p) (U := U) (τ := τ) σ
    refine ld_split (hn := n_s8) (hR σ.s) ?_
    rw [rows8_window σ.s (r := 64 - (n + 1)) hs hg (by omega)]
    exact maxRows_rule hs hg n (by omega) _ h

/-- The maximum of a head's scores. -/
theorem blockMax_rule {s g : Nat} (hs : s < 2) (hg : g < 4) {K : FVec F S1x512 .f32 → Pg nD τ sig F Λ} {σ : St F} {p : FVec F S2x4x512x512 .bf16}
    (h : (holds c B I σ p : sProp 𝕄) ⊢ wp frame (wpE defs 𝒱 (c : Thread nD τ) bd) E
      (K (colMax (VecWindow.window σ.s ![s, g, 0, 0] S1x1x512x512.size (inbS hs hg)))) Q) :
    (holds c B I σ p : sProp 𝕄) ⊢ wp frame (wpE defs 𝒱 (c : Thread nD τ) bd) E (blockMax B s g hs hg K) Q := by
  unfold blockMax
  obtain ⟨R, hR⟩ := find_s (c := c) (B := B) (I := I) (p := p) (U := U) (τ := τ) σ
  refine ld_split (hR σ.s) ?_
  refine maxRows_rule hs hg 63 (by omega) _ ?_
  have e := rows8_window σ.s (r := 0) hs hg (by omega)
  unfold colMax at h
  rw [← e] at h
  exact h

/-- The weights, over the blocks of 32 rows that are left. -/
theorem expRows_rule {s g : Nat} (hs : s < 2) (hg : g < 4) {K : Pg nD τ sig F Λ} {σ : St F} (m : FVec F S1x512 .f32)
    (h : ∀ p, (∀ r (hr : r < 16), VecWindow.window (s := S2x4x512x512) p ![s, g, 32 * r, 0] S1x1x32x512.size (inbS32 hs hg hr)
      = weights m (VecWindow.window σ.s ![s, g, 32 * r, 0] S1x1x32x512.size (inbS32 hs hg hr))) →
      (holds c B I σ p : sProp 𝕄) ⊢ wp frame (wpE defs 𝒱 (c : Thread nD τ) bd) E K Q) :
    ∀ (n : Nat) (hn : n < 17) (p : FVec F S2x4x512x512 .bf16)
      (_ : ∀ r (hr : r < 16), r < 16 - n → VecWindow.window (s := S2x4x512x512) p ![s, g, 32 * r, 0] S1x1x32x512.size (inbS32 hs hg hr)
        = weights m (VecWindow.window σ.s ![s, g, 32 * r, 0] S1x1x32x512.size (inbS32 hs hg hr))),
      (holds c B I σ p : sProp 𝕄) ⊢ wp frame (wpE defs 𝒱 (c : Thread nD τ) bd) E (expRows B s g hs hg m n hn K) Q
  | 0, _, p, hp => h p fun r hr => hp r hr hr
  | n + 1, hn, p, hp => by
    rw [expRows]
    obtain ⟨R, hR⟩ := find_s (c := c) (B := B) (I := I) (p := p) (U := U) (τ := τ) σ
    obtain ⟨R', hR'⟩ := find_p (c := c) (B := B) (I := I) (U := U) (τ := τ) σ
    refine ld_split (hR σ.s) (ld_split (hR' p) (st_split (hR' p) (hR' _) ?_))
    refine expRows_rule hs hg m h n (by omega) _ fun r hr hlt => ?_
    by_cases e : r = 16 - (n + 1)
    · subst e
      exact VecWindow.window_put_same _ _ _ _ _
    · refine (VecWindow.window_put_of_disjoint _ _ _ _ _ _ _ 2 ?_).trans (hp r hr (by omega))
      show 32 * r + 32 ≤ 32 * (16 - (n + 1)) ∨ 32 * (16 - (n + 1)) + 32 ≤ 32 * r
      omega

/-- All the weights of a head. -/
theorem expAll_rule {s g : Nat} (hs : s < 2) (hg : g < 4) {K : Pg nD τ sig F Λ} {σ : St F} (m : FVec F S1x512 .f32) (p : FVec F S2x4x512x512 .bf16)
    (h : ∀ p, VecWindow.window (s := S2x4x512x512) p ![s, g, 0, 0] S1x1x512x512.size (inbS hs hg)
        = weightsAll m (VecWindow.window σ.s ![s, g, 0, 0] S1x1x512x512.size (inbS hs hg)) →
      (holds c B I σ p : sProp 𝕄) ⊢ wp frame (wpE defs 𝒱 (c : Thread nD τ) bd) E K Q) :
    (holds c B I σ p : sProp 𝕄) ⊢ wp frame (wpE defs 𝒱 (c : Thread nD τ) bd) E (expRows B s g hs hg m 16 (by omega) K) Q :=
  expRows_rule hs hg m (fun p hp => h p (weightsAll_window σ.s p m hs hg hp)) 16 (by omega) p fun r hr hlt => absurd hlt (by omega)

/-! ## The stages -/

/-- The scores of a key block, put into their slot. -/
theorem scores_rule {off : Fin 4 → Nat} {inb : ∀ i, off i + S1x1x128x512.size i ≤ S1x8x512x512.size i} {j s g : Nat} {hj : j < 8} {hs : s < 2} {hg : g < 4}
    {K : Pg nD τ sig F Λ} {σ : St F} {p : FVec F S2x4x512x512 .bf16} {t : Nat} (ht : t < 8) (ho : off = ![0, t, 128 * g, 0])
    (h : (holds c B I { σ with s := VecWindow.put σ.s ![s, g, 0, 0] S1x1x512x512.size (sc I t g j ht hg hj) } p : sProp 𝕄)
      ⊢ wp frame (wpE defs 𝒱 (c : Thread nD τ) bd) E K Q) :
    (holds c B I σ p : sProp 𝕄) ⊢ wp frame (wpE defs 𝒱 (c : Thread nD τ) bd) E (scores B off inb j s g hj hs hg K) Q := by
  unfold scores
  subst ho
  obtain ⟨Rk, hk⟩ := find_k (c := c) (B := B) (I := I) (σ := σ) (p := p) (U := U) (τ := τ)
  obtain ⟨Rq, hq⟩ := find_q (c := c) (B := B) (I := I) (σ := σ) (p := p) (U := U) (τ := τ)
  obtain ⟨Rs, hS⟩ := find_s (c := c) (B := B) (I := I) (p := p) (U := U) (τ := τ) σ
  exact ld_split hq (ld_split hk (ld_split (hS σ.s) (st_split (hS σ.s) (hS _) h)))

/-- A block's weighted values. -/
theorem pvBlock_rule {j s g : Nat} {hj : j < 8} {hs : s < 2} {hg : g < 4} {K : FVec F S144x512 .f32 → Pg nD τ sig F Λ} {σ : St F} {p : FVec F S2x4x512x512 .bf16}
    (h : (holds c B I σ p : sProp 𝕄) ⊢ wp frame (wpE defs 𝒱 (c : Thread nD τ) bd) E
      (K (weighted (VecWindow.window I.v ![0, j, 0, 0] S1x1x144x512.size (inbV hj)) (VecWindow.window (s := S2x4x512x512) p ![s, g, 0, 0] S1x1x512x512.size (inbS hs hg)))) Q) :
    (holds c B I σ p : sProp 𝕄) ⊢ wp frame (wpE defs 𝒱 (c : Thread nD τ) bd) E (pvBlock B j s g hj hs hg K) Q := by
  unfold pvBlock
  obtain ⟨Rv, hv⟩ := find_v (c := c) (B := B) (I := I) (σ := σ) (p := p) (U := U) (τ := τ)
  obtain ⟨Rp, hp⟩ := find_p (c := c) (B := B) (I := I) (U := U) (τ := τ) σ
  exact ld_split hv (ld_split (hp p) h)

/-- The first key block's step. -/
theorem stepFirst_rule {g : Nat} {hg : g < 4} {K : Pg nD τ sig F Λ} {σ : St F} {p : FVec F S2x4x512x512 .bf16} {t : Nat} (ht : t < 8)
    (hS : VecWindow.window σ.s ![0, g, 0, 0] S1x1x512x512.size (inbS (by omega) hg) = sc I t g 0 ht hg (by omega))
    (h : ∀ p, (holds c B I { σ with
        m := VecWindow.put σ.m ![g, 0, 0] S1x1x512.size (shapeCast S1x1x512 (mx I t g ht hg 0 (by omega)) casts_m')
        a := VecWindow.put σ.a ![g, 0, 0] S1x144x512.size (ac I t g ht hg 0 (by omega)) } p : sProp 𝕄)
      ⊢ wp frame (wpE defs 𝒱 (c : Thread nD τ) bd) E K Q) :
    (holds c B I σ p : sProp 𝕄) ⊢ wp frame (wpE defs 𝒱 (c : Thread nD τ) bd) E (stepFirst B g hg K) Q := by
  unfold stepFirst
  obtain ⟨Rm, hm⟩ := find_m (c := c) (B := B) (I := I) (p := p) (U := U) (τ := τ) σ
  refine blockMax_rule (by omega) hg (ld_split (hm σ.m) (st_split (hm σ.m) (hm _) ?_))
  refine expAll_rule (by omega) hg _ p fun p' hp' => pvBlock_rule ?_
  obtain ⟨Ra, ha⟩ := find_a (c := c) (B := B) (I := I) (p := p') (U := U) (τ := τ)
    { σ with m := VecWindow.put σ.m ![g, 0, 0] S1x1x512.size (shapeCast S1x1x512 (colMax (VecWindow.window σ.s ![0, g, 0, 0] S1x1x512x512.size (inbS (by omega) hg))) casts_m') }
  refine ld_split (ha σ.a) (st_split (ha σ.a) (ha _) ?_)
  rw [hp']
  dsimp only
  rw [hS]
  exact h p'

/-- A later key block's step. -/
theorem stepNext_rule {j s g : Nat} {hj : j + 1 < 8} {hs : s < 2} {hg : g < 4} {K : Pg nD τ sig F Λ} {σ : St F} {p : FVec F S2x4x512x512 .bf16} {t : Nat} (ht : t < 8)
    (hS : VecWindow.window σ.s ![s, g, 0, 0] S1x1x512x512.size (inbS hs hg) = sc I t g (j + 1) ht hg hj)
    (hM : VecWindow.window σ.m ![g, 0, 0] S1x1x512.size (inbM hg) = shapeCast S1x1x512 (mx I t g ht hg j (by omega)) casts_m')
    (hA : VecWindow.window σ.a ![g, 0, 0] S1x144x512.size (inbA hg) = ac I t g ht hg j (by omega))
    (h : ∀ p, (holds c B I { σ with
        m := VecWindow.put σ.m ![g, 0, 0] S1x1x512.size (shapeCast S1x1x512 (mx I t g ht hg (j + 1) hj) casts_m')
        a := VecWindow.put σ.a ![g, 0, 0] S1x144x512.size (ac I t g ht hg (j + 1) hj) } p : sProp 𝕄)
      ⊢ wp frame (wpE defs 𝒱 (c : Thread nD τ) bd) E K Q) :
    (holds c B I σ p : sProp 𝕄) ⊢ wp frame (wpE defs 𝒱 (c : Thread nD τ) bd) E (stepNext B (j + 1) s g hj hs hg K) Q := by
  unfold stepNext
  obtain ⟨Rm, hm⟩ := find_m (c := c) (B := B) (I := I) (p := p) (U := U) (τ := τ) σ
  refine blockMax_rule hs hg (ld_split (hm σ.m) (ld_split (hm σ.m) (st_split (hm σ.m) (hm _) ?_)))
  rw [hS, hM, shapeCast_shapeCast]
  refine expAll_rule hs hg _ p fun p' hp' => pvBlock_rule ?_
  obtain ⟨Ra, ha⟩ := find_a (c := c) (B := B) (I := I) (p := p') (U := U) (τ := τ)
    { σ with m := VecWindow.put σ.m ![g, 0, 0] S1x1x512.size (shapeCast S1x1x512 (mx I t g ht hg (j + 1) hj) casts_m') }
  refine ld_split (ha σ.a) (ld_split (ha σ.a) (st_split (ha σ.a) (ha _) ?_))
  rw [hp']
  dsimp only
  rw [hS, hA]
  exact h p'

/-- A head's output rows. -/
theorem finish_rule {off : Fin 3 → Nat} {inb : ∀ i, off i + S1x512x128.size i ≤ S1x4096x512.size i}
    {hpk : (Rect.unit (s := S1x4096x512) off S1x512x128.size inb).PackedRows (EltTy.packing .bf16)} {g : Nat} {hg : g < 4}
    {K : Pg nD τ sig F Λ} {σ : St F} {p : FVec F S2x4x512x512 .bf16} {t : Nat} (ht : t < 8) (ho : off = ![0, 512 * t, 128 * g])
    (hA : VecWindow.window σ.a ![g, 0, 0] S1x144x512.size (inbA hg) = ac I t g ht hg 7 (by omega))
    (h : (holds c B I { σ with o := VecWindow.put σ.o ![0, 512 * t, 128 * g] S1x512x128.size (outRows I t g ht hg) } p : sProp 𝕄)
      ⊢ wp frame (wpE defs 𝒱 (c : Thread nD τ) bd) E K Q) :
    (holds c B I σ p : sProp 𝕄) ⊢ wp frame (wpE defs 𝒱 (c : Thread nD τ) bd) E (finish B off inb hpk g hg K) Q := by
  unfold finish
  subst ho
  obtain ⟨Ra, ha⟩ := find_a (c := c) (B := B) (I := I) (p := p) (U := U) (τ := τ) σ
  obtain ⟨Rz, hz⟩ := find_z (c := c) (B := B) (I := I) (σ := σ) (p := p) (U := U) (τ := τ)
  obtain ⟨Ro, hO⟩ := find_o (c := c) (B := B) (I := I) (p := p) (U := U) (τ := τ) σ
  refine ld_split (ha σ.a) (ld_split (ha σ.a) (ld_split hz (ld_split (hO σ.o) (st_split (hO σ.o) (hO _) ?_))))
  have e₁ := acc_window σ.a (r := 0) (n := 128) hg (by omega)
  have e₂ := acc_window σ.a (r := 128) (n := 1) hg (by omega)
  rw [hA] at e₁ e₂
  unfold outRows at h
  rw [← e₁, ← e₂] at h
  exact h

end Attn

end
-- ==== Proof.Trip.lean ====
/- One trip of the body, and the whole body: it leaves the output `out` whatever its own buffers held. -/
module

public import proofs.«01_k».proof.Proof.Steps

@[expose] public section

noncomputable section

namespace Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal

variable {F : FTy → Type} [FloatOps F] [Scale F]

/-! ## What a put leaves in each head's part -/

/-- The scores of slot `s`, head `g`. -/
abbrev slot (x : FVec F S2x4x512x512 .f32) (s g : Nat) (hs : s < 2) (hg : g < 4) : FVec F S1x1x512x512 .f32 :=
  VecWindow.window x ![s, g, 0, 0] S1x1x512x512.size (inbS hs hg)

/-- The running maximum of head `g`. -/
abbrev mrow (x : FVec F S4x1x512 .f32) (g : Nat) (hg : g < 4) : FVec F S1x1x512 .f32 := VecWindow.window x ![g, 0, 0] S1x1x512.size (inbM hg)

/-- The accumulator of head `g`. -/
abbrev arow (x : FVec F S4x144x512 .f32) (g : Nat) (hg : g < 4) : FVec F S1x144x512 .f32 := VecWindow.window x ![g, 0, 0] S1x144x512.size (inbA hg)

theorem slot_put (x : FVec F S2x4x512x512 .f32) (s g s' g' : Nat) (hs' : s' < 2) (hg' : g' < 4) (w : FVec F S1x1x512x512 .f32) (h : s ≠ s' ∨ g ≠ g') :
    slot (VecWindow.put x ![s, g, 0, 0] S1x1x512x512.size w) s' g' hs' hg' = slot x s' g' hs' hg' := by
  by_cases e : s = s'
  · refine VecWindow.window_put_of_disjoint x _ _ _ _ _ w 1 ?_
    show g' + 1 ≤ g ∨ g + 1 ≤ g'
    omega
  · refine VecWindow.window_put_of_disjoint x _ _ _ _ _ w 0 ?_
    show s' + 1 ≤ s ∨ s + 1 ≤ s'
    omega

theorem mrow_put (x : FVec F S4x1x512 .f32) (g g' : Nat) (hg' : g' < 4) (w : FVec F S1x1x512 .f32) (h : g ≠ g') :
    mrow (VecWindow.put x ![g, 0, 0] S1x1x512.size w) g' hg' = mrow x g' hg' := by
  refine VecWindow.window_put_of_disjoint x _ _ _ _ _ w 0 ?_
  show g' + 1 ≤ g ∨ g + 1 ≤ g'
  omega

theorem arow_put (x : FVec F S4x144x512 .f32) (g g' : Nat) (hg' : g' < 4) (w : FVec F S1x144x512 .f32) (h : g ≠ g') :
    arow (VecWindow.put x ![g, 0, 0] S1x144x512.size w) g' hg' = arow x g' hg' := by
  refine VecWindow.window_put_of_disjoint x _ _ _ _ _ w 0 ?_
  show g' + 1 ≤ g ∨ g + 1 ≤ g'
  omega

variable (I : Ins F)

/-- The output rows of the query blocks below `t`, and of the heads below `n` of block `t`, are in place. -/
def Done (t n : Nat) (o : FVec F S1x4096x512 .bf16) : Prop :=
  ∀ i : S1x4096x512.Idx, (i 1).val < 512 * t ∨ (i 1).val < 512 * (t + 1) ∧ (i 2).val < 128 * n → o i = out I i

theorem Done.next {t : Nat} {o : FVec F S1x4096x512 .bf16} (h : Done I t 4 o) : Done I (t + 1) 0 o := fun i hi => by
  have h₂ : (i 2).val < 512 := (i 2).isLt
  exact h i (by omega)

theorem Done.all {o : FVec F S1x4096x512 .bf16} (h : Done I 8 0 o) : o = out I := funext fun i => by
  have h₁ : (i 1).val < 4096 := (i 1).isLt
  exact h i (by omega)

theorem Done.put {t n : Nat} {o : FVec F S1x4096x512 .bf16} (ht : t < 8) (hn : n < 4) (h : Done I t n o) :
    Done I t (n + 1) (VecWindow.put o ![0, 512 * t, 128 * n] S1x512x128.size (outRows I t n ht hn)) := fun i hi => by
  have h0 : (i 0).val < 1 := (i 0).isLt
  have h₁ : (i 1).val < 4096 := (i 1).isLt
  have h₂ : (i 2).val < 512 := (i 2).isLt
  unfold VecWindow.put
  by_cases hin : 512 * t ≤ (i 1).val ∧ (i 1).val < 512 * t + 512 ∧ 128 * n ≤ (i 2).val ∧ (i 2).val < 128 * n + 128
  · have hall : ∀ a : Fin 3, (![0, 512 * t, 128 * n] : Fin 3 → Nat) a ≤ (i a).val ∧ (i a).val < (![0, 512 * t, 128 * n] : Fin 3 → Nat) a + S1x512x128.size a := by
      intro a
      match a with
      | 0 => exact ⟨Nat.zero_le _, by show (i 0).val < 0 + 1; omega⟩
      | 1 => exact ⟨by show 512 * t ≤ (i 1).val; omega, by show (i 1).val < 512 * t + 512; omega⟩
      | 2 => exact ⟨by show 128 * n ≤ (i 2).val; omega, by show (i 2).val < 128 * n + 128; omega⟩
    rw [dif_pos hall]
    unfold out
    have e₁ : (i 1).val / 512 = t := by omega
    have e₂ : (i 2).val / 128 = n := by omega
    have e : ∀ (t' n' : Nat) (ht' : t' < 8) (hn' : n' < 4), t' = t → n' = n → outRows I t n ht hn = outRows I t' n' ht' hn' := by
      rintro _ _ _ _ rfl rfl; rfl
    refine congr (e _ _ (by omega) (by omega) e₁ e₂) (funext fun a => Fin.ext ?_)
    match a with
    | 0 => show (i 0).val - 0 = 0; omega
    | 1 => show (i 1).val - 512 * t = (i 1).val % 512; omega
    | 2 => show (i 2).val - 128 * n = (i 2).val % 128; omega
  · rw [dif_neg fun hall => hin ?_]
    · exact h i (by omega)
    · have a₁ : 512 * t ≤ (i 1).val ∧ (i 1).val < 512 * t + 512 := hall 1
      have a₂ : 128 * n ≤ (i 2).val ∧ (i 2).val < 128 * n + 128 := hall 2
      omega

/-- Within key block `j` of query block `t`, the heads below `n` done: the scores at hand in slot `s`, the next ones (of key block
    `j₂` of query block `t₂`) going into slot `s'`. -/
structure Mid (t j s s' t₂ j₂ n : Nat) (ht : t < 8) (hj : j < 8) (hs : s < 2) (hs' : s' < 2) (ht₂ : t₂ < 8) (hj₂ : j₂ < 8) (σ : St F) : Prop where
  cur : ∀ g (hg : g < 4), n ≤ g → slot σ.s s g hs hg = sc I t g j ht hg hj
  nxt : ∀ g (hg : g < 4), g < n → slot σ.s s' g hs' hg = sc I t₂ g j₂ ht₂ hg hj₂
  newM : ∀ g (hg : g < 4), g < n → mrow σ.m g hg = shapeCast S1x1x512 (mx I t g ht hg j hj) casts_m'
  newA : ∀ g (hg : g < 4), g < n → arow σ.a g hg = ac I t g ht hg j hj
  oldM : ∀ i (hi : i < 8), j = i + 1 → ∀ g (hg : g < 4), n ≤ g → mrow σ.m g hg = shapeCast S1x1x512 (mx I t g ht hg i hi) casts_m'
  oldA : ∀ i (hi : i < 8), j = i + 1 → ∀ g (hg : g < 4), n ≤ g → arow σ.a g hg = ac I t g ht hg i hi
  done : Done I t 0 σ.o

variable {I}

/-- A head's scores and step take the block one head on. -/
theorem Mid.step {t j s s' t₂ j₂ n : Nat} {ht : t < 8} {hj : j < 8} {hs : s < 2} {hs' : s' < 2} {ht₂ : t₂ < 8} {hj₂ : j₂ < 8} {σ : St F}
    (h : Mid I t j s s' t₂ j₂ n ht hj hs hs' ht₂ hj₂ σ) (hn : n < 4) (hne : s' ≠ s) :
    Mid I t j s s' t₂ j₂ (n + 1) ht hj hs hs' ht₂ hj₂
      { s := VecWindow.put σ.s ![s', n, 0, 0] S1x1x512x512.size (sc I t₂ n j₂ ht₂ hn hj₂)
        m := VecWindow.put σ.m ![n, 0, 0] S1x1x512.size (shapeCast S1x1x512 (mx I t n ht hn j hj) casts_m')
        a := VecWindow.put σ.a ![n, 0, 0] S1x144x512.size (ac I t n ht hn j hj)
        o := σ.o } where
  cur g hg hle := (slot_put _ _ _ _ _ _ _ _ (.inl hne)).trans (h.cur g hg (by omega))
  nxt g hg hlt := by
    by_cases e : g = n
    · subst e; exact VecWindow.window_put_same _ _ _ _ _
    · exact (slot_put _ _ _ _ _ _ _ _ (.inr (Ne.symm e))).trans (h.nxt g hg (by omega))
  newM g hg hlt := by
    by_cases e : g = n
    · subst e; exact VecWindow.window_put_same _ _ _ _ _
    · exact (mrow_put _ _ _ _ _ (Ne.symm e)).trans (h.newM g hg (by omega))
  newA g hg hlt := by
    by_cases e : g = n
    · subst e; exact VecWindow.window_put_same _ _ _ _ _
    · exact (arow_put _ _ _ _ _ (Ne.symm e)).trans (h.newA g hg (by omega))
  oldM i hi e g hg hle := (mrow_put _ _ _ _ _ (by omega)).trans (h.oldM i hi e g hg (by omega))
  oldA i hi e g hg hle := (arow_put _ _ _ _ _ (by omega)).trans (h.oldA i hi e g hg (by omega))
  done := h.done

/-- A block done is the next block begun. -/
theorem Mid.next {t j s s' j₂ s₂ t₃ j₃ : Nat} {ht : t < 8} {hj : j < 8} {hs : s < 2} {hs' : s' < 2} {hj₂ : j₂ < 8} {hs₂ : s₂ < 2} {ht₃ : t₃ < 8} {hj₃ : j₃ < 8}
    {σ : St F} (h : Mid I t j s s' t j₂ 4 ht hj hs hs' ht hj₂ σ) (e : j₂ = j + 1) :
    Mid I t j₂ s' s₂ t₃ j₃ 0 ht hj₂ hs' hs₂ ht₃ hj₃ σ where
  cur g hg _ := h.nxt g hg hg
  nxt g hg hlt := absurd hlt (Nat.not_lt_zero g)
  newM g hg hlt := absurd hlt (Nat.not_lt_zero g)
  newA g hg hlt := absurd hlt (Nat.not_lt_zero g)
  oldM i hi e' g hg _ := by
    obtain rfl : i = j := by omega
    exact h.newM g hg hg
  oldA i hi e' g hg _ := by
    obtain rfl : i = j := by omega
    exact h.newA g hg hg
  done := h.done

/-! ## The blocks -/

variable {sig : RefSig} {nD : Nat} {τ : Topo} {Λ : Labels} {U : Type} [URA U]

local notation "𝕄" => MT nD τ sig Unit (Elt F) ℕ U ℕ

variable {defs : Defs nD τ sig (Elt F) Λ} {𝒱 : Variants} {bd : Option 𝒱.V} {E : Set ℕ} {c : Dev nD} {Q : PUnit → sProp (MT nD τ sig Unit (Elt F) ℕ U ℕ)}
variable {B : Bufs sig}

/-- One head of key block 0. -/
theorem headFirst_rule {off : Fin 4 → Nat} {inb : ∀ i, off i + S1x1x128x512.size i ≤ S1x8x512x512.size i} {t n : Nat} {ht : t < 8} {hn : n < 4}
    {K : Pg nD τ sig F Λ} (ho : off = ![0, t, 128 * n, 0])
    (h : ∀ σ p, Mid I t 0 0 1 t 1 (n + 1) ht (by omega) (by omega) (by omega) ht (by omega) σ →
      (holds c B I σ p : sProp 𝕄) ⊢ wp frame (wpE defs 𝒱 (c : Thread nD τ) bd) E K Q)
    {σ : St F} {p : FVec F S2x4x512x512 .bf16} (hm : Mid I t 0 0 1 t 1 n ht (by omega) (by omega) (by omega) ht (by omega) σ) :
    (holds c B I σ p : sProp 𝕄) ⊢ wp frame (wpE defs 𝒱 (c : Thread nD τ) bd) E
      (scores B off inb 1 1 n (by omega) (by omega) hn (stepFirst B n hn K)) Q :=
  scores_rule ht ho (stepFirst_rule ht ((slot_put _ _ _ _ _ _ _ _ (.inl (by omega))).trans (hm.cur n hn (Nat.le_refl n)))
    fun p => h _ p (hm.step hn (by omega)))

/-- One head of a later key block. -/
theorem headNext_rule {off : Fin 4 → Nat} {inb : ∀ i, off i + S1x1x128x512.size i ≤ S1x8x512x512.size i} {t j s s' t₂ j₂ n : Nat} {ht : t < 8} {hj : j + 1 < 8}
    {hs : s < 2} {hs' : s' < 2} {ht₂ : t₂ < 8} {hj₂ : j₂ < 8} {hn : n < 4} {K : Pg nD τ sig F Λ} (hne : s' ≠ s) (ho : off = ![0, t₂, 128 * n, 0])
    (h : ∀ σ p, Mid I t (j + 1) s s' t₂ j₂ (n + 1) ht hj hs hs' ht₂ hj₂ σ →
      (holds c B I σ p : sProp 𝕄) ⊢ wp frame (wpE defs 𝒱 (c : Thread nD τ) bd) E K Q)
    {σ : St F} {p : FVec F S2x4x512x512 .bf16} (hm : Mid I t (j + 1) s s' t₂ j₂ n ht hj hs hs' ht₂ hj₂ σ) :
    (holds c B I σ p : sProp 𝕄) ⊢ wp frame (wpE defs 𝒱 (c : Thread nD τ) bd) E
      (scores B off inb j₂ s' n hj₂ hs' hn (stepNext B (j + 1) s n hj hs hn K)) Q :=
  scores_rule ht₂ ho (stepNext_rule ht ((slot_put _ _ _ _ _ _ _ _ (.inl hne)).trans (hm.cur n hn (Nat.le_refl n)))
    (hm.oldM j (by omega) rfl n hn (Nat.le_refl n)) (hm.oldA j (by omega) rfl n hn (Nat.le_refl n))
    fun p => h _ p (hm.step hn hne))

/-- Where a trip's rows lie, in numbers: block `t`'s, and block `t₂`'s for the scores of the block after. -/
structure OffsAt (T : Offs) (t t₂ : Nat) : Prop where
  q0 : T.q 0 = ![0, t, 128 * 0, 0]
  q1 : T.q 1 = ![0, t, 128 * 1, 0]
  q2 : T.q 2 = ![0, t, 128 * 2, 0]
  q3 : T.q 3 = ![0, t, 128 * 3, 0]
  r0 : T.q' 0 = ![0, t₂, 128 * 0, 0]
  r1 : T.q' 1 = ![0, t₂, 128 * 1, 0]
  r2 : T.q' 2 = ![0, t₂, 128 * 2, 0]
  r3 : T.q' 3 = ![0, t₂, 128 * 3, 0]
  o0 : T.o 0 = ![0, 512 * t, 128 * 0]
  o1 : T.o 1 = ![0, 512 * t, 128 * 1]
  o2 : T.o 2 = ![0, 512 * t, 128 * 2]
  o3 : T.o 3 = ![0, 512 * t, 128 * 3]

variable {T : Offs} {t t₂ : Nat}

/-- Key block 0. -/
theorem blockFirst_rule {ht : t < 8} {K : Pg nD τ sig F Λ} (hT : OffsAt T t t₂)
    (h : ∀ σ p, Mid I t 0 0 1 t 1 4 ht (by omega) (by omega) (by omega) ht (by omega) σ →
      (holds c B I σ p : sProp 𝕄) ⊢ wp frame (wpE defs 𝒱 (c : Thread nD τ) bd) E K Q)
    {σ : St F} {p : FVec F S2x4x512x512 .bf16} (hm : Mid I t 0 0 1 t 1 0 ht (by omega) (by omega) (by omega) ht (by omega) σ) :
    (holds c B I σ p : sProp 𝕄) ⊢ wp frame (wpE defs 𝒱 (c : Thread nD τ) bd) E (blockFirst B T K) Q := by
  unfold blockFirst
  refine headFirst_rule (n := 0) hT.q0 (fun _ _ h₁ => ?_) hm
  refine headFirst_rule (n := 1) hT.q1 (fun _ _ h₂ => ?_) h₁
  refine headFirst_rule (n := 2) hT.q2 (fun _ _ h₃ => ?_) h₂
  exact headFirst_rule (n := 3) hT.q3 h h₃

/-- A later key block, not the last. -/
theorem blockMid_rule {j s s' : Nat} {ht : t < 8} {hj : j + 1 < 8} {hs : s < 2} {hs' : s' < 2} {K : Pg nD τ sig F Λ} (hT : OffsAt T t t₂) (hne : s' ≠ s)
    (hpos : 0 < j)
    (h : ∀ σ p, Mid I t j s s' t (j + 1) 4 ht (by omega) hs hs' ht hj σ →
      (holds c B I σ p : sProp 𝕄) ⊢ wp frame (wpE defs 𝒱 (c : Thread nD τ) bd) E K Q)
    {σ : St F} {p : FVec F S2x4x512x512 .bf16} (hm : Mid I t j s s' t (j + 1) 0 ht (by omega) hs hs' ht hj σ) :
    (holds c B I σ p : sProp 𝕄) ⊢ wp frame (wpE defs 𝒱 (c : Thread nD τ) bd) E (blockMid B T j s s' hj hs hs' K) Q := by
  obtain ⟨i, rfl⟩ : ∃ i, j = i + 1 := ⟨j - 1, by omega⟩
  unfold blockMid
  refine headNext_rule (n := 0) hne hT.q0 (fun _ _ h₁ => ?_) hm
  refine headNext_rule (n := 1) hne hT.q1 (fun _ _ h₂ => ?_) h₁
  refine headNext_rule (n := 2) hne hT.q2 (fun _ _ h₃ => ?_) h₂
  exact headNext_rule (n := 3) hne hT.q3 h h₃

/-- The last key block. -/
theorem blockLast_rule {ht : t < 8} {ht₂ : t₂ < 8} {K : Pg nD τ sig F Λ} (hT : OffsAt T t t₂)
    (h : ∀ σ p, Mid I t (6 + 1) 1 0 t₂ 0 4 ht (by omega) (by omega) (by omega) ht₂ (by omega) σ →
      (holds c B I σ p : sProp 𝕄) ⊢ wp frame (wpE defs 𝒱 (c : Thread nD τ) bd) E K Q)
    {σ : St F} {p : FVec F S2x4x512x512 .bf16} (hm : Mid I t (6 + 1) 1 0 t₂ 0 0 ht (by omega) (by omega) (by omega) ht₂ (by omega) σ) :
    (holds c B I σ p : sProp 𝕄) ⊢ wp frame (wpE defs 𝒱 (c : Thread nD τ) bd) E (blockLast B T K) Q := by
  unfold blockLast
  refine headNext_rule (j := 6) (n := 0) (by omega) hT.r0 (fun _ _ h₁ => ?_) hm
  refine headNext_rule (j := 6) (n := 1) (by omega) hT.r1 (fun _ _ h₂ => ?_) h₁
  refine headNext_rule (j := 6) (n := 2) (by omega) hT.r2 (fun _ _ h₃ => ?_) h₂
  exact headNext_rule (j := 6) (n := 3) (by omega) hT.r3 h h₃

/-! ## The trip -/

/-- Before trip `t`: its first scores are at hand, and the rows below are done. -/
structure Begun (I : Ins F) (t : Nat) (σ : St F) : Prop where
  cur : ∀ g (hg : g < 4), slot σ.s 0 g (by omega) hg = sc I (min t 7) g 0 (by omega) hg (by omega)
  done : Done I t 0 σ.o

/-- With head `n`'s rows next. -/
structure Finishing (I : Ins F) (t t₂ n : Nat) (ht : t < 8) (ht₂ : t₂ < 8) (σ : St F) : Prop where
  acc : ∀ g (hg : g < 4), arow σ.a g hg = ac I t g ht hg 7 (by omega)
  nxt : ∀ g (hg : g < 4), slot σ.s 0 g (by omega) hg = sc I t₂ g 0 ht₂ hg (by omega)
  done : Done I t n σ.o

/-- One head's output rows. -/
theorem head_finish {off : Fin 3 → Nat} {inb : ∀ i, off i + S1x512x128.size i ≤ S1x4096x512.size i}
    {hpk : (Rect.unit (s := S1x4096x512) off S1x512x128.size inb).PackedRows (EltTy.packing .bf16)} {n : Nat} {hn : n < 4} {ht : t < 8} {ht₂ : t₂ < 8}
    {K : Pg nD τ sig F Λ} (ho : off = ![0, 512 * t, 128 * n])
    (h : ∀ σ p, Finishing I t t₂ (n + 1) ht ht₂ σ → (holds c B I σ p : sProp 𝕄) ⊢ wp frame (wpE defs 𝒱 (c : Thread nD τ) bd) E K Q)
    {σ : St F} {p : FVec F S2x4x512x512 .bf16} (hf : Finishing I t t₂ n ht ht₂ σ) :
    (holds c B I σ p : sProp 𝕄) ⊢ wp frame (wpE defs 𝒱 (c : Thread nD τ) bd) E (finish B off inb hpk n hn K) Q :=
  finish_rule ht ho (hf.acc n hn) (h _ p ⟨hf.acc, hf.nxt, hf.done.put I ht hn⟩)

/-- A trip takes the state before it to the state before the next. -/
theorem trip_rule {K : Pg nD τ sig F Λ} (ht : t < 8) (hT : OffsAt T t (min (t + 1) 7))
    (h : ∀ σ p, Begun I (t + 1) σ → (holds c B I σ p : sProp 𝕄) ⊢ wp frame (wpE defs 𝒱 (c : Thread nD τ) bd) E K Q)
    {σ : St F} {p : FVec F S2x4x512x512 .bf16} (hb : Begun I t σ) :
    (holds c B I σ p : sProp 𝕄) ⊢ wp frame (wpE defs 𝒱 (c : Thread nD τ) bd) E (trip B T K) Q := by
  have ht₂ : min (t + 1) 7 < 8 := by omega
  have hm : Mid I t 0 0 1 t 1 0 ht (by omega) (by omega) (by omega) ht (by omega) σ :=
    { cur := fun g hg _ => by
        have e := hb.cur g hg
        have e' : ∀ u (hu : u < 8), u = t → sc I u g 0 hu hg (by omega) = sc I t g 0 ht hg (by omega) := by rintro _ _ rfl; rfl
        exact e.trans (e' _ _ (by omega))
      nxt := fun g hg hlt => absurd hlt (Nat.not_lt_zero g)
      newM := fun g hg hlt => absurd hlt (Nat.not_lt_zero g)
      newA := fun g hg hlt => absurd hlt (Nat.not_lt_zero g)
      oldM := fun i hi e => absurd e (by omega)
      oldA := fun i hi e => absurd e (by omega)
      done := hb.done }
  unfold trip
  refine blockFirst_rule hT (fun σ p h₀ => ?_) hm
  refine blockMid_rule hT (by omega) (by omega) (fun σ p h₁ => ?_) (h₀.next rfl)
  refine blockMid_rule hT (by omega) (by omega) (fun σ p h₂ => ?_) (h₁.next rfl)
  refine blockMid_rule hT (by omega) (by omega) (fun σ p h₃ => ?_) (h₂.next rfl)
  refine blockMid_rule hT (by omega) (by omega) (fun σ p h₄ => ?_) (h₃.next rfl)
  refine blockMid_rule hT (by omega) (by omega) (fun σ p h₅ => ?_) (h₄.next rfl)
  refine blockMid_rule hT (by omega) (by omega) (fun σ p h₆ => ?_) (h₅.next rfl)
  refine blockLast_rule (ht₂ := ht₂) hT (fun σ p h₇ => ?_) (h₆.next rfl)
  have f₀ : Finishing I t _ 0 ht ht₂ _ := ⟨fun g hg => h₇.newA g hg hg, fun g hg => h₇.nxt g hg hg, h₇.done⟩
  refine head_finish (n := 0) hT.o0 (fun _ _ f₁ => ?_) f₀
  refine head_finish (n := 1) hT.o1 (fun _ _ f₂ => ?_) f₁
  refine head_finish (n := 2) hT.o2 (fun _ _ f₃ => ?_) f₂
  exact head_finish (n := 3) hT.o3 (fun σ p f₄ => h σ p ⟨f₄.nxt, f₄.done.next⟩) f₃

/-- The prologue's scores begin trip 0. -/
theorem prologue_rule {K : Pg nD τ sig F Λ}
    (h : ∀ σ p, Begun I 0 σ → (holds c B I σ p : sProp 𝕄) ⊢ wp frame (wpE defs 𝒱 (c : Thread nD τ) bd) E K Q)
    {σ : St F} {p : FVec F S2x4x512x512 .bf16} :
    (holds c B I σ p : sProp 𝕄) ⊢ wp frame (wpE defs 𝒱 (c : Thread nD τ) bd) E (prologue B K) Q := by
  unfold prologue
  refine scores_rule (t := 0) (g := 0) (by omega) rfl ?_
  refine scores_rule (t := 0) (g := 1) (by omega) rfl ?_
  refine scores_rule (t := 0) (g := 2) (by omega) rfl ?_
  refine scores_rule (t := 0) (g := 3) (by omega) rfl (h _ p ⟨fun g hg => ?_, fun i hi => absurd hi (by omega)⟩)
  match g, hg with
  | 3, _ => exact VecWindow.window_put_same _ _ _ _ _
  | 2, _ => exact (slot_put _ _ _ _ _ _ _ _ (.inr (by omega))).trans (VecWindow.window_put_same _ _ _ _ _)
  | 1, _ => exact (slot_put _ _ _ _ _ _ _ _ (.inr (by omega))).trans ((slot_put _ _ _ _ _ _ _ _ (.inr (by omega))).trans (VecWindow.window_put_same _ _ _ _ _))
  | 0, _ => exact (slot_put _ _ _ _ _ _ _ _ (.inr (by omega))).trans ((slot_put _ _ _ _ _ _ _ _ (.inr (by omega))).trans
      ((slot_put _ _ _ _ _ _ _ _ (.inr (by omega))).trans (VecWindow.window_put_same _ _ _ _ _)))

/-- The whole body: the prologue and eight trips leave the output `out`. -/
theorem body_rule (lb ub st : BitVec 32) (hok : Scf.OK lb ub st) (h8 : Scf.trips lb ub st = 8) (Ts : Fin (Scf.trips lb ub st) → Offs)
    (hTs : ∀ k, OffsAt (Ts k) k.val (min (k.val + 1) 7))
    {G : sProp 𝕄} (h : ∀ σ p, σ.o = out I → (iprop(holds c B I σ p ∗ G) : sProp 𝕄) ⊢ Q ⟨⟩)
    {σ : St F} {p : FVec F S2x4x512x512 .bf16} :
    (iprop(holds c B I σ p ∗ G) : sProp 𝕄) ⊢ wp frame (wpE defs 𝒱 (c : Thread nD τ) bd) E
      (prologue B ((Scf.for lb ub st hok ⟨⟩ fun k (_ : PUnit) => trip B (Ts k) (.ret ⟨⟩)).bind fun _ => .ret ⟨⟩)) Q := by
  have hb : (holds c B I σ p : sProp 𝕄) ⊢ wp frame (wpE defs 𝒱 (c : Thread nD τ) bd) E
      (prologue B ((Scf.for lb ub st hok ⟨⟩ fun k (_ : PUnit) => trip B (Ts k) (.ret ⟨⟩)).bind fun _ => .ret ⟨⟩))
      (fun _ => (iprop(∃ σ p, ⌜σ.o = out I⌝ ∗ holds c B I σ p) : sProp 𝕄)) := by
    refine prologue_rule fun σ p hσ => ?_
    have hfor := Scf.wp_for_bind frame (wpE defs 𝒱 (c : Thread nD τ) bd) E lb ub st hok (⟨⟩ : PUnit) (fun k (_ : PUnit) => trip B (Ts k) (.ret ⟨⟩))
      (fun k _ => (iprop(∃ σ p, ⌜Begun I k σ⌝ ∗ holds c B I σ p) : sProp 𝕄))
      (fun k _ => by
        iintro ⟨%σ, %p, %hσ, H⟩
        have ht := trip_rule (c := c) (B := B) (p := p) (defs := defs) (𝒱 := 𝒱) (bd := bd) (E := E) (K := .ret ⟨⟩) (by have := k.isLt; omega) (hTs k)
          (Q := fun _ => (iprop(∃ σ p, ⌜Begun I (k.val + 1) σ⌝ ∗ holds c B I σ p) : sProp 𝕄)) (fun σ p hσ => by
            rw [wp_ret]
            iintro H
            imodintro
            iexists σ, p
            isplitr; · ipureintro; exact hσ
            iexact H) hσ
        iapply ht
        iexact H)
      (β := PUnit) (kk := fun (_ : PUnit) => .ret PUnit.unit) (Q := fun _ => (iprop(∃ σ p, ⌜σ.o = out I⌝ ∗ holds c B I σ p) : sProp 𝕄))
    iintro H
    ihave H' := hfor $$ [H]
    · iexists σ, p
      isplitr; · ipureintro; exact hσ
      iexact H
    iapply H'
    iintro %_ ⟨%σ, %p, %hσ, H⟩
    rw [wp_ret]
    imodintro
    iexists σ, p
    isplitr
    · ipureintro
      rw [h8] at hσ
      exact hσ.done.all
    iexact H
  iintro ⟨H, HG⟩
  iapply (wp_wand_r frame (wpE defs 𝒱 (c : Thread nD τ) bd) E)
  isplitl [H]
  · iapply hb; iexact H
  iintro %_ ⟨%σ, %p, %hσ, H⟩
  iapply (h σ p hσ)
  isplitl [H]; · iexact H
  iexact HG

end Attn

end
-- ==== Proof.Body.lean ====
/- The kernel's pipeline: its proof data, the body at every grid point, and the run of the whole program. -/
module

public import proofs.«01_k».proof.Proof.Program
public import proofs.«01_k».proof.Proof.Trip
public import proofs.«01_k».proof.Proof.Gen.KernelIdeal.Loops
public import proofs.«01_k».proof.Proof.Gen.KernelIdeal.Frame
public import Idealize.ShloMosaic.Lib.Quiescent

@[expose] public section

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

attribute [local instance] scale

local notation "𝕄" => MT nD τ sig Unit (Elt F) ℕ (UR sig nD τ) ℕ

variable (m : (ℓ : Loc nD τ sig) → Buf (Elt F) ℓ) (ρ : Dev nD → PrngReg)

/-- The trips of the loop read and write the rows of their own number. -/
theorem offs_at (t : Fin k0_t1_loop.trips) : Attn.OffsAt (offs t) t.val (min (t.val + 1) 7) where
  q0 := k0_off1_eq t
  q1 := k0_off2_eq t
  q2 := k0_off3_eq t
  q3 := k0_off4_eq t
  r0 := k0_off5_eq t
  r1 := k0_off6_eq t
  r2 := k0_off7_eq t
  r3 := k0_off8_eq t
  o0 := k0_off9_eq t
  o1 := k0_off10_eq t
  o2 := k0_off11_eq t
  o3 := k0_off12_eq t

/-- What the body reads at point `t`: the four input blocks. -/
def ins (c : Dev nD) (t : Fin cfg0.N) : Attn.Ins F := ⟨iblk m c 0 t, iblk m c 1 t, iblk m c 2 t, iblk m c 3 t⟩

/-- The arrays as the region finds them; after the body each input's buffer at its block and the output's at the
    attention of the four blocks; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Attn.out (ins m c t)
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = Attn.out (ins m c t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

abbrev 𝒱₀ : Variants := Variants.none

/-- The body at a grid point: from its blocks and any scratch contents to the attention of the blocks. -/
theorem body_at (c : Dev nD) (t : Fin cfg0.N) (o : FVec F S1x4096x512 .bf16)
    (f0 : FVec F S4x1x512 .f32) (f1 : FVec F S4x144x512 .f32) (f2 : FVec F S2x4x512x512 .f32) (f3 : FVec F S2x4x512x512 .bf16)
    (G : sProp 𝕄) (Q : PUnit → sProp 𝕄)
    (B : Attn.Bufs sig)
    (h : ∀ (σ : Attn.St F) p, σ.o = Attn.out (ins m c t) → (iprop(Attn.holds c B (ins m c t) σ p ∗ G) : sProp 𝕄) ⊢ Q ⟨⟩)
    (prog : Prog (TpuEff nD τ sig (Elt F) Λ₀ .tc) PUnit)
    (hp : prog = Attn.prologue B ((Scf.Loop.for k0_t1_loop k0_t1_ok ⟨⟩ fun t _ => Attn.trip B (offs t) (.ret ⟨⟩)).bind fun _ => .ret ⟨⟩)) :
    (iprop(Attn.bufs c B (ins m c t) f0 f1 f2 o f3 ∗ G) : sProp 𝕄) ⊢ wp frame (wpE (defs₀ (F := F)) 𝒱₀ (c : Thread nD τ) none) Set.univ prog Q := by
  subst hp
  exact Attn.body_rule (c := c) (σ := ⟨f0, f1, f2, o⟩) (p := f3) _ _ _ k0_t1_ok (by decide +kernel) offs offs_at h

/-- The body at every grid point: its blocks and the scratch in, the attention of its blocks out. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3, after0_4]
  unfold Pipeline.ΦA
  rw [Gen.scopedRest0_eq]
  iintro ⟨⟨⟨⟨%f0, S0⟩, ⟨%f1, S1⟩, ⟨%f2, S2⟩, ⟨%f3, S3⟩⟩, Hr⟩, Ho, ⟨%d0, H0⟩, ⟨%d1, H1⟩, ⟨%d2, H2⟩, ⟨%d3, H3⟩, ⟨%d4, H4⟩⟩
  iapply (body_at m c t _ f0 f1 f2 f3 iprop((∃ r, prngReg c r) ∗ (dats m 0 c).owesAt () t.castSucc) _ _ (fun σ p hσ => ?_) _ (cc0_attn_eq ..))
  · unfold Attn.holds Attn.bufs
    dsimp only [ins]
    rw [owns_whole, owns_whole, owns_whole, owns_whole, hσ]
    dsimp only [ins]
    iintro ⟨⟨H0, H1, H2, H3, H4, S0, S1, S2, S3, -⟩, Hr, Ho⟩
    isplitl [S0 S1 S2 S3 Hr]
    · isplitr [Hr]
      · isplitl [S0]; · iexists _; iexact S0
        isplitl [S1]; · iexists _; iexact S1
        isplitl [S2]; · iexists _; iexact S2
        iexists _; iexact S3
      iexact Hr
    isplitl [Ho]; · iexact Ho
    isplitl [H0]; · iexact H0
    isplitl [H1]; · iexact H1
    isplitl [H2]; · iexact H2
    isplitl [H3]; · iexact H3
    iexact H4
  · unfold Attn.bufs
    dsimp only [ins]
    rw [owns_whole, owns_whole, owns_whole, owns_whole]
    isplitr [Hr Ho]
    · isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      isplitl [S3]; · iexact S3
      iempintro
    isplitl [Hr]; · iexact Hr
    iexact Ho

-- The run's implicit arguments are found by unifying its conclusion with this one, which unfolds definitions in a
-- metavariable's type.
set_option backward.isDefEq.respectTransparency.types false in
/-- Every execution ends, with every array of the pipeline at what the proof data computes and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- Every execution ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_with_sems (frame_of m ρ (dats m) fun _ _ => rfl) (run_main (F := F) m ρ)

end Cert.KernelIdeal

end
-- ==== Proof.Softmax.lean ====
/- The softmax over the extended reals: the arithmetic that both programs come down to. -/
module

public import Idealize.ShloMosaic.PureOps.Ideal.Laws
public import Mathlib.Analysis.SpecialFunctions.Pow.Real

@[expose] public section

noncomputable section

namespace Attn

open Idealize.ShloMosaic
open scoped BigOperators

/-- A nonnegative real factor goes into a sum of extended reals. -/
theorem coe_mul_sum {ι : Type} (S : Finset ι) (c : ℝ) (hc : 0 ≤ c) (f : ι → EReal) : (c : EReal) * ∑ i ∈ S, f i = ∑ i ∈ S, (c : EReal) * f i := by
  classical
  induction S using Finset.induction_on with
  | empty => simp
  | insert a T ha ih =>
    rw [Finset.sum_insert ha, Finset.sum_insert ha, EReal.left_distrib_of_nonneg_of_ne_top (by exact_mod_cast hc) (EReal.coe_ne_top c), ih]

/-- A sum of reals is real. -/
theorem coe_sum {ι : Type} (S : Finset ι) (f : ι → ℝ) : (((∑ i ∈ S, f i : ℝ)) : EReal) = ∑ i ∈ S, (f i : EReal) := by
  classical
  induction S using Finset.induction_on with
  | empty => simp
  | insert a T ha ih => rw [Finset.sum_insert ha, Finset.sum_insert ha, EReal.coe_add, ih]

/-- The power of two, as a real. -/
def e2 (x : ℝ) : ℝ := Real.exp (Real.log 2 * x)

theorem e2_pos (x : ℝ) : 0 < e2 x := Real.exp_pos _

theorem e2_add (x y : ℝ) : e2 (x + y) = e2 x * e2 y := by
  unfold e2
  rw [mul_add, Real.exp_add]

/-- The power of two of a difference of reals. -/
theorem exp2_sub (x y : ℝ) : Ideal.exp2 ((x : EReal) - (y : EReal)) = (e2 (x - y) : EReal) := by
  rw [← EReal.coe_sub]
  show ((Real.rpow 2 (x - y) : ℝ) : EReal) = _
  congr 1
  exact Real.rpow_def_of_pos (by norm_num) _

/-- The exponential of a difference of reals. -/
theorem exp_sub (x y : ℝ) : Ideal.exp ((x : EReal) - (y : EReal)) = (Real.exp (x - y) : EReal) := by
  rw [← EReal.coe_sub]
  rfl

/-- The larger of two reals is real. -/
theorem max_real {a b : EReal} (ha : ∃ r : ℝ, a = r) (hb : ∃ r : ℝ, b = r) : ∃ r : ℝ, max a b = r := by
  rcases max_choice a b with h | h <;> rw [h]
  · exact ha
  · exact hb

/-- The largest of finitely many reals is real, or there are none. -/
theorem fold_max_real {ι : Type} (S : Finset ι) (f : ι → EReal) (hf : ∀ i, ∃ r : ℝ, f i = r) :
    S = ∅ ∨ ∃ r : ℝ, S.fold max ⊥ f = r := by
  classical
  induction S using Finset.induction_on with
  | empty => exact .inl rfl
  | insert a T ha ih =>
    right
    rw [Finset.fold_insert ha]
    rcases ih with rfl | h
    · rw [Finset.fold_empty, max_eq_left bot_le]
      exact hf a
    · exact max_real (hf a) h

/-- One step of the running softmax: what is scaled by the old maximum's power goes over to the new one's. -/
theorem step_eq (M M' : ℝ) (A : EReal) {ι : Type} (S : Finset ι) (v : ι → EReal) (x : ι → ℝ) :
    Ideal.exp2 ((M : EReal) - (M' : EReal)) * ((e2 (-M) : EReal) * A) + ∑ s ∈ S, v s * Ideal.exp2 ((x s : EReal) - (M' : EReal))
      = (e2 (-M') : EReal) * (A + ∑ s ∈ S, v s * (e2 (x s) : EReal)) := by
  rw [EReal.left_distrib_of_nonneg_of_ne_top (by exact_mod_cast (e2_pos _).le) (EReal.coe_ne_top _), coe_mul_sum _ _ (e2_pos _).le, exp2_sub,
    ← mul_assoc, ← EReal.coe_mul, ← e2_add, show M - M' + -M = -M' by ring]
  congr 1
  refine Finset.sum_congr rfl fun s _ => ?_
  rw [exp2_sub, show x s - M' = -M' + x s by ring, e2_add, EReal.coe_mul]
  ac_rfl

/-- The first step of the running softmax. -/
theorem first_eq (M : ℝ) {ι : Type} (S : Finset ι) (v : ι → EReal) (x : ι → ℝ) :
    ∑ s ∈ S, v s * Ideal.exp2 ((x s : EReal) - (M : EReal)) = (e2 (-M) : EReal) * ∑ s ∈ S, v s * (e2 (x s) : EReal) := by
  rw [coe_mul_sum _ _ (e2_pos _).le]
  refine Finset.sum_congr rfl fun s _ => ?_
  rw [exp2_sub, show x s - M = -M + x s by ring, e2_add, EReal.coe_mul]
  ac_rfl

/-- The common scale cancels in the quotient. -/
theorem div_cancel (c L : ℝ) (hc : 0 < c) (hL : 0 < L) (A : EReal) :
    Ideal.div ((c : EReal) * A) ((c : EReal) * (L : EReal)) = (L⁻¹ : ℝ) * A := by
  rw [← EReal.coe_mul, Ideal.div_coe (mul_pos hc hL).ne']
  rw [mul_comm (c : EReal) A, mul_assoc, mul_comm, ← EReal.coe_mul]
  congr 2
  field_simp

/-- The quotient of each term by the sum, summed up: the softmax whose maximum is taken away, of real scores. -/
theorem softmax_eq {ι : Type} (S : Finset ι) (hS : S.Nonempty) (v : ι → EReal) (y : ι → ℝ) (M : ℝ) :
    ∑ s ∈ S, v s * Ideal.div (Ideal.exp ((y s : EReal) - (M : EReal))) (∑ s ∈ S, Ideal.exp ((y s : EReal) - (M : EReal)))
      = (((∑ s ∈ S, Real.exp (y s))⁻¹ : ℝ) : EReal) * ∑ s ∈ S, v s * (Real.exp (y s) : EReal) := by
  have hL : 0 < ∑ s ∈ S, Real.exp (y s) := Finset.sum_pos (fun s _ => Real.exp_pos _) hS
  have hsum : ∑ s ∈ S, Ideal.exp ((y s : EReal) - (M : EReal)) = ((Real.exp (-M) * ∑ s ∈ S, Real.exp (y s) : ℝ) : EReal) := by
    rw [Finset.mul_sum, coe_sum]
    refine Finset.sum_congr rfl fun s _ => ?_
    rw [exp_sub, sub_eq_add_neg, add_comm, Real.exp_add]
  rw [hsum, coe_mul_sum _ _ (inv_pos.2 hL).le]
  refine Finset.sum_congr rfl fun s _ => ?_
  rw [exp_sub, show y s - M = -M + y s by ring, Real.exp_add, EReal.coe_mul, EReal.coe_mul, div_cancel _ _ (Real.exp_pos _) hL]
  ac_rfl

end Attn

end
-- ==== Proof.Spec.lean ====
/- What both programs compute: gated softmax attention with four query heads to each key head. -/
module

public import proofs.«01_k».proof.Proof.Softmax
public import proofs.«01_k».proof.KernelIdeal
public import Idealize.ShloMosaic.Lib.Pointwise

@[expose] public section

set_option maxRecDepth 16384

noncomputable section

namespace Attn

open Idealize.ShloMosaic Cert.KernelIdeal
open scoped BigOperators

/-- The score of key `s` against query row `R` of head `h`: the product of the finite queries and keys, over √128. -/
def score (q : S8x4096x8x128.Idx → EReal) (k : S8x4096x2x128.Idx → EReal) (b : Fin 8) (R : Fin 4096) (h : Fin 8) (s : Fin 4096) : ℝ :=
  ∑ d : Fin 128, (k (ix4 b s ⟨h.val / 4, by omega⟩ d)).toReal * ((q (ix4 b R h d)).toReal / Real.sqrt 128)

/-- The attention's output at row `R`, coordinate `E`, times the SiLU of the gate. -/
def attnAt (q : S8x4096x8x128.Idx → EReal) (k v : S8x4096x2x128.Idx → EReal) (z : S8x4096x2048.Idx → EReal) (b : Fin 8) (R : Fin 4096) (E : Fin 1024) : EReal :=
  (((∑ s : Fin 4096, Real.exp (score q k b R ⟨E.val / 128, by omega⟩ s))⁻¹ : ℝ) : EReal)
    * (∑ s : Fin 4096, v (ix4 b s ⟨E.val / 512, by omega⟩ ⟨E.val % 128, by omega⟩) * (Real.exp (score q k b R ⟨E.val / 128, by omega⟩ s) : EReal))
    * (z (ix3 b R ⟨E.val, by omega⟩) * Ideal.logistic (z (ix3 b R ⟨E.val, by omega⟩)))

/-- The whole result array. -/
def attn (q : S8x4096x8x128.Idx → EReal) (k v : S8x4096x2x128.Idx → EReal) (z : S8x4096x2048.Idx → EReal) : S8x4096x1024.Idx → EReal :=
  fun i => attnAt q k v z (i 0) (i 1) (i 2)

/-- The kernel's scores, in powers of two, are the scores, in powers of e. -/
theorem e2_scale {ι : Type} (S : Finset ι) (k q : ι → ℝ) :
    e2 (∑ d ∈ S, k d * (q d * (Real.sqrt 128 * Real.log 2)⁻¹)) = Real.exp (∑ d ∈ S, k d * (q d / Real.sqrt 128)) := by
  unfold e2
  congr 1
  rw [Finset.mul_sum]
  refine Finset.sum_congr rfl fun d _ => ?_
  have h2 : Real.log 2 ≠ 0 := (Real.log_pos (by norm_num)).ne'
  have h128 : Real.sqrt 128 ≠ 0 := (Real.sqrt_pos.2 (by norm_num)).ne'
  field_simp

end Attn

end
-- ==== Proof.Pieces.lean ====
/- The stages over the extended reals, read at an index. -/
module

public import proofs.«01_k».proof.Proof.Values
public import Idealize.ShloMosaic.Lib.Pointwise

@[expose] public section

set_option maxRecDepth 16384

noncomputable section

namespace Attn

open Idealize.ShloMosaic Cert.KernelIdeal

variable [Scale Ideal]

/-- A score is the sum of products of a key's and a scaled query's coordinates. -/
theorem scoreMat_apply (k : FVec Ideal S1x1x512x128 .bf16) (q : FVec Ideal S1x1x128x512 .f32) (a b : Fin 1) (s r : Fin 512) :
    scoreMat k q (ix4 a b s r) = ∑ d : Fin 128, k (ix4 0 0 s d) * (q (ix4 0 0 d r) * (Scale.c (F := Ideal))) := by
  pointwise [scoreMat, casts_k, casts_q, casts_s', DotDims.plain]

/-- The maximum over eight rows. -/
theorem max8_apply (v : FVec Ideal S8x512 .f32) (a : Fin 1) (r : Fin 512) :
    max8 v (ix2 a r) = Finset.univ.fold max ⊥ fun k : Fin 8 => v (ix2 k r) := by
  pointwise [max8]
  rw [show Ideal.ofBits .f32 0xFF800000#32 = ⊥ by simp [Ideal.ofBits, Ideal.ieee]]

/-- A weight is a power of two of the score less the maximum. -/
theorem weights_apply (m : FVec Ideal S1x512 .f32) (x : FVec Ideal S1x1x32x512 .f32) (a b : Fin 1) (s : Fin 32) (r : Fin 512) :
    weights m x (ix4 a b s r) = Ideal.exp2 (x (ix4 0 0 s r) - m (ix2 0 r)) := by
  pointwise [weights]
  rfl

/-- A weighted sum of a block's values. -/
theorem weighted_apply (v : FVec Ideal S1x1x144x512 .bf16) (p : FVec Ideal S1x1x512x512 .bf16) (d : Fin 144) (r : Fin 512) :
    weighted v p (ix2 d r) = ∑ s : Fin 512, v (ix4 0 0 d s) * p (ix4 0 0 s r) := by
  pointwise [weighted, DotDims.plain]

/-- The rescaled accumulator plus the new weighted sum. -/
theorem rescaled_apply (mOld mNew : FVec Ideal S1x512 .f32) (acc : FVec Ideal S1x144x512 .f32) (pv : FVec Ideal S144x512 .f32)
    (a : Fin 1) (d : Fin 144) (r : Fin 512) :
    rescaled mOld mNew acc pv (ix3 a d r) = Ideal.exp2 (mOld (ix2 0 r) - mNew (ix2 0 r)) * acc (ix3 0 d r) + pv (ix2 d r) := by
  pointwise [rescaled]
  rfl

/-- The quotient, transposed back, times the gate. -/
theorem gated_apply (num : FVec Ideal S1x128x512 .f32) (den : FVec Ideal S1x1x512 .f32) (z : FVec Ideal S1x512x128 .bf16)
    (a : Fin 1) (r : Fin 512) (d : Fin 128) :
    gated num den z (ix3 a r d) = Ideal.div (num (ix3 0 d r)) (den (ix3 0 0 r)) * (z (ix3 0 r d) * Ideal.logistic (z (ix3 0 r d))) := by
  pointwise [gated]

/-- A window read at an index is the array at the window's offset plus the index. -/
theorem window_eq {α : Type} {s : Shape} (x : s.Idx → α) (off size : Fin s.rank → ℕ) (inb : ∀ a, off a + size a ≤ s.size a)
    (y : (Rect.unit off size inb).shape.Idx) (z : s.Idx) (h : ∀ a, (z a).val = off a + (y a).val) :
    VecWindow.window x off size inb y = x z := by
  unfold VecWindow.window
  congr 1
  funext a
  apply Fin.ext
  rw [h a]
  simp [Rect.emb, Rect.unit]

theorem cast8_apply (y : FVec Ideal S1x1x8x512 .f32) (k : Fin 8) (r : Fin 512) :
    shapeCast S8x512 y casts_s8 (ix2 k r) = y (ix4 0 0 k r) := by
  pointwise

/-- A block of eight rows, at an index. -/
theorem rows8_apply (x : FVec Ideal S1x1x512x512 .f32) (n : Nat) (hn : n < 64) (k : Fin 8) (r : Fin 512) :
    rows8 x n hn (ix2 k r) = x (ix4 0 0 ⟨8 * n + k.val, by omega⟩ r) := by
  unfold rows8
  refine (cast8_apply _ k r).trans (window_eq _ _ _ _ _ _ fun a => ?_)
  match a with
  | 0 => rfl
  | 1 => rfl
  | 2 => rfl
  | 3 => exact (Nat.zero_add _).symm

/-- The weights of a whole block, at an index. -/
theorem weightsAll_apply (m : FVec Ideal S1x512 .f32) (x : FVec Ideal S1x1x512x512 .f32) (s r : Fin 512) :
    weightsAll m x (ix4 0 0 s r) = Ideal.exp2 (x (ix4 0 0 s r) - m (ix2 0 r)) := by
  have hs : s.val < 512 := s.isLt
  refine (weights_apply m _ 0 0 ⟨s.val % 32, Nat.mod_lt _ (by omega)⟩ r).trans ?_
  congr 2
  refine window_eq _ _ _ _ _ _ fun a => ?_
  match a with
  | 0 => rfl
  | 1 => rfl
  | 2 => show s.val = 32 * (s.val / 32) + s.val % 32; omega
  | 3 => exact (Nat.zero_add _).symm

end Attn

end
-- ==== Proof.BlockValue.lean ====
/- What the kernel's body computes at an index of its output block, over the extended reals. -/
module

public import proofs.«01_k».proof.Proof.Pieces
public import proofs.«01_k».proof.Proof.Softmax

@[expose] public section

set_option maxRecDepth 16384

noncomputable section

namespace Attn

open Idealize.ShloMosaic Cert.KernelIdeal
open scoped BigOperators

variable [Scale Ideal] (I : Ins Ideal)

/-- A score of key block `j`, of the queries' and keys' coordinates. -/
theorem sc_apply (t g j : Nat) (ht : t < 8) (hg : g < 4) (hj : j < 8) (s r : Fin 512) :
    sc I t g j ht hg hj (ix4 0 0 s r)
      = ∑ d : Fin 128, I.k (ix4 0 ⟨j, hj⟩ s d) * (I.q (ix4 0 ⟨t, ht⟩ ⟨128 * g + d.val, by omega⟩ r) * Scale.c (F := Ideal)) := by
  unfold sc
  rw [scoreMat_apply]
  refine Finset.sum_congr rfl fun d _ => ?_
  rw [window_eq I.k _ _ _ _ (ix4 0 ⟨j, hj⟩ s d) fun a => ?_, window_eq I.q _ _ _ _ (ix4 0 ⟨t, ht⟩ ⟨128 * g + d.val, by omega⟩ r) fun a => ?_]
  · match a with
    | 0 => rfl
    | 1 => rfl
    | 2 => rfl
    | 3 => exact (Nat.zero_add _).symm
  · match a with
    | 0 => rfl
    | 1 => rfl
    | 2 => exact (Nat.zero_add _).symm
    | 3 => exact (Nat.zero_add _).symm

/-- The maximum over a block of real scores is real. -/
theorem colMax_real (x : FVec Ideal S1x1x512x512 .f32) (r : Fin 512) (hx : ∀ s, ∃ a : ℝ, x (ix4 0 0 s r) = a) :
    ∃ a : ℝ, colMax x (ix2 0 r) = a := by
  have hrows : ∀ (n : Nat) (hn : n < 64) (k : Fin 8), ∃ a : ℝ, rows8 x n hn (ix2 k r) = a := fun n hn k => by
    rw [rows8_apply]
    exact hx _
  have hfrom : ∀ (n : Nat) (hn : n < 64) (v : FVec Ideal S8x512 .f32), (∀ k : Fin 8, ∃ a : ℝ, v (ix2 k r) = a) →
      ∀ k : Fin 8, ∃ a : ℝ, maxFrom x n hn v (ix2 k r) = a := by
    intro n
    induction n with
    | zero => exact fun _ v hv => hv
    | succ n ih => exact fun hn v hv => ih _ _ fun k => max_real (hv k) (hrows _ _ k)
  unfold colMax
  rw [max8_apply]
  exact (fold_max_real _ _ (hfrom 63 _ _ (hrows 0 _))).resolve_left (Finset.univ_nonempty.ne_empty)

variable (t g : Nat) (ht : t < 8) (hg : g < 4) (r : Fin 512) (x : ℕ → Fin 512 → ℝ)
  (hx : ∀ j (hj : j < 8) s, sc I t g j ht hg hj (ix4 0 0 s r) = (x j s : EReal))

include hx

/-- The running maximum of real scores is real. -/
theorem mx_real : ∀ j (hj : j < 8), ∃ a : ℝ, mx I t g ht hg j hj (ix2 0 r) = a
  | 0, hj => colMax_real _ r fun s => ⟨_, hx 0 hj s⟩
  | j + 1, hj => max_real (mx_real j (by omega)) (colMax_real _ r fun s => ⟨_, hx (j + 1) hj s⟩)

/-- A block's weighted sum, under the weights of the maximum `M`. -/
theorem pvOf_apply (j : Nat) (hj : j < 8) (M : ℝ) (hM : mx I t g ht hg j hj (ix2 0 r) = M) (d : Fin 144) :
    pvOf I t g ht hg j hj (ix2 d r) = ∑ s : Fin 512, I.v (ix4 0 ⟨j, hj⟩ d s) * Ideal.exp2 ((x j s : EReal) - (M : EReal)) := by
  unfold pvOf
  rw [weighted_apply]
  refine Finset.sum_congr rfl fun s _ => ?_
  rw [weightsAll_apply, hx j hj s, hM, window_eq I.v _ _ _ _ (ix4 0 ⟨j, hj⟩ d s) fun a => ?_]
  match a with
  | 0 => rfl
  | 1 => rfl
  | 2 => exact (Nat.zero_add _).symm
  | 3 => exact (Nat.zero_add _).symm

/-- The accumulator after key block `j`: the sum over the keys so far of value times power of two of the score, scaled by
    the running maximum's power. -/
theorem ac_apply (d : Fin 144) (v : ℕ → Fin 512 → EReal) (hv : ∀ j (hj : j < 8) s, I.v (ix4 0 ⟨j, hj⟩ d s) = v j s) :
    ∀ j (hj : j < 8) (M : ℝ), mx I t g ht hg j hj (ix2 0 r) = M →
      ac I t g ht hg j hj (ix3 0 d r) = (e2 (-M) : EReal) * ∑ i ∈ Finset.range (j + 1), ∑ s : Fin 512, v i s * (e2 (x i s) : EReal)
  | 0, hj, M, hM => by
    have h0 : ac I t g ht hg 0 hj (ix3 0 d r) = pvOf I t g ht hg 0 hj (ix2 d r) := by
      pointwise [ac]
    rw [h0, pvOf_apply I t g ht hg r x hx 0 hj M hM d, Finset.sum_range_one]
    simp only [hv 0 hj]
    exact first_eq M _ _ _
  | j + 1, hj, M, hM => by
    obtain ⟨M₀, hM₀⟩ := mx_real I t g ht hg r x hx j (by omega)
    have ih := ac_apply d v hv j (by omega) M₀ hM₀
    unfold ac
    rw [rescaled_apply, ih, hM₀, hM, pvOf_apply I t g ht hg r x hx (j + 1) hj M hM d, Finset.sum_range_succ _ (j + 1)]
    simp only [hv (j + 1) hj]
    exact step_eq M₀ M _ _ _ _

/-- The rows the body writes for query block `t`, head `g`: the softmax of the scores, weighting the values, times the
    gate. Row 128 of the values is one. -/
theorem outRows_apply (d : Fin 128) (v : ℕ → Fin 512 → EReal)
    (hv : ∀ j (hj : j < 8) s, I.v (ix4 0 ⟨j, hj⟩ ⟨d.val, by omega⟩ s) = v j s)
    (h1 : ∀ j (hj : j < 8) s, I.v (ix4 0 ⟨j, hj⟩ 128 s) = 1) (z : EReal)
    (hz : I.z (ix3 0 ⟨512 * t + r.val, by omega⟩ ⟨128 * g + d.val, by omega⟩) = z) :
    outRows I t g ht hg (ixO r d)
      = (((∑ i ∈ Finset.range 8, ∑ s : Fin 512, e2 (x i s))⁻¹ : ℝ) : EReal) * (∑ i ∈ Finset.range 8, ∑ s : Fin 512, v i s * (e2 (x i s) : EReal))
        * (z * Ideal.logistic z) := by
  obtain ⟨M, hM⟩ := mx_real I t g ht hg r x hx 7 (by omega)
  have hL : 0 < ∑ i ∈ Finset.range 8, ∑ s : Fin 512, e2 (x i s) :=
    Finset.sum_pos (fun i _ => Finset.sum_pos (fun s _ => e2_pos _) Finset.univ_nonempty) (Finset.nonempty_range_iff.2 (by omega))
  have hden : (∑ i ∈ Finset.range 8, ∑ s : Fin 512, (1 : EReal) * (e2 (x i s) : EReal)) = ((∑ i ∈ Finset.range 8, ∑ s : Fin 512, e2 (x i s) : ℝ) : EReal) := by
    simp only [one_mul, coe_sum]
  refine (gated_apply _ _ _ 0 r d).trans ?_
  rw [window_eq (ac I t g ht hg 7 (by omega)) _ _ _ _ (ix3 0 ⟨d.val, by omega⟩ r) fun a => ?_,
    window_eq (ac I t g ht hg 7 (by omega)) _ _ _ _ (ix3 0 128 r) fun a => ?_,
    window_eq I.z _ _ _ _ (ix3 0 ⟨512 * t + r.val, by omega⟩ ⟨128 * g + d.val, by omega⟩) fun a => ?_, hz,
    ac_apply I t g ht hg r x hx _ v hv 7 (by omega) M hM, ac_apply I t g ht hg r x hx 128 (fun _ _ => 1) h1 7 (by omega) M hM, hden,
    div_cancel _ _ (e2_pos _) hL]
  · match a with
    | 0 => rfl
    | 1 => rfl
    | 2 => rfl
  · match a with
    | 0 => rfl
    | 1 => rfl
    | 2 => exact (Nat.zero_add _).symm
  · match a with
    | 0 => rfl
    | 1 => exact (Nat.zero_add _).symm
    | 2 => exact (Nat.zero_add _).symm

end Attn

end
-- ==== Proof.Reads.lean ====
/- What the kernel's body reads, in terms of the program's arguments. -/
module

public import proofs.«01_k».proof.Proof.Body
public import Idealize.ShloMosaic.Lib.Pipeline.ValueKit
public import Idealize.ShloMosaic.Lib.StableHlo.ReadAt
public import Idealize.ShloMosaic.Lib.Pointwise

@[expose] public section

set_option maxRecDepth 16384

noncomputable section

namespace Cert.KernelIdeal

open Cert.KernelIdeal.Gen
open Idealize.ShloMosaic Idealize.ShloMosaic.TcCoe
open Idealize.SL Idealize.SL.Sem

variable (m : (ℓ : Loc nD τ sig) → Buf (Elt Ideal) ℓ) (c : Dev nD)

/-- The queries the kernel is given: tiles of 512 rows, transposed. -/
theorem V_q (b : Fin 8) (j : Fin 8) (e : Fin 1024) (s : Fin 512) :
    V (F := Ideal) m c main_v1 (ix4 b j e s)
      = m ((c.tc : Thread nD τ).loc main_arg0) (ix4 b ⟨j.val * 512 + s.val, by omega⟩ ⟨e.val / 128, by omega⟩ ⟨e.val % 128, by omega⟩) := by
  unfold V
  after_reads_at

/-- The keys the kernel is given: tiles of 512 rows. -/
theorem V_k (b : Fin 8) (j : Fin 8) (s : Fin 512) (e : Fin 256) :
    V (F := Ideal) m c main_v12 (ix4 b j s e)
      = m ((c.tc : Thread nD τ).loc main_arg1) (ix4 b ⟨j.val * 512 + s.val, by omega⟩ ⟨e.val / 128, by omega⟩ ⟨e.val % 128, by omega⟩) := by
  unfold V
  after_reads_at

/-- The values the kernel is given: tiles of 512 columns, transposed, each followed by other rows. -/
theorem V_v (b : Fin 8) (j : Fin 8) (e : Fin 288) (s : Fin 512) (h : e.val % 144 < 128) :
    V (F := Ideal) m c main_v10 (ix4 b j e s)
      = m ((c.tc : Thread nD τ).loc main_arg2) (ix4 b ⟨j.val * 512 + s.val, by omega⟩ ⟨e.val / 144, by omega⟩ ⟨e.val % 144, h⟩) := by
  unfold V
  after_reads_at
  rw [dif_pos h]
  after_reads_at

/-- The row after a tile's values is all ones. -/
theorem V_one (b : Fin 8) (j : Fin 8) (e : Fin 288) (s : Fin 512) (h : e.val % 144 = 128) :
    V (F := Ideal) m c main_v10 (ix4 b j e s) = (1 : EReal) := by
  unfold V
  after_reads_at
  rw [dif_neg (by omega), dif_pos (by omega)]
  after_reads_at

/-- The gate the kernel is given is the argument. -/
theorem V_z (b : Fin 8) (R : Fin 4096) (e : Fin 2048) :
    V (F := Ideal) m c main_v11 (ix3 b R e) = m ((c.tc : Thread nD τ).loc main_arg3) (ix3 b R e) := by
  unfold V
  after_reads_at

/-- The grid's points: a batch and a key head. -/
theorem idx : ∀ t : Fin cfg0.N, win0_0.index t = ![t.val / 2, 0, t.val % 2, 0] ∧ win0_1.index t = ![t.val / 2, 0, 0, t.val % 2]
    ∧ win0_2.index t = ![t.val / 2, 0, t.val % 2, 0] ∧ win0_3.index t = ![t.val / 2, 0, t.val % 2] ∧ win0_4.index t = ![t.val / 2, 0, t.val % 2] := by
  decide +kernel

/-- The queries' block at a point. -/
theorem iblk_q (t : Fin cfg0.N) (ht : t.val < 16) (j : Fin 8) (e s : Fin 512) :
    iblk (F := Ideal) m c 0 t (ix4 0 j e s) = V (F := Ideal) m c main_v1 (ix4 ⟨t.val / 2, by omega⟩ j ⟨t.val % 2 * 512 + e.val, by omega⟩ s) := by
  blk_ext [iblk, idx t]

/-- The keys' block at a point. -/
theorem iblk_k (t : Fin cfg0.N) (ht : t.val < 16) (j : Fin 8) (s : Fin 512) (e : Fin 128) :
    iblk (F := Ideal) m c 1 t (ix4 0 j s e) = V (F := Ideal) m c main_v12 (ix4 ⟨t.val / 2, by omega⟩ j s ⟨t.val % 2 * 128 + e.val, by omega⟩) := by
  blk_ext [iblk, idx t]

/-- A block of the values' array at a point, whatever the array holds. -/
theorem read_v (X : Buf (Elt Ideal) ((c : Thread nD τ).loc (Pipeline.arrRef spec0 2))) (t : Fin cfg0.N) (ht : t.val < 16) (j : Fin 8) (e : Fin 144) (s : Fin 512) :
    ((cfg0.win 2).blk t).view.read (Elt Ideal) X (ix4 0 j e s)
      = (X : (⟨S8x8x288x512, .bf16⟩ : BufTy).Contents (Elt Ideal)) (ix4 ⟨t.val / 2, by omega⟩ j ⟨t.val % 2 * 144 + e.val, by omega⟩ s) := by
  blk_ext [idx t]

/-- The values' block at a point. -/
theorem iblk_v (t : Fin cfg0.N) (ht : t.val < 16) (j : Fin 8) (e : Fin 144) (s : Fin 512) :
    iblk (F := Ideal) m c 2 t (ix4 0 j e s) = V (F := Ideal) m c main_v10 (ix4 ⟨t.val / 2, by omega⟩ j ⟨t.val % 2 * 144 + e.val, by omega⟩ s) :=
  read_v c (V m c (Pipeline.arrRef spec0 2)) t ht j e s

/-- The gate's block at a point. -/
theorem iblk_z (t : Fin cfg0.N) (ht : t.val < 16) (R : Fin 4096) (e : Fin 512) :
    iblk (F := Ideal) m c 3 t (ix3 0 R e) = V (F := Ideal) m c main_v11 (ix3 ⟨t.val / 2, by omega⟩ R ⟨t.val % 2 * 512 + e.val, by omega⟩) := by
  blk_ext [iblk, idx t]

variable (t : Fin cfg0.N) (ht : t.val < 16)
include ht

/-- The queries the body reads at a point. -/
theorem ins_q (j : Fin 8) (e s : Fin 512) (h : Fin 8) (d : Fin 128) (R : Fin 4096) (hR : R.val = j.val * 512 + s.val)
    (he : t.val % 2 * 512 + e.val = h.val * 128 + d.val) :
    (ins m c t).q (ix4 0 j e s) = m ((c.tc : Thread nD τ).loc main_arg0) (ix4 ⟨t.val / 2, by omega⟩ R h d) := by
  refine (iblk_q m c t ht j e s).trans ((V_q m c _ _ _ _).trans ?_)
  congr 2
  · exact Fin.ext hR.symm
  · exact Fin.ext (by show (t.val % 2 * 512 + e.val) / 128 = h.val; omega)
  · exact Fin.ext (by show (t.val % 2 * 512 + e.val) % 128 = d.val; omega)

/-- The keys the body reads at a point. -/
theorem ins_k (j : Fin 8) (s : Fin 512) (d : Fin 128) (R : Fin 4096) (hR : R.val = j.val * 512 + s.val) (h : Fin 2) (hh : h.val = t.val % 2) :
    (ins m c t).k (ix4 0 j s d) = m ((c.tc : Thread nD τ).loc main_arg1) (ix4 ⟨t.val / 2, by omega⟩ R h d) := by
  refine (iblk_k m c t ht j s d).trans ((V_k m c _ _ _ _).trans ?_)
  congr 2
  · exact Fin.ext hR.symm
  · exact Fin.ext (by show (t.val % 2 * 128 + d.val) / 128 = h.val; omega)
  · exact Fin.ext (by show (t.val % 2 * 128 + d.val) % 128 = d.val; omega)

/-- The values the body reads at a point. -/
theorem ins_v (j : Fin 8) (e : Fin 144) (s : Fin 512) (d : Fin 128) (hd : d.val = e.val) (R : Fin 4096) (hR : R.val = j.val * 512 + s.val)
    (h : Fin 2) (hh : h.val = t.val % 2) :
    (ins m c t).v (ix4 0 j e s) = m ((c.tc : Thread nD τ).loc main_arg2) (ix4 ⟨t.val / 2, by omega⟩ R h d) := by
  refine (iblk_v m c t ht j e s).trans ((V_v m c _ _ _ _ (by show (t.val % 2 * 144 + e.val) % 144 < 128; omega)).trans ?_)
  congr 2
  · exact Fin.ext hR.symm
  · exact Fin.ext (by show (t.val % 2 * 144 + e.val) / 144 = h.val; omega)
  · exact Fin.ext (by show (t.val % 2 * 144 + e.val) % 144 = d.val; omega)

/-- The row of ones the body reads at a point. -/
theorem ins_one (j : Fin 8) (s : Fin 512) : (ins m c t).v (ix4 0 j 128 s) = (1 : EReal) :=
  (iblk_v m c t ht j 128 s).trans (V_one m c _ _ _ _ (by show (t.val % 2 * 144 + 128) % 144 = 128; omega))

/-- The gate the body reads at a point. -/
theorem ins_z (R : Fin 4096) (e : Fin 512) (E : Fin 2048) (hE : E.val = t.val % 2 * 512 + e.val) :
    (ins m c t).z (ix3 0 R e) = m ((c.tc : Thread nD τ).loc main_arg3) (ix3 ⟨t.val / 2, by omega⟩ R E) := by
  refine (iblk_z m c t ht R e).trans ((V_z m c _ _ _).trans ?_)
  congr 2
  exact Fin.ext hE.symm

end Cert.KernelIdeal

end
-- ==== Proof.KernelValue.lean ====
/- The array the kernel leaves: the gated attention of its arguments. -/
module

public import proofs.«01_k».proof.Proof.Spec
public import proofs.«01_k».proof.Proof.BlockValue
public import proofs.«01_k».proof.Proof.Reads

@[expose] public section

set_option maxRecDepth 16384

noncomputable section

namespace Cert.KernelIdeal

open Cert.KernelIdeal.Gen Idealize.ShloMosaic Idealize.ShloMosaic.TcCoe Idealize.ShloMosaic.Pipeline Attn
open scoped BigOperators

attribute [local instance] scale

variable (m : (ℓ : Loc nD τ sig) → Buf (Elt Ideal) ℓ) (c : Dev nD)

/-- The named factor is one over √128 · log 2. -/
theorem scale_eq : (Scale.c : Ideal .f32) = (((Real.sqrt 128 * Real.log 2)⁻¹ : ℝ) : EReal) :=
  IdealRules.named_const.ideal_named_scalar _ _ _ _ rfl

/-- A sum over eight blocks of 512 terms is the sum over all 4096. -/
theorem sum_blocks {M : Type} [AddCommMonoid M] (f : Fin 4096 → M) (g : ℕ → Fin 512 → M)
    (h : ∀ i (hi : i < 8) s, g i s = f ⟨i * 512 + s.val, by omega⟩) :
    (∑ i ∈ Finset.range 8, ∑ s : Fin 512, g i s) = ∑ s, f s := by
  rw [Finset.sum_range, Fin.sum_univ_tiles 8 512 rfl f]
  exact Finset.sum_congr rfl fun i _ => Finset.sum_congr rfl fun s _ => h i.val i.isLt s

/-- The queries, as extended reals. -/
def argQ : S8x4096x8x128.Idx → EReal := m ((c.tc : Thread nD τ).loc main_arg0)

/-- The keys, as extended reals. -/
def argK : S8x4096x2x128.Idx → EReal := m ((c.tc : Thread nD τ).loc main_arg1)

/-- The values, as extended reals. -/
def argV : S8x4096x2x128.Idx → EReal := m ((c.tc : Thread nD τ).loc main_arg2)

/-- The gate, as extended reals. -/
def argZ : S8x4096x2048.Idx → EReal := m ((c.tc : Thread nD τ).loc main_arg3)

/-- A finite extended real is the real it stands for. -/
theorem eq_toReal {x : EReal} (h : ∃ r : ℝ, x = (r : EReal)) : x = ((x.toReal : ℝ) : EReal) := by
  obtain ⟨r, rfl⟩ := h
  rw [EReal.toReal_coe]

/-- What the launch leaves at row `R`, coordinate `e` of a point's block, for finite queries and keys. -/
theorem out_at (hq : ∀ i, ∃ r : ℝ, argQ m c i = (r : EReal)) (hk : ∀ i, ∃ r : ℝ, argK m c i = (r : EReal))
    (t : Fin cfg0.N) (ht : t.val < 16) (R : Fin 4096) (e : Fin 512) :
    Attn.out (ins m c t) (ix3 0 R e)
      = attnAt (argQ m c) (argK m c) (argV m c) (argZ m c) ⟨t.val / 2, by omega⟩ R ⟨t.val % 2 * 512 + e.val, by omega⟩ := by
  let b : Fin 8 := ⟨t.val / 2, by omega⟩
  let h : Fin 8 := ⟨(t.val % 2 * 512 + e.val) / 128, by omega⟩
  let kv : Fin 2 := ⟨(t.val % 2 * 512 + e.val) / 512, by omega⟩
  let d' : Fin 128 := ⟨(t.val % 2 * 512 + e.val) % 128, by omega⟩
  let row : ℕ → Fin 512 → Fin 4096 := fun i s => if hi : i < 8 then ⟨i * 512 + s.val, by omega⟩ else 0
  let x : ℕ → Fin 512 → ℝ := fun i s => ∑ d : Fin 128, (argK m c (ix4 b (row i s) kv d)).toReal
    * ((argQ m c (ix4 b R h d)).toReal * (Real.sqrt 128 * Real.log 2)⁻¹)
  let v : ℕ → Fin 512 → EReal := fun i s => argV m c (ix4 b (row i s) kv d')
  have hkv' : kv.val = t.val % 2 := by show (t.val % 2 * 512 + e.val) / 512 = t.val % 2; omega
  have hrow : ∀ i (hi : i < 8) s, row i s = ⟨i * 512 + s.val, by omega⟩ := fun i hi s => dif_pos hi
  have hx : ∀ j (hj : j < 8) s, sc (ins m c t) (R.val / 512) (e.val / 128) j (by omega) (by omega) hj (ix4 0 0 s ⟨R.val % 512, by omega⟩) = ((x j s : ℝ) : EReal) := by
    intro j hj s
    refine (sc_apply _ _ _ _ _ _ _ _ _).trans (Eq.trans (Finset.sum_congr rfl fun d _ => ?_) (coe_sum _ _).symm)
    rw [EReal.coe_mul, EReal.coe_mul]
    refine congrArg₂ _ ((ins_k m c t ht ⟨j, hj⟩ s d (row j s) (by rw [hrow j hj s]) kv hkv').trans (eq_toReal (hk _)))
      (congrArg₂ _ ((ins_q m c t ht ⟨R.val / 512, by omega⟩ _ ⟨R.val % 512, by omega⟩ h d R ?_ ?_).trans (eq_toReal (hq _))) scale_eq)
    · show R.val = R.val / 512 * 512 + R.val % 512
      omega
    · show t.val % 2 * 512 + (128 * (e.val / 128) + d.val) = (t.val % 2 * 512 + e.val) / 128 * 128 + d.val
      omega
  have hv : ∀ j (hj : j < 8) s, (ins m c t).v (ix4 0 ⟨j, hj⟩ ⟨e.val % 128, by omega⟩ s) = v j s := fun j hj s =>
    ins_v m c t ht ⟨j, hj⟩ _ s d' (by show (t.val % 2 * 512 + e.val) % 128 = e.val % 128; omega) (row j s) (by rw [hrow j hj s]) kv hkv'
  have hR : (⟨512 * (R.val / 512) + R.val % 512, by omega⟩ : Fin 4096) = R := Fin.ext (by show 512 * (R.val / 512) + R.val % 512 = R.val; omega)
  have hz : (ins m c t).z (ix3 0 ⟨512 * (R.val / 512) + R.val % 512, by omega⟩ ⟨128 * (e.val / 128) + e.val % 128, by omega⟩)
      = argZ m c (ix3 b R ⟨t.val % 2 * 512 + e.val, by omega⟩) := by
    rw [hR]
    exact ins_z m c t ht R _ _ (by show t.val % 2 * 512 + e.val = t.val % 2 * 512 + (128 * (e.val / 128) + e.val % 128); omega)
  have hkv : (⟨h.val / 4, by omega⟩ : Fin 2) = kv := Fin.ext (by show (t.val % 2 * 512 + e.val) / 128 / 4 = (t.val % 2 * 512 + e.val) / 512; omega)
  have he : ∀ i (hi : i < 8) s, e2 (x i s) = Real.exp (score (argQ m c) (argK m c) b R h ⟨i * 512 + s.val, by omega⟩) := fun i hi s => by
    refine (e2_scale _ _ _).trans ?_
    rw [hrow i hi s]
    unfold score
    rw [hkv]
  refine (outRows_apply (ins m c t) (R.val / 512) (e.val / 128) (by omega) (by omega) ⟨R.val % 512, by omega⟩ x hx
    ⟨e.val % 128, by omega⟩ v hv (fun j hj s => ins_one m c t ht ⟨j, hj⟩ s) _ hz).trans ?_
  rw [sum_blocks (fun s => Real.exp (score (argQ m c) (argK m c) b R h s)) (fun i s => e2 (x i s)) he,
    sum_blocks (fun s => argV m c (ix4 b s kv d') * (Real.exp (score (argQ m c) (argK m c) b R h s) : EReal))
      (fun i s => v i s * (e2 (x i s) : EReal)) fun i hi s => by rw [he i hi s]; show argV m c (ix4 b (row i s) kv d') * _ = _; rw [hrow i hi s]]
  rfl

/-- Where a point's block of the result lies in the array. -/
theorem emb_out (t : Fin cfg0.N) (ht : t.val < 16) (R : Fin 4096) (e : Fin 512) :
    (win0_4.blk t).view.emb (ix3 (0 : Fin 1) R e) = (ix3 ⟨t.val / 2, by omega⟩ R ⟨t.val % 2 * 512 + e.val, by omega⟩ : S8x4096x1024.Idx) := by
  blk_ext [idx t]

variable (hq : ∀ i, ∃ r : ℝ, argQ m c i = (r : EReal)) (hk : ∀ i, ∃ r : ℝ, argK m c i = (r : EReal))
include hq hk

/-- The result array after the launch is the gated attention. -/
theorem result_eq : (dats m 0 c).arrAt 4 cfg0.N = attn (argQ m c) (argK m c) (argV m c) (argZ m c) := by
  refine (dats m 0 c).arrAt_eq_of_covers 4 _ (by decide +kernel) fun t hf y => ?_
  blk_simp
  rw [after0_4]
  have ht : t.val < 16 := t.isLt
  obtain ⟨R, e, rfl⟩ : ∃ (R : Fin 4096) (e : Fin 512), y = ix3 (0 : Fin 1) R e := ⟨y 1, y 2, (eq_ix3 y).trans (congrArg (ix3 · _ _) (Subsingleton.elim _ _))⟩
  refine (out_at m c hq hk t ht R e).trans ?_
  rw [emb_out t ht R e]
  rfl

omit hq hk in
/-- Every execution from finite queries and keys ends with the gated attention in the result and the arguments as they were. -/
theorem run_value (ρ : Dev nD → PrngReg) (hq : ∀ c i, ∃ r : ℝ, argQ m c i = (r : EReal)) (hk : ∀ c i, ∃ r : ℝ, argK m c i = (r : EReal)) :
    θ_run defs (onTc (τ := τ) (main (F := Ideal))) ⟨m, fun _ => 0, ρ⟩ (fun r => ∀ c : Dev nD,
      r.2.mem ((c.tc : Thread nD τ).loc main_v13) = attn (argQ m c) (argK m c) (argV m c) (argZ m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (result_eq m c (hq c) (hk c)),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩)
    (run_main (F := Ideal) m ρ)

end Cert.KernelIdeal

end
-- ==== Proof.RefValue.lean ====
/- The reference's result: the gated attention of its arguments. -/
module

public import proofs.«01_k».proof.Proof.Spec
public import proofs.«01_k».proof.Proof.Gen.ReferenceIdeal
public import proofs.«01_k».proof.Proof.Gen.ReferenceIdeal.Run

@[expose] public section

set_option maxRecDepth 16384

noncomputable section

namespace Cert.ReferenceIdeal

open Cert.ReferenceIdeal.Gen Idealize.ShloMosaic Idealize.ShloMosaic.TcCoe Idealize.SL.Sem Attn
open scoped BigOperators

/-- The reference's scores, an entry for batch, key head, query head in its group, query and key. -/
def scores (q : FVec Ideal S8x4096x8x128 .f32) (k : FVec Ideal S8x4096x2x128 .f32) : FVec Ideal S8x2x4x4096x4096 .f32 :=
  transpose S8x2x4x4096x4096 [0, 1, 4, 3, 2] (Host.dotGeneral dot_S8x4096x2x128_S8x4096x2x4x128_S8x2x4096x4096x4_3_4_1_13_02_02 none k
    (shapeCast _ (Host.divf q (broadcastInDim S8x4096x8x128 ![] bcast_S_S8x4096x8x128 (Host.sqrt (constant S_ .f32 0x43000000#32)))) shapeCasts_S8x4096x8x128_S8x4096x2x4x128))
    transposes_S8x2x4096x4096x4_S8x2x4x4096x4096_0_1_4_3_2

/-- Each query row's greatest score. -/
def rowTop (S : FVec Ideal S8x2x4x4096x4096 .f32) : FVec Ideal S8x2x4x4096 .f32 :=
  Host.reduce FloatOps.maximumf S (constant S_ .f32 0xFF800000#32) reducesTo_S8x2x4x4096x4096_S8x2x4x4096_d4 h_S_

/-- An array of -∞. -/
def bottom : FVec Ideal S8x2x4x4096 .f32 := broadcastInDim S8x2x4x4096 ![] bcast_S_S8x2x4x4096 (constant S_ .f32 0xFF800000#32)

/-- The exponentials of the scores less a number for each row. -/
def exps (S : FVec Ideal S8x2x4x4096x4096 .f32) (M : FVec Ideal S8x2x4x4096 .f32) : FVec Ideal S8x2x4x4096x4096 .f32 :=
  Host.exp (subf S (broadcastInDim S8x2x4x4096x4096 ![0, 1, 2, 3, 4] bcast_S8x2x4x4096x1_S8x2x4x4096x4096_0_1_2_3_4
    (broadcastInDim S8x2x4x4096x1 ![0, 1, 2, 3] bcast_S8x2x4x4096_S8x2x4x4096x1_0_1_2_3 M)))

/-- The softmax of the scores. -/
def probs (P : FVec Ideal S8x2x4x4096x4096 .f32) : FVec Ideal S8x2x4x4096x4096 .f32 :=
  Host.divf P (broadcastInDim S8x2x4x4096x4096 ![0, 1, 2, 3, 4] bcast_S8x2x4x4096x1_S8x2x4x4096x4096_0_1_2_3_4
    (broadcastInDim S8x2x4x4096x1 ![0, 1, 2, 3] bcast_S8x2x4x4096_S8x2x4x4096x1_0_1_2_3
      (Host.reduceAdd P (constant S_ .f32 0x00000000#32) reducesTo_S8x2x4x4096x4096_S8x2x4x4096_d4 h_S_)))

/-- The weighted values, laid out as the result. -/
def heads (v : FVec Ideal S8x4096x2x128 .f32) (W : FVec Ideal S8x2x4x4096x4096 .f32) : FVec Ideal S8x4096x1024 .f32 :=
  shapeCast _ (transpose S8x4096x2x4x128 [0, 4, 1, 3, 2]
    (Host.dotGeneral dot_S8x4096x2x128_S8x2x4x4096x4096_S8x2x128x4x4096_1_4_3_23_02_01 none v W)
    transposes_S8x2x128x4x4096_S8x4096x2x4x128_0_4_1_3_2) shapeCasts_S8x4096x2x4x128_S8x4096x1024

/-- The SiLU of the gate's first 1024 coordinates. -/
def gate (z : FVec Ideal S8x4096x2048 .f32) : FVec Ideal S8x4096x1024 .f32 :=
  mulf (extractStridedSlice S8x4096x1024 ![0, 0, 0] z slices_S8x4096x2048_S8x4096x1024_0_0_0)
    (Host.divf (broadcastInDim S8x4096x1024 ![] bcast_S_S8x4096x1024 (constant S_ .f32 0x3F800000#32))
      (addf (broadcastInDim S8x4096x1024 ![] bcast_S_S8x4096x1024 (constant S_ .f32 0x3F800000#32))
        (Host.exp (Host.negf (extractStridedSlice S8x4096x1024 ![0, 0, 0] z slices_S8x4096x2048_S8x4096x1024_0_0_0)))))

/-- The reference's result. -/
def result (q : FVec Ideal S8x4096x8x128 .f32) (k v : FVec Ideal S8x4096x2x128 .f32) (z : FVec Ideal S8x4096x2048 .f32) : FVec Ideal S8x4096x1024 .bf16 :=
  truncf .bf16 (mulf (heads v (probs (exps (scores q k) (maximumf bottom (rowTop (scores q k)))))) (gate z)) bitsLt_bf16_f32

variable (q : FVec Ideal S8x4096x8x128 .f32) (k v : FVec Ideal S8x4096x2x128 .f32) (z : FVec Ideal S8x4096x2048 .f32)

/-- A score is the sum of products of a key's and a query's coordinates, the query's over √128. -/
theorem scores_apply (b : Fin 8) (n : Fin 2) (g : Fin 4) (R s : Fin 4096) :
    scores q k (ix5 b n g R s)
      = ∑ d : Fin 128, k (ix4 b s n d) * Ideal.div (q (ix4 b R ⟨n.val * 4 + g.val, by omega⟩ d)) (Ideal.sqrt (Ideal.ofBits .f32 0x43000000#32)) := by
  unfold scores
  pointwise

/-- A row's greatest score, as a fold. -/
theorem rowTop_apply (S : FVec Ideal S8x2x4x4096x4096 .f32) (b : Fin 8) (n : Fin 2) (g : Fin 4) (R : Fin 4096) (y : EReal)
    (hy : (Finset.univ.fold max (Ideal.ofBits .f32 0xFF800000#32) fun s => S (ix5 b n g R s)) = y) : rowTop S (ix4 b n g R) = y := by
  unfold rowTop
  pointwise
  exact hy

/-- The array of -∞ at an index. -/
theorem bottom_apply (i : S8x2x4x4096.Idx) : bottom i = (⊥ : EReal) := by
  show Ideal.ofBits .f32 0xFF800000#32 = ⊥
  simp [Ideal.ofBits, Ideal.ieee]

/-- The greater of -∞ and a row's greatest score is that score. -/
theorem maxBottom_apply (X : FVec Ideal S8x2x4x4096 .f32) (i : S8x2x4x4096.Idx) : maximumf bottom X i = X i := by
  refine (congrArg₂ max (bottom_apply i) (rfl : X i = X i)).trans ?_
  exact max_eq_right bot_le

/-- The exponentials at an index. -/
theorem exps_apply (S : FVec Ideal S8x2x4x4096x4096 .f32) (M : FVec Ideal S8x2x4x4096 .f32) (b : Fin 8) (n : Fin 2) (g : Fin 4) (R s : Fin 4096) :
    exps S M (ix5 b n g R s) = Ideal.exp (S (ix5 b n g R s) - M (ix4 b n g R)) := by
  unfold exps
  pointwise

/-- The softmax at an index. -/
theorem probs_apply (P : FVec Ideal S8x2x4x4096x4096 .f32) (b : Fin 8) (n : Fin 2) (g : Fin 4) (R s : Fin 4096) :
    probs P (ix5 b n g R s) = Ideal.div (P (ix5 b n g R s)) (∑ i : Fin 4096, P (ix5 b n g R i)) := by
  unfold probs
  pointwise

/-- The weighted values at an index. -/
theorem heads_apply (W : FVec Ideal S8x2x4x4096x4096 .f32) (b : Fin 8) (R : Fin 4096) (E : Fin 1024) :
    heads v W (ix3 b R E) = ∑ s : Fin 4096, v (ix4 b s ⟨E.val / 512, by omega⟩ ⟨E.val % 128, by omega⟩)
      * W (ix5 b ⟨E.val / 512, by omega⟩ ⟨E.val / 128 % 4, by omega⟩ R s) := by
  unfold heads
  pointwise

/-- The gate at an index. -/
theorem gate_apply (b : Fin 8) (R : Fin 4096) (E : Fin 1024) :
    gate z (ix3 b R E) = z (ix3 b R ⟨E.val, by omega⟩) * Ideal.logistic (z (ix3 b R ⟨E.val, by omega⟩)) := by
  unfold gate
  pointwise
  rfl

/-- √128, of the pattern of 128. -/
theorem sqrt_128 : Ideal.sqrt (Ideal.ofBits .f32 0x43000000#32) = ((Real.sqrt 128 : ℝ) : EReal) := by
  have h : Ideal.ofBits .f32 0x43000000#32 = ((128 : ℝ) : EReal) := by
    simp [Ideal.ofBits, Ideal.ieee, -EReal.coe_mul]; norm_num
  rw [h, Ideal.sqrt_coe, if_neg (by norm_num)]

variable (hq : ∀ i, ∃ r : ℝ, q i = (r : EReal)) (hk : ∀ i, ∃ r : ℝ, k i = (r : EReal))
include hq hk

/-- For finite queries and keys a score is real. -/
theorem scores_real (b : Fin 8) (n : Fin 2) (g : Fin 4) (R s : Fin 4096) (h : Fin 8) (hh : h.val = n.val * 4 + g.val) :
    scores q k (ix5 b n g R s) = ((score q k b R h s : ℝ) : EReal) := by
  rw [scores_apply, sqrt_128]
  refine Eq.trans (Finset.sum_congr rfl fun d _ => ?_) (coe_sum _ _).symm
  have hn : (⟨h.val / 4, by omega⟩ : Fin 2) = n := Fin.ext (by show h.val / 4 = n.val; omega)
  have hg : (⟨n.val * 4 + g.val, by omega⟩ : Fin 8) = h := Fin.ext hh.symm
  obtain ⟨x, hx⟩ := hq (ix4 b R h d)
  obtain ⟨y, hy⟩ := hk (ix4 b s n d)
  rw [hn, hg, hx, hy, Ideal.div_coe (Real.sqrt_pos.2 (by norm_num)).ne', EReal.toReal_coe, EReal.toReal_coe, ← EReal.coe_mul, ← EReal.coe_mul,
    one_div, div_eq_mul_inv]

/-- For finite queries and keys the reference's result is the gated attention. -/
theorem result_eq : result q k v z = attn q k v z := by
  funext i
  obtain ⟨b, R, E, rfl⟩ : ∃ (b : Fin 8) (R : Fin 4096) (E : Fin 1024), i = ix3 b R E := ⟨i 0, i 1, i 2, eq_ix3 i⟩
  let n : Fin 2 := ⟨E.val / 512, by omega⟩
  let g : Fin 4 := ⟨E.val / 128 % 4, by omega⟩
  let h : Fin 8 := ⟨E.val / 128, by omega⟩
  have hS : ∀ s, scores q k (ix5 b n g R s) = ((score q k b R h s : ℝ) : EReal) := fun s =>
    scores_real q k hq hk b n g R s h (by show E.val / 128 = E.val / 512 * 4 + E.val / 128 % 4; omega)
  obtain ⟨M, hM⟩ : ∃ M : ℝ, rowTop (scores q k) (ix4 b n g R) = (M : EReal) := by
    rcases fold_max_real Finset.univ (fun s => scores q k (ix5 b n g R s)) fun s => ⟨_, hS s⟩ with h0 | ⟨M, hM⟩
    · exact absurd h0 Finset.univ_nonempty.ne_empty
    · refine ⟨M, rowTop_apply _ b n g R _ ?_⟩
      rw [show Ideal.ofBits .f32 0xFF800000#32 = (⊥ : EReal) from bottom_apply (ix4 b n g R)]
      exact hM
  have hP : ∀ s, exps (scores q k) (maximumf bottom (rowTop (scores q k))) (ix5 b n g R s)
      = Ideal.exp ((score q k b R h s : EReal) - (M : EReal)) := fun s => by
    rw [exps_apply, maxBottom_apply, hM, hS]
  show heads v _ (ix3 b R E) * gate z (ix3 b R E) = attnAt q k v z b R E
  rw [heads_apply, gate_apply]
  unfold attnAt
  refine congrArg₂ _ (Eq.trans (Finset.sum_congr rfl fun s _ => congrArg₂ _ rfl ?_)
    (softmax_eq Finset.univ Finset.univ_nonempty (fun s => v (ix4 b s n ⟨E.val % 128, by omega⟩)) (fun s => score q k b R h s) M)) rfl
  refine (probs_apply _ b n g R s).trans ?_
  simp only [hP]

omit q k v z hq hk in
/-- Every execution from finite queries and keys ends with the gated attention in the result and the arguments as they were. -/
theorem run_value (m : (ℓ : Loc nD τ sig) → Buf (Elt Ideal) ℓ) (ρ : Dev nD → PrngReg) (q : Dev nD → FVec Ideal S8x4096x8x128 .f32)
    (k v : Dev nD → FVec Ideal S8x4096x2x128 .f32) (z : Dev nD → FVec Ideal S8x4096x2048 .f32)
    (hm : ∀ c : Dev nD, m ((c.tc : Thread nD τ).loc main_arg0) = q c ∧ m ((c.tc : Thread nD τ).loc main_arg1) = k c
      ∧ m ((c.tc : Thread nD τ).loc main_arg2) = v c ∧ m ((c.tc : Thread nD τ).loc main_arg3) = z c)
    (hq : ∀ c i, ∃ r : ℝ, q c i = (r : EReal)) (hk : ∀ c i, ∃ r : ℝ, k c i = (r : EReal)) :
    θ_run defs (onTc (τ := τ) (main (F := Ideal))) ⟨m, fun _ => 0, ρ⟩ (fun r => ∀ c : Dev nD,
      r.2.mem ((c.tc : Thread nD τ).loc main_v23) = attn (q c) (k c) (v c) (z c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨(h c).1.trans ?_, (h c).2⟩) (Value.run (F := Ideal) m ρ)
  obtain ⟨h0, h1, h2, h3⟩ := hm c
  rw [h0, h1, h2, h3]
  exact result_eq (q c) (k c) (v c) (z c) (hq c) (hk c)

end Cert.ReferenceIdeal

end
-- ==== Proof.Finite.lean ====
/- What the precondition says: every query and key is a real. -/
module

public import proofs.«01_k».proof.Pre_finite_scores
public import Idealize.ShloMosaic.PureOps.Ideal

@[expose] public section

noncomputable section

namespace Cert.Pre_finite_scores

open Idealize.ShloMosaic

/-- The predicate's broadcasts are well formed. -/
instance facts : Facts where
  bcast_S_S8x4096x8x128 := by decide
  bcast_S_S8x4096x2x128 := by decide

/-- A number whose absolute value is below +∞ is real. -/
theorem real_of_abs_lt {x : EReal} (h : Ideal.cmp .olt (max x (-x)) (Ideal.ofBits .f32 0x7F800000#32) = 1#1) : ∃ r : ℝ, x = (r : EReal) := by
  have ht : Ideal.ofBits .f32 0x7F800000#32 = (⊤ : EReal) := by simp [Ideal.ofBits, Ideal.ieee]
  rw [ht] at h
  induction x with
  | bot => simp [Ideal.cmp] at h
  | top => simp [Ideal.cmp] at h
  | coe r => exact ⟨r, rfl⟩

variable (q : FVec Ideal S8x4096x8x128 .f32) (k v : FVec Ideal S8x4096x2x128 .f32) (z : FVec Ideal S8x4096x2048 .f32)

/-- The queries of which the predicate holds are real. -/
theorem q_real (h : (fn (F := Ideal) q k v z).1 = fun _ => 1#1) (i : S8x4096x8x128.Idx) : ∃ r : ℝ, q i = (r : EReal) :=
  real_of_abs_lt (congrFun h i)

/-- The keys of which the predicate holds are real. -/
theorem k_real (h : (fn (F := Ideal) q k v z).2 = fun _ => 1#1) (i : S8x4096x2x128.Idx) : ∃ r : ℝ, k i = (r : EReal) :=
  real_of_abs_lt (congrFun h i)

end Cert.Pre_finite_scores

end
-- ==== Proof.Norm.lean ====
/- The root mean square norm of a row, over the extended reals. -/
module

public import Idealize.ShloMosaic.Lib.Pointwise

@[expose] public section

noncomputable section

namespace Norm

open Idealize.ShloMosaic
open scoped BigOperators

/-- One over the root of a row's mean square and the small number that keeps it from zero; `n` is the row's length as a float. -/
def invRms {ι : Type} [Fintype ι] (n : BitVec 32) (f : ι → EReal) : EReal :=
  Ideal.rsqrt (Ideal.div (∑ i, f i * f i) (Ideal.ofBits .f32 n) + Ideal.ofBits .f32 0x358637BD#32)

end Norm

end
-- ==== Proof.OutSpec.lean ====
/- What the end of the layer computes: the heads normalised or attended, gated, projected, normalised again and added to the input. -/
module

public import proofs.«01_k».proof.Proof.Norm
public import proofs.«01_k».proof.Proof.Softmax
public import proofs.«01_k».proof.Kernel2Ideal
public import Idealize.ShloMosaic.Lib.Pointwise

@[expose] public section

noncomputable section

namespace OutProj

open Idealize.ShloMosaic Cert.Kernel2Ideal Norm Attn
open scoped BigOperators

/-- A number times its logistic. -/
def silu (z : EReal) : EReal := z * Ideal.logistic z

/-- Coordinate `d` of a head normalised, weighted and gated. -/
def normed (f w : Fin 128 → EReal) (z : EReal) (d : Fin 128) : EReal :=
  f d * invRms 0x43000000#32 f * w d * silu z

/-- The pattern of -∞. -/
theorem bottom_eq : Ideal.ofBits .f32 0xFF800000#32 = (⊥ : EReal) := by
  simp [Ideal.ofBits, Ideal.ieee]

/-- A softmax of scores, less their maximum, over values: the sum over the sum. -/
def attended (s v : Fin 256 → EReal) : EReal :=
  Ideal.div (∑ i, Ideal.exp (s i - Finset.univ.fold max (Ideal.ofBits .f32 0xFF800000#32) s) * v i)
    (∑ i, Ideal.exp (s i - Finset.univ.fold max (Ideal.ofBits .f32 0xFF800000#32) s))

/-- A softmax of real scores over values. -/
def softmax (y : Fin 256 → ℝ) (v : Fin 256 → EReal) : EReal :=
  (((∑ i, Real.exp (y i))⁻¹ : ℝ) : EReal) * ∑ i, v i * (Real.exp (y i) : EReal)

/-- The largest of 256 reals is real. -/
theorem top_real (s : Fin 256 → EReal) (y : Fin 256 → ℝ) (hs : ∀ i, s i = (y i : EReal)) :
    ∃ M : ℝ, Finset.univ.fold max (Ideal.ofBits .f32 0xFF800000#32) s = (M : EReal) := by
  rw [bottom_eq]
  exact (fold_max_real Finset.univ s fun i => ⟨_, hs i⟩).resolve_left Finset.univ_nonempty.ne_empty

/-- Of real scores the sum over the sum is the softmax. -/
theorem attended_eq (s v : Fin 256 → EReal) (y : Fin 256 → ℝ) (hs : ∀ i, s i = (y i : EReal)) : attended s v = softmax y v := by
  obtain ⟨M, hM⟩ := top_real s y hs
  have he : ∀ i, Ideal.exp (s i - (M : EReal)) = (Real.exp (-M) : EReal) * (Real.exp (y i) : EReal) := fun i => by
    rw [hs, exp_sub, show y i - M = -M + y i by ring, Real.exp_add, EReal.coe_mul]
  unfold attended softmax
  simp only [hM, he]
  rw [← coe_mul_sum _ _ (Real.exp_pos _).le, ← coe_sum,
    show (∑ i, (Real.exp (-M) : EReal) * (Real.exp (y i) : EReal) * v i) = (Real.exp (-M) : EReal) * ∑ i, v i * (Real.exp (y i) : EReal) by
      rw [coe_mul_sum _ _ (Real.exp_pos _).le]
      exact Finset.sum_congr rfl fun i _ => by ac_rfl]
  exact div_cancel _ _ (Real.exp_pos _) (Finset.sum_pos (fun i _ => Real.exp_pos _) Finset.univ_nonempty) _

/-- The arguments. -/
structure Args where
  /-- The gated attention. -/
  ya : S8x4096x1024.Idx → EReal
  /-- The delta net forwards. -/
  of : S8x4096x512.Idx → EReal
  /-- The delta net backwards. -/
  ob : S8x4096x512.Idx → EReal
  /-- The gate. -/
  z : S8x4096x2048.Idx → EReal
  /-- The memory's queries. -/
  mq : S8x4096x512.Idx → EReal
  /-- The memory's keys and values. -/
  kv : S8x256x1024.Idx → EReal
  /-- The weights of the heads' norm. -/
  dw : S1x128.Idx → EReal
  /-- The projection's weights. -/
  w : S1x2048x1024.Idx → EReal
  /-- The weights of the last norm. -/
  pw : S1x1024.Idx → EReal
  /-- The layer's input. -/
  x : S8x4096x1024.Idx → EReal

variable (A : Args)

/-- The memory's queries and keys are finite. -/
structure Args.Finite : Prop where
  queries : ∀ i, ∃ r : ℝ, A.mq i = (r : EReal)
  keys : ∀ (b : Fin 8) (i : Fin 256) (e : Fin 1024), e.val < 512 → ∃ r : ℝ, A.kv (ix3 b i e) = (r : EReal)

/-- The score of memory token `i` against row `R` in the head of coordinate `e`. -/
def score (b : Fin 8) (R : Fin 4096) (e : Fin 512) (i : Fin 256) : ℝ :=
  ∑ d : Fin 128, (A.mq (ix3 b R ⟨e.val / 128 * 128 + d.val, by omega⟩)).toReal * (A.kv (ix3 b i ⟨e.val / 128 * 128 + d.val, by omega⟩)).toReal

/-- Of finite queries and keys a score is real. -/
theorem score_eq (h : A.Finite) (b : Fin 8) (R : Fin 4096) (e : Fin 512) (i : Fin 256) :
    (∑ d : Fin 128, A.mq (ix3 b R ⟨e.val / 128 * 128 + d.val, by omega⟩) * A.kv (ix3 b i ⟨e.val / 128 * 128 + d.val, by omega⟩)) = (score A b R e i : EReal) := by
  unfold score
  rw [coe_sum]
  refine Finset.sum_congr rfl fun d _ => ?_
  obtain ⟨x, hx⟩ := h.queries (ix3 b R ⟨e.val / 128 * 128 + d.val, by omega⟩)
  obtain ⟨y, hy⟩ := h.keys b i ⟨e.val / 128 * 128 + d.val, by omega⟩ (by show e.val / 128 * 128 + d.val < 512; omega)
  rw [hx, hy, EReal.toReal_coe, EReal.toReal_coe, EReal.coe_mul]

/-- The delta net's normalised heads at row `R`, coordinate `e`, gated. -/
def mixB (b : Fin 8) (R : Fin 4096) (e : Fin 512) : EReal :=
  normed (fun i => A.of (ix3 b R ⟨e.val / 128 * 128 + i.val, by omega⟩) + A.ob (ix3 b R ⟨e.val / 128 * 128 + i.val, by omega⟩))
    (fun i => A.dw (ix2 0 i)) (A.z (ix3 b R ⟨1024 + e.val, by omega⟩)) ⟨e.val % 128, by omega⟩

/-- The memory attention at row `R`, coordinate `e`, gated. -/
def mixM (b : Fin 8) (R : Fin 4096) (e : Fin 512) : EReal :=
  softmax (score A b R e) (fun i => A.kv (ix3 b i ⟨512 + e.val, by omega⟩)) * silu (A.z (ix3 b R ⟨1536 + e.val, by omega⟩))

/-- The projection of all three mixers' outputs. -/
def acc (b : Fin 8) (R : Fin 4096) (e : Fin 1024) : EReal :=
  (∑ j : Fin 1024, A.ya (ix3 b R j) * A.w (ix3 0 ⟨j.val, by omega⟩ e)) + (∑ j : Fin 512, mixB A b R j * A.w (ix3 0 ⟨1024 + j.val, by omega⟩ e))
    + ∑ j : Fin 512, mixM A b R j * A.w (ix3 0 ⟨1536 + j.val, by omega⟩ e)

/-- The layer's result at row `R`, coordinate `e`. -/
def outAt (b : Fin 8) (R : Fin 4096) (e : Fin 1024) : EReal :=
  A.x (ix3 b R e) + acc A b R e * invRms 0x44800000#32 (acc A b R) * A.pw (ix2 0 e)

/-- The layer's result. -/
def out : S8x4096x1024.Idx → EReal := fun i => outAt A (i 0) (i 1) (i 2)

end OutProj

end
-- ==== Proof.OutBlock.lean ====
/- What the output call's body computes at an index of its output block. -/
module

public import proofs.«01_k».proof.Proof.OutSpec
public import proofs.«01_k».proof.Proof.Gen.Kernel2Ideal.Value
public import Idealize.ShloMosaic.Lib.Pipeline.ValueKit

@[expose] public section

set_option maxRecDepth 16384

noncomputable section

namespace OutProj

open Idealize.ShloMosaic Cert.Kernel2Ideal Cert.Kernel2Ideal.Gen Norm
open scoped BigOperators

/-- The body's normalised and gated heads. -/
def blkB (x1 x2 : FVec Ideal S1x512x512 .bf16) (x3 : FVec Ideal S1x512x1024 .bf16) (x6 : FVec Ideal S1x128 .f32) : FVec Ideal S512x512 .bf16 :=
  k0_pay12 (F := Ideal) (k0_pay4 (View.ld x6 r0_3)) (k0_pay5 (View.ld x1 r0_2) (View.ld x2 r0_2) (View.ld x6 r0_3) (View.ld x3 r0_4))
    (k0_pay8 (k0_pay4 (View.ld x6 r0_3)) (k0_pay6 (View.ld x1 r0_2) (View.ld x2 r0_2)) (k0_pay7 (View.ld x1 r0_2) (View.ld x2 r0_2)) (View.ld x3 r0_5))
    (k0_pay9 (k0_pay3 (View.ld x1 r0_2) (View.ld x2 r0_2)) (k0_pay4 (View.ld x6 r0_3)) (View.ld x3 r0_6))
    (k0_pay10 (k0_pay3 (View.ld x1 r0_2) (View.ld x2 r0_2))) (k0_pay11 (k0_pay3 (View.ld x1 r0_2) (View.ld x2 r0_2))) (View.ld x3 r0_7)

/-- The body's attended and gated heads. -/
def blkM (x4 : FVec Ideal S1x512x512 .bf16) (x5 : FVec Ideal S1x256x1024 .bf16) (x3 : FVec Ideal S1x512x1024 .bf16) : FVec Ideal S512x512 .bf16 :=
  k0_pay18 (F := Ideal) (k0_pay13 (View.ld x4 r0_8) (View.ld x5 r0_9) (View.ld x5 r0_10) (View.ld x3 r0_11))
    (k0_pay14 (View.ld x4 r0_12) (View.ld x5 r0_13) (View.ld x5 r0_14) (View.ld x3 r0_15))
    (k0_pay16 (View.ld x4 r0_16) (View.ld x5 r0_17)) (k0_pay17 (View.ld x4 r0_16) (View.ld x5 r0_17)) (View.ld x5 r0_18) (View.ld x3 r0_19)
    (View.ld x4 r0_20) (View.ld x5 r0_21) (View.ld x5 r0_22) (View.ld x3 r0_23)

section heads

variable (x1 x2 x4 : FVec Ideal S1x512x512 .bf16) (x3 : FVec Ideal S1x512x1024 .bf16) (x5 : FVec Ideal S1x256x1024 .bf16) (x6 : FVec Ideal S1x128 .f32)
  (r : Fin 512)

/-- A normalised head of the block, whose coordinates start at `o`. -/
def headB (o : ℕ) (ho : o + 128 ≤ 512) (d : Fin 128) : EReal :=
  normed (fun i => x1 (ix3 0 r ⟨o + i.val, by omega⟩) + x2 (ix3 0 r ⟨o + i.val, by omega⟩)) (fun i => x6 (ix2 0 i)) (x3 (ix3 0 r ⟨o + d.val, by omega⟩)) d

/-- An attended head of the block, whose coordinates start at `o`. -/
def headM (o : ℕ) (ho : o + 128 ≤ 512) (d : Fin 128) : EReal :=
  attended (fun i => ∑ c : Fin 128, x4 (ix3 0 r ⟨o + c.val, by omega⟩) * x5 (ix3 0 i ⟨o + c.val, by omega⟩)) (fun i => x5 (ix3 0 i ⟨512 + (o + d.val), by omega⟩))
    * silu (x3 (ix3 0 r ⟨512 + (o + d.val), by omega⟩))

theorem blkB_0 (d : Fin 128) : blkB x1 x2 x3 x6 (ix2 r ⟨0 + d.val, by omega⟩) = headB x1 x2 x3 x6 r 0 (by omega) d := by
  unfold blkB k0_pay12
  pointwise
  unfold k0_pay5 k0_pay4 k0_pay3 headB normed invRms silu
  pointwise

theorem blkB_1 (d : Fin 128) : blkB x1 x2 x3 x6 (ix2 r ⟨128 + d.val, by omega⟩) = headB x1 x2 x3 x6 r 128 (by omega) d := by
  unfold blkB k0_pay12
  pointwise
  unfold k0_pay8 k0_pay7 k0_pay6 k0_pay4 k0_pay3 headB normed invRms silu
  pointwise

theorem blkB_2 (d : Fin 128) : blkB x1 x2 x3 x6 (ix2 r ⟨256 + d.val, by omega⟩) = headB x1 x2 x3 x6 r 256 (by omega) d := by
  unfold blkB k0_pay12
  pointwise
  rw [dif_neg (by omega), dif_neg (by omega), dif_pos (by omega)]
  unfold k0_pay9 k0_pay4 k0_pay3 headB normed invRms silu
  pointwise
  simp only [show ∀ n, 256 + n - 128 - 128 = n by omega]

theorem blkB_3 (d : Fin 128) : blkB x1 x2 x3 x6 (ix2 r ⟨384 + d.val, by omega⟩) = headB x1 x2 x3 x6 r 384 (by omega) d := by
  unfold blkB k0_pay12
  pointwise
  rw [dif_neg (by omega), dif_neg (by omega), dif_neg (by omega)]
  unfold k0_pay11 k0_pay10 k0_pay4 k0_pay3 headB normed invRms silu
  pointwise
  simp only [show ∀ n, 384 + n - 128 - 128 - 128 = n by omega]

theorem blkM_0 (d : Fin 128) : blkM x4 x5 x3 (ix2 r ⟨0 + d.val, by omega⟩) = headM x4 x3 x5 r 0 (by omega) d := by
  unfold blkM k0_pay18
  pointwise
  unfold k0_pay13 headM attended silu
  pointwise

theorem blkM_1 (d : Fin 128) : blkM x4 x5 x3 (ix2 r ⟨128 + d.val, by omega⟩) = headM x4 x3 x5 r 128 (by omega) d := by
  unfold blkM k0_pay18
  pointwise
  unfold k0_pay14 headM attended silu
  pointwise
  simp only [show ∀ n, 128 + n - 128 = n by omega, ← Nat.add_assoc, Nat.reduceAdd]

theorem blkM_2 (d : Fin 128) : blkM x4 x5 x3 (ix2 r ⟨256 + d.val, by omega⟩) = headM x4 x3 x5 r 256 (by omega) d := by
  unfold blkM k0_pay18
  pointwise
  rw [dif_neg (by omega), dif_neg (by omega), dif_pos (by omega)]
  unfold k0_pay16 k0_pay17 k0_pay15 headM attended silu
  pointwise
  simp only [show ∀ n, 256 + n - 128 - 128 = n by omega, ← Nat.add_assoc, Nat.reduceAdd]

theorem blkM_3 (d : Fin 128) : blkM x4 x5 x3 (ix2 r ⟨384 + d.val, by omega⟩) = headM x4 x3 x5 r 384 (by omega) d := by
  unfold blkM k0_pay18
  pointwise
  rw [dif_neg (by omega), dif_neg (by omega), dif_neg (by omega)]
  unfold headM attended silu
  pointwise
  simp only [show ∀ n, 384 + n - 128 - 128 - 128 = n by omega, ← Nat.add_assoc, Nat.reduceAdd]

/-- A coordinate below 512 is in one of four heads of 128. -/
theorem by_head (f : Fin 512 → EReal) (g : (o : ℕ) → o + 128 ≤ 512 → Fin 128 → EReal)
    (h0 : ∀ d : Fin 128, f ⟨0 + d.val, by omega⟩ = g 0 (by omega) d) (h1 : ∀ d : Fin 128, f ⟨128 + d.val, by omega⟩ = g 128 (by omega) d)
    (h2 : ∀ d : Fin 128, f ⟨256 + d.val, by omega⟩ = g 256 (by omega) d) (h3 : ∀ d : Fin 128, f ⟨384 + d.val, by omega⟩ = g 384 (by omega) d) (e : Fin 512) :
    f e = g (e.val / 128 * 128) (by omega) ⟨e.val % 128, by omega⟩ := by
  have key : ∀ (o : ℕ) (ho : o + 128 ≤ 512), e.val / 128 * 128 = o → (∀ d : Fin 128, f ⟨o + d.val, by omega⟩ = g o ho d) →
      f e = g (e.val / 128 * 128) (by omega) ⟨e.val % 128, by omega⟩ := by
    intro o ho h hd
    subst h
    refine Eq.trans (congrArg f (Fin.ext ?_)) (hd ⟨e.val % 128, by omega⟩)
    show e.val = e.val / 128 * 128 + e.val % 128
    omega
  have he : e.val / 128 = 0 ∨ e.val / 128 = 1 ∨ e.val / 128 = 2 ∨ e.val / 128 = 3 := by omega
  rcases he with h | h | h | h
  · exact key 0 (by omega) (by omega) h0
  · exact key 128 (by omega) (by omega) h1
  · exact key 256 (by omega) (by omega) h2
  · exact key 384 (by omega) (by omega) h3

/-- The body's normalised heads at an index. -/
theorem blkB_apply (e : Fin 512) : blkB x1 x2 x3 x6 (ix2 r e) = headB x1 x2 x3 x6 r (e.val / 128 * 128) (by omega) ⟨e.val % 128, by omega⟩ :=
  by_head (fun e => blkB x1 x2 x3 x6 (ix2 r e)) (fun o ho d => headB x1 x2 x3 x6 r o ho d) (blkB_0 x1 x2 x3 x6 r) (blkB_1 x1 x2 x3 x6 r) (blkB_2 x1 x2 x3 x6 r) (blkB_3 x1 x2 x3 x6 r) e

/-- The body's attended heads at an index. -/
theorem blkM_apply (e : Fin 512) : blkM x4 x5 x3 (ix2 r e) = headM x4 x3 x5 r (e.val / 128 * 128) (by omega) ⟨e.val % 128, by omega⟩ :=
  by_head (fun e => blkM x4 x5 x3 (ix2 r e)) (fun o ho d => headM x4 x3 x5 r o ho d) (blkM_0 x4 x3 x5 r) (blkM_1 x4 x3 x5 r) (blkM_2 x4 x3 x5 r) (blkM_3 x4 x3 x5 r) e

end heads

variable (x0 : FVec Ideal S1x512x1024 .bf16) (x1 x2 x4 : FVec Ideal S1x512x512 .bf16) (x3 : FVec Ideal S1x512x1024 .bf16)
  (x5 : FVec Ideal S1x256x1024 .bf16) (x6 : FVec Ideal S1x128 .f32) (x7 : FVec Ideal S2048x1024 .bf16) (x8 : FVec Ideal S1x1024 .f32) (x9 : FVec Ideal S1x512x1024 .f32)

/-- The body's projection at row `r`, coordinate `e`. -/
def blkAcc (r : Fin 512) (e : Fin 1024) : EReal :=
  (∑ j : Fin 1024, x0 (ix3 0 r j) * x7 (ix2 ⟨j.val, by omega⟩ e)) + (∑ j : Fin 512, blkB x1 x2 x3 x6 (ix2 r j) * x7 (ix2 ⟨1024 + j.val, by omega⟩ e))
    + ∑ j : Fin 512, blkM x4 x5 x3 (ix2 r j) * x7 (ix2 ⟨1536 + j.val, by omega⟩ e)

/-- What the body leaves at row `r`, coordinate `e`. -/
theorem out_apply (r : Fin 512) (e : Fin 1024) :
    out0_10 (F := Ideal) x0 x1 x2 x3 x4 x5 x6 x7 x8 x9 (ix3 0 r e)
      = x9 (ix3 0 r e) + blkAcc x0 x1 x2 x4 x3 x5 x6 x7 r e * invRms 0x44800000#32 (blkAcc x0 x1 x2 x4 x3 x5 x6 x7 r) * x8 (ix2 0 e) := by
  unfold_out out0_10
  rw [View.canon_unit_zero (funext fun a => by fin_cases a <;> rfl)]
  show k0_pay1 (F := Ideal) (k0_pay2 (View.ld x0 r0_0) (View.ld x7 r0_1)) (blkB x1 x2 x3 x6) (blkM x4 x5 x3) (View.ld x7 r0_24) (View.ld x7 r0_25) (View.ld x8 r0_26) (View.ld x9 r0_0) (ix3 0 r e) = _
  unfold k0_pay1 k0_pay2 invRms blkAcc
  pointwise

end OutProj

end
-- ==== Proof.OutValue.lean ====
/- The array the output call leaves: the layer's result, of its arguments. -/
module

public import proofs.«01_k».proof.Proof.OutBlock
public import Idealize.ShloMosaic.Lib.StableHlo.ReadAt

@[expose] public section

set_option maxRecDepth 16384

noncomputable section

namespace Cert.Kernel2Ideal

open Cert.Kernel2Ideal.Gen Idealize.ShloMosaic Idealize.ShloMosaic.TcCoe Idealize.ShloMosaic.Pipeline OutProj Norm
open scoped BigOperators

variable (m : (ℓ : Loc nD τ sig) → Buf (Elt Ideal) ℓ) (c : Dev nD)

/-- The program's arguments. -/
def args : Args where
  ya := m ((c.tc : Thread nD τ).loc main_arg0)
  of := m ((c.tc : Thread nD τ).loc main_arg1)
  ob := m ((c.tc : Thread nD τ).loc main_arg2)
  z := m ((c.tc : Thread nD τ).loc main_arg3)
  mq := m ((c.tc : Thread nD τ).loc main_arg4)
  kv := m ((c.tc : Thread nD τ).loc main_arg5)
  dw := m ((c.tc : Thread nD τ).loc main_arg6)
  w := m ((c.tc : Thread nD τ).loc main_arg7)
  pw := m ((c.tc : Thread nD τ).loc main_arg8)
  x := m ((c.tc : Thread nD τ).loc main_arg9)

/-- The grid's points: a batch and a tile of 512 rows. -/
theorem idx : ∀ t : Fin cfg0.N, (win0_0.index t = ![t.val / 8, t.val % 8, 0] ∧ win0_1.index t = ![t.val / 8, t.val % 8, 0] ∧ win0_2.index t = ![t.val / 8, t.val % 8, 0]
    ∧ win0_3.index t = ![t.val / 8, t.val % 8, 1] ∧ win0_4.index t = ![t.val / 8, t.val % 8, 0] ∧ win0_5.index t = ![t.val / 8, 0, 0])
    ∧ win0_6.index t = ![0, 0] ∧ win0_7.index t = ![0, 0] ∧ win0_8.index t = ![0, 0] ∧ win0_9.index t = ![t.val / 8, t.val % 8, 0]
    ∧ win0_10.index t = ![t.val / 8, t.val % 8, 0] := by
  decide +kernel

variable (t : Fin cfg0.N) (ht : t.val < 64)
include ht

/-- The attention's block at a point. -/
theorem blk_ya (r : Fin 512) (e : Fin 1024) :
    iblk (F := Ideal) m c 0 t (ix3 0 r e) = (args m c).ya (ix3 ⟨t.val / 8, by omega⟩ ⟨t.val % 8 * 512 + r.val, by omega⟩ e) := by
  trans V (F := Ideal) m c main_v0 (ix3 ⟨t.val / 8, by omega⟩ ⟨t.val % 8 * 512 + r.val, by omega⟩ e)
  · blk_ext [iblk, idx t]
  · unfold V
    after_reads_at
    rfl

/-- The forward delta net's block at a point. -/
theorem blk_of (r : Fin 512) (e : Fin 512) :
    iblk (F := Ideal) m c 1 t (ix3 0 r e) = (args m c).of (ix3 ⟨t.val / 8, by omega⟩ ⟨t.val % 8 * 512 + r.val, by omega⟩ e) := by
  trans V (F := Ideal) m c main_v1 (ix3 ⟨t.val / 8, by omega⟩ ⟨t.val % 8 * 512 + r.val, by omega⟩ e)
  · blk_ext [iblk, idx t]
  · unfold V
    after_reads_at
    rfl

/-- The backward delta net's block at a point. -/
theorem blk_ob (r : Fin 512) (e : Fin 512) :
    iblk (F := Ideal) m c 2 t (ix3 0 r e) = (args m c).ob (ix3 ⟨t.val / 8, by omega⟩ ⟨t.val % 8 * 512 + r.val, by omega⟩ e) := by
  trans V (F := Ideal) m c main_v2 (ix3 ⟨t.val / 8, by omega⟩ ⟨t.val % 8 * 512 + r.val, by omega⟩ e)
  · blk_ext [iblk, idx t]
  · unfold V
    after_reads_at
    rfl

/-- The gate's block at a point: the coordinates from 1024 on. -/
theorem blk_z (r : Fin 512) (e : Fin 1024) :
    iblk (F := Ideal) m c 3 t (ix3 0 r e) = (args m c).z (ix3 ⟨t.val / 8, by omega⟩ ⟨t.val % 8 * 512 + r.val, by omega⟩ ⟨1024 + e.val, by omega⟩) := by
  trans V (F := Ideal) m c main_v3 (ix3 ⟨t.val / 8, by omega⟩ ⟨t.val % 8 * 512 + r.val, by omega⟩ ⟨1024 + e.val, by omega⟩)
  · blk_ext [iblk, idx t]
  · unfold V
    after_reads_at
    rfl

/-- The memory queries' block at a point. -/
theorem blk_mq (r : Fin 512) (e : Fin 512) :
    iblk (F := Ideal) m c 4 t (ix3 0 r e) = (args m c).mq (ix3 ⟨t.val / 8, by omega⟩ ⟨t.val % 8 * 512 + r.val, by omega⟩ e) := by
  trans V (F := Ideal) m c main_v4 (ix3 ⟨t.val / 8, by omega⟩ ⟨t.val % 8 * 512 + r.val, by omega⟩ e)
  · blk_ext [iblk, idx t]
  · unfold V
    after_reads_at
    rfl

/-- The memory's keys and values at a point. -/
theorem blk_kv (i : Fin 256) (e : Fin 1024) :
    iblk (F := Ideal) m c 5 t (ix3 0 i e) = (args m c).kv (ix3 ⟨t.val / 8, by omega⟩ i e) := by
  trans V (F := Ideal) m c main_v5 (ix3 ⟨t.val / 8, by omega⟩ i e)
  · blk_ext [iblk, idx t]
  · unfold V
    after_reads_at
    rfl

/-- The heads' norm's weights at a point. -/
theorem blk_dw (e : Fin 128) : iblk (F := Ideal) m c 6 t (ix2 0 e) = (args m c).dw (ix2 0 e) := by
  trans V (F := Ideal) m c main_v7 (ix2 0 e)
  · blk_ext [iblk, idx t]
  · unfold V
    after_reads_at
    rfl

/-- The projection's weights at a point. -/
theorem blk_w (j : Fin 2048) (e : Fin 1024) : iblk (F := Ideal) m c 7 t (ix2 j e) = (args m c).w (ix3 0 j e) := by
  trans V (F := Ideal) m c main_v9 (ix2 j e)
  · blk_ext [iblk, idx t]
  · unfold V
    after_reads_at
    rfl

/-- The last norm's weights at a point. -/
theorem blk_pw (e : Fin 1024) : iblk (F := Ideal) m c 8 t (ix2 0 e) = (args m c).pw (ix2 0 e) := by
  trans V (F := Ideal) m c main_v11 (ix2 0 e)
  · blk_ext [iblk, idx t]
  · unfold V
    after_reads_at
    rfl

/-- The input's block at a point. -/
theorem blk_x (r : Fin 512) (e : Fin 1024) :
    iblk (F := Ideal) m c 9 t (ix3 0 r e) = (args m c).x (ix3 ⟨t.val / 8, by omega⟩ ⟨t.val % 8 * 512 + r.val, by omega⟩ e) := by
  trans V (F := Ideal) m c main_arg9 (ix3 ⟨t.val / 8, by omega⟩ ⟨t.val % 8 * 512 + r.val, by omega⟩ e)
  · blk_ext [iblk, idx t]
  · rw [V_main_arg9]
    rfl

/-- Where a point's block of the result lies in the array. -/
theorem emb_out (r : Fin 512) (e : Fin 1024) :
    (win0_10.blk t).view.emb (ix3 (0 : Fin 1) r e) = (ix3 ⟨t.val / 8, by omega⟩ ⟨t.val % 8 * 512 + r.val, by omega⟩ e : S8x4096x1024.Idx) := by
  blk_ext [idx t]

/-- The block's normalised heads are the arguments'. -/
theorem mixB_at (r e : Fin 512) :
    blkB (iblk m c 1 t) (iblk m c 2 t) (iblk m c 3 t) (iblk m c 6 t) (ix2 r e)
      = mixB (args m c) ⟨t.val / 8, by omega⟩ ⟨t.val % 8 * 512 + r.val, by omega⟩ e := by
  rw [blkB_apply]
  unfold headB mixB
  simp only [blk_of m c t ht, blk_ob m c t ht, blk_z m c t ht, blk_dw m c t ht]
  have he : (⟨1024 + (e.val / 128 * 128 + e.val % 128), by omega⟩ : Fin 2048) = ⟨1024 + e.val, by omega⟩ := Fin.ext (by show 1024 + (e.val / 128 * 128 + e.val % 128) = 1024 + e.val; omega)
  rw [he]

/-- The block's attended heads are the arguments', for finite queries and keys of the memory. -/
theorem mixM_at (h : (args m c).Finite) (r e : Fin 512) :
    blkM (iblk m c 4 t) (iblk m c 5 t) (iblk m c 3 t) (ix2 r e)
      = mixM (args m c) ⟨t.val / 8, by omega⟩ ⟨t.val % 8 * 512 + r.val, by omega⟩ e := by
  rw [blkM_apply]
  unfold headM mixM
  simp only [blk_mq m c t ht, blk_kv m c t ht, blk_z m c t ht]
  have he : e.val / 128 * 128 + e.val % 128 = e.val := by omega
  refine congrArg₂ _ ((attended_eq _ _ _ fun i => score_eq (args m c) h _ _ e i).trans (congrArg _ (funext fun i => congrArg _ (congrArg (ix3 _ _) (Fin.ext ?_)))))
    (congrArg _ (congrArg _ (congrArg (ix3 _ _) (Fin.ext ?_))))
  · show 512 + (e.val / 128 * 128 + e.val % 128) = 512 + e.val
    omega
  · show 1024 + (512 + (e.val / 128 * 128 + e.val % 128)) = 1536 + e.val
    omega

/-- The block's projection is the arguments'. -/
theorem acc_at (h : (args m c).Finite) (r : Fin 512) (e : Fin 1024) :
    blkAcc (iblk m c 0 t) (iblk m c 1 t) (iblk m c 2 t) (iblk m c 4 t) (iblk m c 3 t) (iblk m c 5 t) (iblk m c 6 t) (iblk m c 7 t) r e
      = acc (args m c) ⟨t.val / 8, by omega⟩ ⟨t.val % 8 * 512 + r.val, by omega⟩ e := by
  unfold blkAcc acc
  simp only [blk_ya m c t ht, blk_w m c t ht, mixB_at m c t ht, mixM_at m c t ht h]

/-- What the launch leaves at a point. -/
theorem out_at (h : (args m c).Finite) (r : Fin 512) (e : Fin 1024) :
    out0_10 (F := Ideal) (iblk m c 0 t) (iblk m c 1 t) (iblk m c 2 t) (iblk m c 3 t) (iblk m c 4 t) (iblk m c 5 t) (iblk m c 6 t) (iblk m c 7 t) (iblk m c 8 t)
      (iblk m c 9 t) (ix3 0 r e) = outAt (args m c) ⟨t.val / 8, by omega⟩ ⟨t.val % 8 * 512 + r.val, by omega⟩ e := by
  rw [out_apply]
  unfold outAt invRms
  simp only [blk_x m c t ht, blk_pw m c t ht, acc_at m c t ht h]

omit ht t in
/-- The result array after the launch. -/
theorem result_eq (h : (args m c).Finite) : (dats m 0 c).arrAt 10 cfg0.N = out (args m c) := by
  refine (dats m 0 c).arrAt_eq_of_covers 10 _ (by decide +kernel) fun t hf y => ?_
  blk_simp
  rw [after0_10]
  have ht : t.val < 64 := t.isLt
  obtain ⟨r, e, rfl⟩ : ∃ (r : Fin 512) (e : Fin 1024), y = ix3 (0 : Fin 1) r e := ⟨y 1, y 2, (eq_ix3 y).trans (congrArg (ix3 · _ _) (Subsingleton.elim _ _))⟩
  refine (out_at m c t ht h r e).trans ?_
  rw [emb_out t ht r e]
  rfl

omit c ht t in
/-- Every execution from a memory with finite queries and keys ends with the layer's result and the arguments as they were. -/
theorem run_value (ρ : Dev nD → PrngReg) (h : ∀ c, (args m c).Finite) :
    θ_run defs (onTc (τ := τ) (main (F := Ideal))) ⟨m, fun _ => 0, ρ⟩ (fun r => ∀ c : Dev nD,
      r.2.mem ((c.tc : Thread nD τ).loc main_v12) = out (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ hr c => ⟨(hr c).1.trans (result_eq m c (h c)), (hr c).2⟩) (Value.run_blocks m ρ)

end Cert.Kernel2Ideal

end
-- ==== Proof.OutRef.lean ====
/- The reference's end of the layer: the layer's result, of its arguments. -/
module

public import proofs.«01_k».proof.Proof.OutSpec
public import proofs.«01_k».proof.Proof.Gen.Reference2Ideal
public import proofs.«01_k».proof.Proof.Gen.Reference2Ideal.Run

@[expose] public section

set_option maxRecDepth 16384

noncomputable section

namespace Cert.Reference2Ideal

open Cert.Reference2Ideal.Gen Idealize.ShloMosaic Idealize.ShloMosaic.TcCoe Idealize.SL.Sem OutProj Norm
open scoped BigOperators

/-- The memory attention's scores, an entry for batch, head, row and token. -/
def scores (mq : FVec Ideal S8x4096x512 .f32) (kv : FVec Ideal S8x256x1024 .f32) : FVec Ideal S8x4x4096x256 .f32 :=
  Host.dotGeneral dot_S8x4096x4x128_S8x256x4x128_S8x4x4096x256_3_3_1_1_02_02 none (shapeCast _ mq shapeCasts_S8x4096x512_S8x4096x4x128)
    (shapeCast _ (extractStridedSlice S8x256x512 ![0, 0, 0] kv slices_S8x256x1024_S8x256x512_0_0_0) shapeCasts_S8x256x512_S8x256x4x128)

/-- Each row's greatest score. -/
def rowTop (S : FVec Ideal S8x4x4096x256 .f32) : FVec Ideal S8x4x4096 .f32 :=
  Host.reduce FloatOps.maximumf S (constant S_ .f32 0xFF800000#32) reducesTo_S8x4x4096x256_S8x4x4096_d3 h_S_

/-- An array of -∞. -/
def bottom : FVec Ideal S8x4x4096 .f32 := broadcastInDim S8x4x4096 ![] bcast_S_S8x4x4096 (constant S_ .f32 0xFF800000#32)

/-- The exponentials of the scores less a number for each row. -/
def exps (S : FVec Ideal S8x4x4096x256 .f32) (M : FVec Ideal S8x4x4096 .f32) : FVec Ideal S8x4x4096x256 .f32 :=
  Host.exp (subf S (broadcastInDim S8x4x4096x256 ![0, 1, 2, 3] bcast_S8x4x4096x1_S8x4x4096x256_0_1_2_3
    (broadcastInDim S8x4x4096x1 ![0, 1, 2] bcast_S8x4x4096_S8x4x4096x1_0_1_2 M)))

/-- The softmax of the scores. -/
def probs (P : FVec Ideal S8x4x4096x256 .f32) : FVec Ideal S8x4x4096x256 .f32 :=
  Host.divf P (broadcastInDim S8x4x4096x256 ![0, 1, 2, 3] bcast_S8x4x4096x1_S8x4x4096x256_0_1_2_3
    (broadcastInDim S8x4x4096x1 ![0, 1, 2] bcast_S8x4x4096_S8x4x4096x1_0_1_2
      (Host.reduceAdd P (constant S_ .f32 0x00000000#32) reducesTo_S8x4x4096x256_S8x4x4096_d3 h_S_)))

/-- The weighted values of the memory. -/
def heads (kv : FVec Ideal S8x256x1024 .f32) (W : FVec Ideal S8x4x4096x256 .f32) : FVec Ideal S8x4096x512 .f32 :=
  shapeCast _ (transpose S8x4096x4x128 [0, 3, 1, 2] (Host.dotGeneral dot_S8x256x4x128_S8x4x4096x256_S8x4x128x4096_1_3_3_2_02_01 none
    (shapeCast _ (extractStridedSlice S8x256x512 ![0, 0, 512] kv slices_S8x256x1024_S8x256x512_0_0_512) shapeCasts_S8x256x512_S8x256x4x128) W)
    transposes_S8x4x128x4096_S8x4096x4x128_0_3_1_2) shapeCasts_S8x4096x4x128_S8x4096x512

/-- The delta net's heads, normalised. -/
def normedHeads (of ob : FVec Ideal S8x4096x512 .f32) (dw : FVec Ideal S1x128 .f32) : FVec Ideal S8x4096x512 .f32 :=
  shapeCast _ (mulf (mulf (shapeCast _ (addf of ob) shapeCasts_S8x4096x512_S8x4096x4x128)
    (broadcastInDim S8x4096x4x128 ![0, 1, 2, 3] bcast_S8x4096x4x1_S8x4096x4x128_0_1_2_3 (Host.rsqrt (addf (Host.divf
      (broadcastInDim S8x4096x4x1 ![0, 1, 2] bcast_S8x4096x4_S8x4096x4x1_0_1_2 (Host.reduceAdd
        (mulf (shapeCast _ (addf of ob) shapeCasts_S8x4096x512_S8x4096x4x128) (shapeCast _ (addf of ob) shapeCasts_S8x4096x512_S8x4096x4x128))
        (constant S_ .f32 0x00000000#32) reducesTo_S8x4096x4x128_S8x4096x4_d3 h_S_))
      (broadcastInDim S8x4096x4x1 ![] bcast_S_S8x4096x4x1 (constant S_ .f32 0x43000000#32)))
      (broadcastInDim S8x4096x4x1 ![] bcast_S_S8x4096x4x1 (constant S_ .f32 0x358637BD#32))))))
    (broadcastInDim S8x4096x4x128 ![0, 1, 2, 3] bcast_S1x1x1x128_S8x4096x4x128_0_1_2_3 (broadcastInDim S1x1x1x128 ![3] bcast_S128_S1x1x1x128_3
      (shapeCast _ dw shapeCasts_S1x128_S128)))) shapeCasts_S8x4096x4x128_S8x4096x512

/-- The SiLU of the gate's last 1024 coordinates. -/
def gate (z : FVec Ideal S8x4096x2048 .f32) : FVec Ideal S8x4096x1024 .f32 :=
  mulf (extractStridedSlice S8x4096x1024 ![0, 0, 1024] z slices_S8x4096x2048_S8x4096x1024_0_0_1024)
    (Host.divf (broadcastInDim S8x4096x1024 ![] bcast_S_S8x4096x1024 (constant S_ .f32 0x3F800000#32))
      (addf (broadcastInDim S8x4096x1024 ![] bcast_S_S8x4096x1024 (constant S_ .f32 0x3F800000#32))
        (Host.exp (Host.negf (extractStridedSlice S8x4096x1024 ![0, 0, 1024] z slices_S8x4096x2048_S8x4096x1024_0_0_1024)))))

/-- The mixers' outputs side by side, gated. -/
def mix (ya : FVec Ideal S8x4096x1024 .f32) (yb ym : FVec Ideal S8x4096x512 .f32) (g : FVec Ideal S8x4096x1024 .f32) : FVec Ideal S8x4096x2048 .f32 :=
  concatenate S8x4096x2048 2 [⟨S8x4096x1024, ya⟩, ⟨S8x4096x1024, (mulf (concatenate S8x4096x1024 2 [⟨S8x4096x512, yb⟩, ⟨S8x4096x512, ym⟩]
    concatenates_S8x4096x512_S8x4096x512_S8x4096x1024_d2) g)⟩] concatenates_S8x4096x1024_S8x4096x1024_S8x4096x2048_d2

/-- The projection. -/
def proj (Y : FVec Ideal S8x4096x2048 .f32) (w : FVec Ideal S1x2048x1024 .f32) : FVec Ideal S8x4096x1024 .f32 :=
  Host.dotGeneral dot_S8x4096x2048_S2048x1024_S8x4096x1024_2_0_01_1_n_n none Y (shapeCast _ w shapeCasts_S1x2048x1024_S2048x1024)

/-- The projection normalised, weighted and added to the input. -/
def post (P : FVec Ideal S8x4096x1024 .f32) (pw : FVec Ideal S1x1024 .f32) (x : FVec Ideal S8x4096x1024 .f32) : FVec Ideal S8x4096x1024 .f32 :=
  addf x (mulf (mulf P (broadcastInDim S8x4096x1024 ![0, 1, 2] bcast_S8x4096x1_S8x4096x1024_0_1_2 (Host.rsqrt (addf (Host.divf
    (broadcastInDim S8x4096x1 ![0, 1] bcast_S8x4096_S8x4096x1_0_1 (Host.reduceAdd (mulf P P) (constant S_ .f32 0x00000000#32) reducesTo_S8x4096x1024_S8x4096_d2 h_S_))
    (broadcastInDim S8x4096x1 ![] bcast_S_S8x4096x1 (constant S_ .f32 0x44800000#32))) (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2
      (shapeCast _ pw shapeCasts_S1x1024_S1024))))

/-- The reference's result. -/
def result (A : Args) : FVec Ideal S8x4096x1024 .f32 :=
  post (proj (mix A.ya (normedHeads A.of A.ob A.dw) (heads A.kv (probs (exps (scores A.mq A.kv) (maximumf bottom (rowTop (scores A.mq A.kv)))))) (gate A.z)) A.w) A.pw A.x

/-- A score at an index. -/
theorem scores_apply (mq : FVec Ideal S8x4096x512 .f32) (kv : FVec Ideal S8x256x1024 .f32) (b : Fin 8) (h : Fin 4) (R : Fin 4096) (i : Fin 256) :
    scores mq kv (ix4 b h R i) = ∑ d : Fin 128, mq (ix3 b R ⟨h.val * 128 + d.val, by omega⟩) * kv (ix3 b i ⟨h.val * 128 + d.val, by omega⟩) := by
  unfold scores
  pointwise

/-- A row's greatest score, as a fold. -/
theorem rowTop_apply (S : FVec Ideal S8x4x4096x256 .f32) (b : Fin 8) (h : Fin 4) (R : Fin 4096) (y : EReal)
    (hy : (Finset.univ.fold max (Ideal.ofBits .f32 0xFF800000#32) fun s => S (ix4 b h R s)) = y) : rowTop S (ix3 b h R) = y := by
  unfold rowTop
  pointwise
  exact hy

/-- The greater of -∞ and a row's greatest score is that score. -/
theorem maxBottom_apply (X : FVec Ideal S8x4x4096 .f32) (i : S8x4x4096.Idx) : maximumf bottom X i = X i := by
  refine (congrArg₂ max (show bottom i = (⊥ : EReal) from bottom_eq) (rfl : X i = X i)).trans ?_
  exact max_eq_right bot_le

/-- The exponentials at an index. -/
theorem exps_apply (S : FVec Ideal S8x4x4096x256 .f32) (M : FVec Ideal S8x4x4096 .f32) (b : Fin 8) (h : Fin 4) (R : Fin 4096) (i : Fin 256) :
    exps S M (ix4 b h R i) = Ideal.exp (S (ix4 b h R i) - M (ix3 b h R)) := by
  unfold exps
  pointwise

/-- The softmax at an index. -/
theorem probs_apply (P : FVec Ideal S8x4x4096x256 .f32) (b : Fin 8) (h : Fin 4) (R : Fin 4096) (i : Fin 256) :
    probs P (ix4 b h R i) = Ideal.div (P (ix4 b h R i)) (∑ j : Fin 256, P (ix4 b h R j)) := by
  unfold probs
  pointwise

/-- The weighted values at an index. -/
theorem heads_apply (kv : FVec Ideal S8x256x1024 .f32) (W : FVec Ideal S8x4x4096x256 .f32) (b : Fin 8) (R : Fin 4096) (e : Fin 512) :
    heads kv W (ix3 b R e) = ∑ i : Fin 256, kv (ix3 b i ⟨512 + e.val, by omega⟩) * W (ix4 b ⟨e.val / 128, by omega⟩ R i) := by
  unfold heads
  pointwise

/-- The normalised heads at an index. -/
theorem normedHeads_apply (of ob : FVec Ideal S8x4096x512 .f32) (dw : FVec Ideal S1x128 .f32) (b : Fin 8) (R : Fin 4096) (e : Fin 512) :
    normedHeads of ob dw (ix3 b R e)
      = (of (ix3 b R e) + ob (ix3 b R e)) * invRms 0x43000000#32 (fun i : Fin 128 => of (ix3 b R ⟨e.val / 128 * 128 + i.val, by omega⟩) + ob (ix3 b R ⟨e.val / 128 * 128 + i.val, by omega⟩))
        * dw (ix2 0 ⟨e.val % 128, by omega⟩) := by
  unfold normedHeads invRms
  pointwise

/-- The gate at an index. -/
theorem gate_apply (z : FVec Ideal S8x4096x2048 .f32) (b : Fin 8) (R : Fin 4096) (e : Fin 1024) :
    gate z (ix3 b R e) = silu (z (ix3 b R ⟨1024 + e.val, by omega⟩)) := by
  unfold gate
  pointwise
  rfl

section mix

variable (ya : FVec Ideal S8x4096x1024 .f32) (yb ym : FVec Ideal S8x4096x512 .f32) (g : FVec Ideal S8x4096x1024 .f32) (b : Fin 8) (R : Fin 4096)

/-- The attention's part. -/
theorem mix_a (e : Fin 1024) : mix ya yb ym g (ix3 b R ⟨e.val, by omega⟩) = ya (ix3 b R e) := by
  unfold mix
  pointwise

/-- The delta net's part. -/
theorem mix_b (e : Fin 512) : mix ya yb ym g (ix3 b R ⟨1024 + e.val, by omega⟩) = yb (ix3 b R e) * g (ix3 b R ⟨e.val, by omega⟩) := by
  unfold mix
  pointwise

/-- The memory attention's part. -/
theorem mix_m (e : Fin 512) : mix ya yb ym g (ix3 b R ⟨1536 + e.val, by omega⟩) = ym (ix3 b R e) * g (ix3 b R ⟨512 + e.val, by omega⟩) := by
  unfold mix
  pointwise
  rw [dif_neg (by omega), dif_neg (by omega)]
  simp only [show ∀ n, 1536 + n - 1024 - 512 = n by omega, show ∀ n, 1536 + n - 1024 = 512 + n by omega,
    show ∀ n, 512 + n - 512 = n by omega]

end mix

/-- A sum over 2048 terms in three parts. -/
theorem sum_parts (f : Fin 2048 → EReal) :
    ∑ j, f j = (∑ j : Fin 1024, f ⟨j.val, by omega⟩) + (∑ j : Fin 512, f ⟨1024 + j.val, by omega⟩) + ∑ j : Fin 512, f ⟨1536 + j.val, by omega⟩ := by
  refine (Fin.sum_univ_add (a := 1536) (b := 512) f).trans ?_
  refine congrArg₂ _ ((Fin.sum_univ_add (a := 1024) (b := 512) _).trans ?_) rfl
  rfl

/-- The projection at an index. -/
theorem proj_apply (Y : FVec Ideal S8x4096x2048 .f32) (w : FVec Ideal S1x2048x1024 .f32) (b : Fin 8) (R : Fin 4096) (e : Fin 1024) :
    proj Y w (ix3 b R e) = ∑ j : Fin 2048, Y (ix3 b R j) * w (ix3 0 j e) := by
  unfold proj
  pointwise

/-- The normalised sum at an index. -/
theorem post_apply (P : FVec Ideal S8x4096x1024 .f32) (pw : FVec Ideal S1x1024 .f32) (x : FVec Ideal S8x4096x1024 .f32) (b : Fin 8) (R : Fin 4096) (e : Fin 1024) :
    post P pw x (ix3 b R e) = x (ix3 b R e) + P (ix3 b R e) * invRms 0x44800000#32 (fun e : Fin 1024 => P (ix3 b R e)) * pw (ix2 0 e) := by
  unfold post invRms
  pointwise

variable (A : Args) (h : A.Finite)
include h

/-- The memory attention's rows, for finite queries and keys. -/
theorem heads_eq (b : Fin 8) (R : Fin 4096) (e : Fin 512) :
    heads A.kv (probs (exps (scores A.mq A.kv) (maximumf bottom (rowTop (scores A.mq A.kv))))) (ix3 b R e)
      = softmax (score A b R e) fun i => A.kv (ix3 b i ⟨512 + e.val, by omega⟩) := by
  have hS : ∀ i, scores A.mq A.kv (ix4 b ⟨e.val / 128, by omega⟩ R i) = (score A b R e i : EReal) := fun i =>
    (scores_apply A.mq A.kv b ⟨e.val / 128, by omega⟩ R i).trans (score_eq A h b R e i)
  obtain ⟨M, hM⟩ := top_real _ _ hS
  have hP : ∀ i, exps (scores A.mq A.kv) (maximumf bottom (rowTop (scores A.mq A.kv))) (ix4 b ⟨e.val / 128, by omega⟩ R i)
      = Ideal.exp ((score A b R e i : EReal) - (M : EReal)) := fun i => by
    rw [exps_apply, maxBottom_apply, rowTop_apply _ b _ R _ hM, hS]
  rw [heads_apply]
  refine Eq.trans (Finset.sum_congr rfl fun i _ => congrArg₂ _ rfl ?_)
    (Attn.softmax_eq Finset.univ Finset.univ_nonempty (fun i => A.kv (ix3 b i ⟨512 + e.val, by omega⟩)) (score A b R e) M)
  refine (probs_apply _ b _ R i).trans ?_
  simp only [hP]

/-- The projection at an index is the sum of the three mixers' parts. -/
theorem proj_eq (b : Fin 8) (R : Fin 4096) (e : Fin 1024) :
    proj (mix A.ya (normedHeads A.of A.ob A.dw) (heads A.kv (probs (exps (scores A.mq A.kv) (maximumf bottom (rowTop (scores A.mq A.kv)))))) (gate A.z)) A.w (ix3 b R e)
      = acc A b R e := by
  rw [proj_apply, sum_parts]
  unfold acc
  refine congrArg₂ _ (congrArg₂ _ (Finset.sum_congr rfl fun j _ => ?_) (Finset.sum_congr rfl fun j _ => ?_)) (Finset.sum_congr rfl fun j _ => ?_)
  · rw [mix_a]
  · rw [mix_b, normedHeads_apply, gate_apply]
    unfold mixB normed
    dsimp only
    have he : (⟨j.val / 128 * 128 + j.val % 128, by omega⟩ : Fin 512) = j := Fin.ext (by show j.val / 128 * 128 + j.val % 128 = j.val; omega)
    rw [he]
  · rw [mix_m, heads_eq A h, gate_apply]
    unfold mixM
    have he : (⟨1024 + (512 + j.val), by omega⟩ : Fin 2048) = ⟨1536 + j.val, by omega⟩ := Fin.ext (by show 1024 + (512 + j.val) = 1536 + j.val; omega)
    rw [he]

/-- The reference's result is the layer's, for finite queries and keys of the memory. -/
theorem result_eq : result A = out A := by
  funext i
  obtain ⟨b, R, e, rfl⟩ : ∃ (b : Fin 8) (R : Fin 4096) (e : Fin 1024), i = ix3 b R e := ⟨i 0, i 1, i 2, eq_ix3 i⟩
  refine (post_apply _ _ _ b R e).trans ?_
  simp only [proj_eq A h]
  rfl

omit A h in
/-- Every execution from a memory with finite queries and keys ends with the layer's result and the arguments as they were. -/
theorem run_value (m : (ℓ : Loc nD τ sig) → Buf (Elt Ideal) ℓ) (ρ : Dev nD → PrngReg) (A : Dev nD → Args) (hA : ∀ c, (A c).Finite)
    (hm : ∀ c : Dev nD, m ((c.tc : Thread nD τ).loc main_arg0) = (A c).ya ∧ m ((c.tc : Thread nD τ).loc main_arg1) = (A c).of
      ∧ m ((c.tc : Thread nD τ).loc main_arg2) = (A c).ob ∧ m ((c.tc : Thread nD τ).loc main_arg3) = (A c).z
      ∧ m ((c.tc : Thread nD τ).loc main_arg4) = (A c).mq ∧ m ((c.tc : Thread nD τ).loc main_arg5) = (A c).kv
      ∧ m ((c.tc : Thread nD τ).loc main_arg6) = (A c).dw ∧ m ((c.tc : Thread nD τ).loc main_arg7) = (A c).w
      ∧ m ((c.tc : Thread nD τ).loc main_arg8) = (A c).pw ∧ m ((c.tc : Thread nD τ).loc main_arg9) = (A c).x) :
    θ_run defs (onTc (τ := τ) (main (F := Ideal))) ⟨m, fun _ => 0, ρ⟩ (fun r => ∀ c : Dev nD,
      r.2.mem ((c.tc : Thread nD τ).loc main_v58) = out (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run defs _ _).mono (fun r h c => ⟨(h c).1.trans ?_, (h c).2⟩) (Value.run (F := Ideal) m ρ)
  obtain ⟨h0, h1, h2, h3, h4, h5, h6, h7, h8, h9⟩ := hm c
  unfold Value.res_main_v58
  rw [h0, h1, h2, h3, h4, h5, h6, h7, h8, h9]
  exact result_eq (A c) (hA c)

end Cert.Reference2Ideal

end
-- ==== Proof.FiniteMemory.lean ====
/- What the second precondition says: the memory's queries and keys are real numbers. -/
module

public import proofs.«01_k».proof.Pre_finite_memory
public import proofs.«01_k».proof.Proof.Finite
public import proofs.«01_k».proof.Proof.OutSpec

@[expose] public section

noncomputable section

namespace Cert.Pre_finite_memory

open Idealize.ShloMosaic

/-- The predicate's slice and broadcasts are well formed. -/
instance facts : Facts where
  bcast_S_S8x4096x512 := by decide
  slices_S8x256x1024_S8x256x512_0_0_0 := by decide
  bcast_S_S8x256x512 := by decide

/-- Arguments of which the predicate holds have a finite memory. -/
theorem finite (A : OutProj.Args)
    (hq : (fn (F := Ideal) A.ya A.of A.ob A.z A.mq A.kv A.dw A.w A.pw A.x).1 = fun _ => 1#1)
    (hk : (fn (F := Ideal) A.ya A.of A.ob A.z A.mq A.kv A.dw A.w A.pw A.x).2 = fun _ => 1#1) : A.Finite where
  queries i := Cert.Pre_finite_scores.real_of_abs_lt (congrFun hq i)
  keys b i e he := by
    obtain ⟨r, hr⟩ := Cert.Pre_finite_scores.real_of_abs_lt (congrFun hk (ix3 b i ⟨e.val, he⟩))
    refine ⟨r, Eq.trans (congrArg A.kv (funext fun a => Fin.ext ?_)) hr⟩
    fin_cases a
    · exact (Nat.zero_add _).symm
    · exact (Nat.zero_add _).symm
    · exact (Nat.zero_add _).symm

end Cert.Pre_finite_memory

end
-- ==== Proof.MemKv.lean ====
/- The memory's keys and values: the kernel's call and the reference leave the normalised tokens times the weights. -/
module

public import proofs.«01_k».proof.Proof.Norm
public import proofs.«01_k».proof.Proof.Gen.Kernel3Ideal.Value
public import proofs.«01_k».proof.Proof.Gen.Reference3Ideal
public import proofs.«01_k».proof.Proof.Gen.Reference3Ideal.Run
public import Idealize.ShloMosaic.Lib.Pipeline.ValueKit
public import Idealize.ShloMosaic.Lib.StableHlo.ReadAt

@[expose] public section

set_option maxRecDepth 16384

noncomputable section

namespace MemKv

open Idealize.ShloMosaic Norm
open scoped BigOperators

/-- Token `r` of batch `b`, normalised and weighted, times column `e` of the weights. -/
def rowAt (x : Cert.Kernel3Ideal.S8x256x1024.Idx → EReal) (w : Cert.Kernel3Ideal.S1x1024.Idx → EReal)
    (W : Cert.Kernel3Ideal.S1x1024x1024.Idx → EReal) (b : Fin 8) (r : Fin 256) (e : Fin 1024) : EReal :=
  ∑ j : Fin 1024, x (ix3 b r j) * invRms 0x44800000#32 (fun i : Fin 1024 => x (ix3 b r i)) * w (ix2 0 j) * W (ix3 0 j e)

/-- The keys and values of the memory, a row for each token. -/
def rows (x : Cert.Kernel3Ideal.S8x256x1024.Idx → EReal) (w : Cert.Kernel3Ideal.S1x1024.Idx → EReal)
    (W : Cert.Kernel3Ideal.S1x1024x1024.Idx → EReal) : Cert.Kernel3Ideal.S2048x1024.Idx → EReal :=
  fun i => rowAt x w W ⟨(i 0).val / 256, by have h : (i 0).val < 2048 := (i 0).isLt; omega⟩ ⟨(i 0).val % 256, by omega⟩ (i 1)

end MemKv

namespace Cert.Kernel3Ideal

open Cert.Kernel3Ideal.Gen Idealize.ShloMosaic Idealize.ShloMosaic.TcCoe Idealize.ShloMosaic.Pipeline Norm
open scoped BigOperators

variable (m : (ℓ : Loc nD τ sig) → Buf (Elt Ideal) ℓ) (c : Dev nD)

/-- The memory's tokens, as extended reals. -/
def argX : S8x256x1024.Idx → EReal := m ((c.tc : Thread nD τ).loc main_arg0)

/-- The norm's weights, as extended reals. -/
def argN : S1x1024.Idx → EReal := m ((c.tc : Thread nD τ).loc main_arg1)

/-- The projection's weights, as extended reals. -/
def argW : S1x1024x1024.Idx → EReal := m ((c.tc : Thread nD τ).loc main_arg2)

/-- What the body computes of a block of tokens. -/
theorem out_apply (x : FVec Ideal S256x1024 .f32) (w : FVec Ideal S1x1024 .f32) (W : FVec Ideal S1024x1024 .bf16) (r : Fin 256) (e : Fin 1024) :
    out0_3 (F := Ideal) x w W (ix2 r e) = ∑ j : Fin 1024, x (ix2 r j) * invRms 0x44800000#32 (fun i : Fin 1024 => x (ix2 r i)) * w (ix2 0 j) * W (ix2 j e) := by
  unfold out0_3
  rw [View.canon_unit_zero (funext fun a => by fin_cases a <;> rfl)]
  unfold k0_pay1 invRms
  pointwise

/-- The grid's points: a tile of 256 tokens. -/
theorem idx : ∀ t : Fin cfg0.N, win0_0.index t = ![t.val, 0] ∧ win0_1.index t = ![0, 0] ∧ win0_2.index t = ![0, 0] ∧ win0_3.index t = ![t.val, 0] := by
  decide +kernel

variable (t : Fin cfg0.N) (ht : t.val < 8)
include ht

/-- The tokens' block at a point. -/
theorem blk_x (r : Fin 256) (e : Fin 1024) :
    iblk (F := Ideal) m c 0 t (ix2 r e) = m ((c.tc : Thread nD τ).loc main_arg0) (ix3 ⟨t.val, ht⟩ r e) := by
  trans V (F := Ideal) m c main_v0 (ix2 ⟨t.val * 256 + r.val, by omega⟩ e)
  · blk_ext [iblk, idx t]
  · unfold V
    after_reads_at

/-- The norm's weights at a point. -/
theorem blk_n (e : Fin 1024) : iblk (F := Ideal) m c 1 t (ix2 0 e) = m ((c.tc : Thread nD τ).loc main_arg1) (ix2 0 e) := by
  trans V (F := Ideal) m c main_v2 (ix2 0 e)
  · blk_ext [iblk, idx t]
  · unfold V
    after_reads_at

/-- The projection's weights at a point. -/
theorem blk_w (j e : Fin 1024) : iblk (F := Ideal) m c 2 t (ix2 j e) = m ((c.tc : Thread nD τ).loc main_arg2) (ix3 0 j e) := by
  trans V (F := Ideal) m c main_v4 (ix2 j e)
  · blk_ext [iblk, idx t]
  · unfold V
    after_reads_at

/-- Where a point's block of the result lies in the array. -/
theorem emb_out (r : Fin 256) (e : Fin 1024) :
    (win0_3.blk t).view.emb (ix2 r e) = (ix2 ⟨t.val * 256 + r.val, by omega⟩ e : S2048x1024.Idx) := by
  blk_ext [idx t]

/-- What the launch leaves at a point. -/
theorem out_at (r : Fin 256) (e : Fin 1024) :
    out0_3 (F := Ideal) (iblk m c 0 t) (iblk m c 1 t) (iblk m c 2 t) (ix2 r e) = MemKv.rowAt (argX m c) (argN m c) (argW m c) ⟨t.val, ht⟩ r e := by
  rw [out_apply]
  unfold MemKv.rowAt invRms
  simp only [blk_x m c t ht, blk_n m c t ht, blk_w m c t ht]
  rfl

omit ht t in
/-- The result array after the launch. -/
theorem result_eq : (dats m 0 c).arrAt 3 cfg0.N = MemKv.rows (argX m c) (argN m c) (argW m c) := by
  refine (dats m 0 c).arrAt_eq_of_covers 3 _ (by decide +kernel) fun t hf y => ?_
  blk_simp
  rw [after0_3]
  have ht : t.val < 8 := t.isLt
  obtain ⟨r, e, rfl⟩ : ∃ (r : Fin 256) (e : Fin 1024), y = ix2 r e := ⟨y 0, y 1, eq_ix2 y⟩
  refine (out_at m c t ht r e).trans ?_
  rw [emb_out t ht r e]
  unfold MemKv.rows
  congr 1
  · exact Fin.ext (by show t.val = (t.val * 256 + r.val) / 256; omega)
  · exact Fin.ext (by show r.val = (t.val * 256 + r.val) % 256; omega)

omit c ht t in
/-- Every execution ends with the rows of keys and values in the result and the arguments as they were. -/
theorem run_value (ρ : Dev nD → PrngReg) :
    θ_run defs (onTc (τ := τ) (main (F := Ideal))) ⟨m, fun _ => 0, ρ⟩ (fun r => ∀ c : Dev nD,
      r.2.mem ((c.tc : Thread nD τ).loc main_v5) = MemKv.rows (argX m c) (argN m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_eq m c), (h c).2⟩) (Value.run_blocks m ρ)

end Cert.Kernel3Ideal

namespace Cert.Reference3Ideal

open Cert.Reference3Ideal.Gen Idealize.ShloMosaic Idealize.ShloMosaic.TcCoe Norm
open scoped BigOperators

/-- The reference's result. -/
def result (x : FVec Ideal S8x256x1024 .f32) (w : FVec Ideal S1x1024 .f32) (W : FVec Ideal S1x1024x1024 .f32) : FVec Ideal S2048x1024 .bf16 :=
  truncf .bf16 (shapeCast _ (Host.dotGeneral dot_S8x256x1024_S1024x1024_S8x256x1024_2_0_01_1_n_n none (mulf (mulf x (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf x x) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 (shapeCast _ w shapeCasts_S1x1024_S1024)))) (shapeCast _ W shapeCasts_S1x1024x1024_S1024x1024)) shapeCasts_S8x256x1024_S2048x1024) bitsLt_bf16_f32

/-- The reference's result is the rows of keys and values. -/
theorem result_eq (x : FVec Ideal S8x256x1024 .f32) (w : FVec Ideal S1x1024 .f32) (W : FVec Ideal S1x1024x1024 .f32) :
    result x w W = MemKv.rows x w W := by
  funext i
  obtain ⟨r, e, rfl⟩ : ∃ (r : Fin 2048) (e : Fin 1024), i = ix2 r e := ⟨i 0, i 1, eq_ix2 i⟩
  show _ = MemKv.rowAt x w W ⟨r.val / 256, by omega⟩ ⟨r.val % 256, by omega⟩ e
  unfold result MemKv.rowAt invRms
  pointwise

/-- Every execution ends with the rows of keys and values in the result and the arguments as they were. -/
theorem run_value (m : (ℓ : Loc nD τ sig) → Buf (Elt Ideal) ℓ) (ρ : Dev nD → PrngReg)
    (x : Dev nD → S8x256x1024.Idx → EReal) (w : Dev nD → S1x1024.Idx → EReal) (W : Dev nD → S1x1024x1024.Idx → EReal)
    (hm : ∀ c : Dev nD, m ((c.tc : Thread nD τ).loc main_arg0) = x c ∧ m ((c.tc : Thread nD τ).loc main_arg1) = w c
      ∧ m ((c.tc : Thread nD τ).loc main_arg2) = W c) :
    θ_run defs (onTc (τ := τ) (main (F := Ideal))) ⟨m, fun _ => 0, ρ⟩ (fun r => ∀ c : Dev nD,
      r.2.mem ((c.tc : Thread nD τ).loc main_v17) = MemKv.rows (x c) (w c) (W c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨(h c).1.trans ?_, (h c).2⟩) (Value.run (F := Ideal) m ρ)
  obtain ⟨h0, h1, h2⟩ := hm c
  try unfold Value.res_main_v17
  rw [h0, h1, h2]
  exact result_eq (x c) (w c) (W c)

end Cert.Reference3Ideal

end
-- ==== Proof.ProjSpec.lean ====
/- What the input projection computes of one row, over the extended reals. -/
module

public import proofs.«01_k».proof.Proof.Norm

@[expose] public section

noncomputable section

namespace Proj

open Idealize.ShloMosaic Norm
open scoped BigOperators

/-- A row of the layer's input, root mean square normed and weighted. -/
def rowN (X g : Fin 1024 → EReal) (k : Fin 1024) : EReal := X k * invRms 0x44800000#32 X * g k

/-- The normed row times one column of the weights. -/
def prod (X g w : Fin 1024 → EReal) : EReal := ∑ k : Fin 1024, rowN X g k * w k

/-- A head's coordinate, root mean square normed and weighted. -/
def headN (y q : Fin 128 → EReal) (d : Fin 128) : EReal := y d * invRms 0x43000000#32 y * q d

/-- The coordinate a rotation pairs with `d`: the other half of the same 64. -/
def pair (d : Fin 128) : Fin 128 := if d.val % 64 < 32 then ⟨(d.val + 128 - 96) % 128, Nat.mod_lt _ (by decide)⟩ else ⟨(d.val + 128 - 32) % 128, Nat.mod_lt _ (by decide)⟩

/-- A normed head, rotated by the cosines and the signed sines of its position. -/
def headR (y q c s : Fin 128 → EReal) (d : Fin 128) : EReal := headN y q d * c d + headN y q (pair d) * s d

/-- `z` times its logistic. -/
def silu (z : EReal) : EReal := z * Ideal.logistic z

/-- One over the root of a head's summed squares and the small number that keeps it from zero. -/
def invLen (y : Fin 128 → EReal) : EReal := Ideal.rsqrt ((∑ i, y i * y i) + Ideal.ofBits .f32 0x358637BD#32)

end Proj

end
-- ==== Proof.ProjBlock.lean ====
/- What the input projection's body computes at an index of its output blocks. -/
module

public import proofs.«01_k».proof.Proof.ProjSpec
public import proofs.«01_k».proof.Proof.Gen.Kernel4Ideal.Value
public import Idealize.ShloMosaic.Lib.Pipeline.ValueKit

@[expose] public section

set_option maxRecDepth 16384

noncomputable section

namespace Proj

open Idealize.ShloMosaic Cert.Kernel4Ideal Cert.Kernel4Ideal.Gen Norm
open scoped BigOperators

/-! ## The pieces, in the body's operations -/

/-- One of the two heads of a product's 256 columns, normed and rotated. -/
def headOp (o : Fin 2 → ℕ) (ho : S512x256.Slices o S512x128) (p : FVec Ideal S512x256 .f32) (c s : FVec Ideal S512x128 .f32) (q : FVec Ideal S1x128 .f32) : FVec Ideal S512x128 .f32 :=
  have y : FVec Ideal S512x128 .f32 := extractStridedSlice S512x128 o p ho
  have n : FVec Ideal S512x128 .f32 := mulf (mulf y (broadcastTo S512x128 (rsqrt (addf (divf (shapeCast S512x1 (multiReduction .add [1] S512 (mulf y y) 0x00000000#32 reduces_S512x128_S512 (.inl rfl) rfl) shapeCasts_S512_S512x1) (broadcast S512x1 (Scalar.ofBits .f32 0x43000000#32))) (broadcast S512x1 (Scalar.ofBits .f32 0x358637BD#32)))) broadcasts_S512x1_S512x128)) (broadcastTo S512x128 (shapeCast S1x128 q shapeCasts_S1x128_S1x128) broadcasts_S1x128_S512x128)
  addf (mulf n c) (mulf (select k0_pay5 (dynamicRotate 1 96#32 none n rotates_S512x128_d1) (dynamicRotate 1 32#32 none n rotates_S512x128_d1)) s)

/-- The block's normed rows. -/
def rows (x0 : FVec Ideal S512x1024 .f32) (x3 : FVec Ideal S1x1024 .f32) : FVec Ideal S512x1024 .bf16 :=
  k0_pay2 (F := Ideal) (View.ld x0 (Rect.unit (s := S512x1024) ![0, 0] S512x1024.size inb_S512x1024_S512x1024_0_0)) (View.ld x3 (Rect.unit (s := S1x1024) ![0, 0] S1x1024.size inb_S1x1024_S1x1024_0_0))

/-! ## The pieces at an index -/

theorem rows_at (x0 : FVec Ideal S512x1024 .f32) (x3 : FVec Ideal S1x1024 .f32) (r : Fin 512) (k : Fin 1024) :
    rows x0 x3 (ix2 r k) = rowN (fun i => x0 (ix2 r i)) (fun i => x3 (ix2 0 i)) k := by
  unfold rows k0_pay2 rowN invRms
  pointwise

theorem half_at (r : Fin 512) (d : Fin 128) : k0_pay5 (ix2 r d) = if d.val % 64 < 32 then 1#1 else 0#1 := by
  have h : ∀ d : Fin 128, k0_pay5 (ix2 r d) = if d.val % 64 < 32 then 1#1 else 0#1 := by
    unfold k0_pay5
    pointwise
    decide +kernel
  exact h d

theorem headOp_at (o : ℕ) (ho : o + 128 ≤ 256) (ho' : S512x256.Slices ![0, o] S512x128) (p : FVec Ideal S512x256 .f32) (c s : FVec Ideal S512x128 .f32) (q : FVec Ideal S1x128 .f32)
    (r : Fin 512) (d : Fin 128) :
    headOp ![0, o] ho' p c s q (ix2 r d) = headR (fun i => p (ix2 r ⟨o + i.val, by omega⟩)) (fun i => q (ix2 0 i)) (fun i => c (ix2 r i)) (fun i => s (ix2 r i)) d := by
  unfold headOp headR headN invRms
  pointwise
  rw [half_at]
  by_cases h : d.val % 64 < 32
  · rw [if_pos h]; unfold pair; simp only [if_pos h]; rfl
  · rw [if_neg h]; unfold pair; simp only [if_neg h]; rfl

/-- 256 columns of the weights. -/
def wcols (o : Fin 2 → ℕ) (ho : ∀ a, o a + S1024x256.size a ≤ S1024x3072.size a) (x4 : FVec Ideal S1024x3072 .bf16) : Vec Ideal S1024x256 .bf16 :=
  View.ld x4 (Rect.unit (s := S1024x3072) o S1024x256.size ho)

/-- Rows times 256 columns. -/
def cols (n : FVec Ideal S512x1024 .bf16) (w : Vec Ideal S1024x256 .bf16) : FVec Ideal S512x256 .f32 :=
  matmul dot_S512x1024_S1024x256_S512x256_1_0_0_1_n_n none n (shapeCast S1024x256 w shapeCasts_S1024x256_S1024x256 : FVec Ideal S1024x256 .bf16) (constant S512x256 .f32 0x00000000#32)

theorem cols_at (o : ℕ) (ho : ∀ a, (![0, o] : Fin 2 → ℕ) a + S1024x256.size a ≤ S1024x3072.size a) (ho' : o + 256 ≤ 3072) (x0 : FVec Ideal S512x1024 .f32) (x3 : FVec Ideal S1x1024 .f32)
    (x4 : FVec Ideal S1024x3072 .bf16) (r : Fin 512) (d : Fin 256) :
    cols (rows x0 x3) (wcols ![0, o] ho x4) (ix2 r d) = prod (fun i => x0 (ix2 r i)) (fun i => x3 (ix2 0 i)) (fun i => x4 (ix2 i ⟨o + d.val, by omega⟩)) := by
  unfold cols wcols prod
  pointwise
  simp only [rows_at]

/-- A row of the block, normed, times a column of the weights' first 3072. -/
def prodA (x0 : FVec Ideal S512x1024 .f32) (x3 : FVec Ideal S1x1024 .f32) (x4 : FVec Ideal S1024x3072 .bf16) (r : Fin 512) (j : Fin 3072) : EReal :=
  prod (fun k => x0 (ix2 r k)) (fun k => x3 (ix2 0 k)) (fun k => x4 (ix2 k j))

/-- A row of the block, normed, times a column of the arranged rest of the weights. -/
def prodB (x0 : FVec Ideal S512x1024 .f32) (x3 : FVec Ideal S1x1024 .f32) (x5 : FVec Ideal S1024x2816 .bf16) (r : Fin 512) (j : Fin 2816) : EReal :=
  prod (fun k => x0 (ix2 r k)) (fun k => x3 (ix2 0 k)) (fun k => x5 (ix2 k j))

/-- A rotated head whose columns start at `o`, weighted by row `n` of the head weights. -/
def headA (x0 : FVec Ideal S512x1024 .f32) (x3 : FVec Ideal S1x1024 .f32) (x4 : FVec Ideal S1024x3072 .bf16) (x6 : FVec Ideal S8x128 .f32) (x7 x8 : FVec Ideal S512x128 .f32) (o : ℕ) (ho : o + 128 ≤ 3072)
    (n : Fin 8) (r : Fin 512) (d : Fin 128) : EReal :=
  headR (fun i => prodA x0 x3 x4 r ⟨o + i.val, by omega⟩) (fun i => x6 (ix2 n i)) (fun i => x7 (ix2 r i)) (fun i => x8 (ix2 r i)) d

theorem headA_congr (x0 : FVec Ideal S512x1024 .f32) (x3 : FVec Ideal S1x1024 .f32) (x4 : FVec Ideal S1024x3072 .bf16) (x6 : FVec Ideal S8x128 .f32) (x7 x8 : FVec Ideal S512x128 .f32) (n : Fin 8) (r : Fin 512)
    {o o' : ℕ} (ho : o + 128 ≤ 3072) (ho' : o' + 128 ≤ 3072) {d d' : Fin 128} (h : o = o') (hd : d = d') :
    headA x0 x3 x4 x6 x7 x8 o ho n r d = headA x0 x3 x4 x6 x7 x8 o' ho' n r d' := by
  subst h; subst hd; rfl

/-- A row of the head weights. -/
def qrow (o : Fin 2 → ℕ) (ho : ∀ a, o a + S1x128.size a ≤ S8x128.size a) (x6 : FVec Ideal S8x128 .f32) : Vec Ideal S1x128 .f32 := View.ld x6 (Rect.unit (s := S8x128) o S1x128.size ho)

/-- The block's cosines, and its signed sines. -/
def cosines (x7 : FVec Ideal S512x128 .f32) : FVec Ideal S512x128 .f32 := k0_pay3 (F := Ideal) (View.ld x7 (Rect.unit (s := S512x128) ![0, 0] S512x128.size inb_S512x128_S512x128_0_0))

theorem cosines_at (x7 : FVec Ideal S512x128 .f32) (r : Fin 512) (d : Fin 128) : cosines x7 (ix2 r d) = x7 (ix2 r d) := by
  unfold cosines k0_pay3
  pointwise

theorem qrow_at (n : ℕ) (hn : n < 8) (ho : ∀ a, (![n, 0] : Fin 2 → ℕ) a + S1x128.size a ≤ S8x128.size a) (x6 : FVec Ideal S8x128 .f32) (d : Fin 128) :
    qrow ![n, 0] ho x6 (ix2 0 d) = x6 (ix2 ⟨n, hn⟩ d) := by
  unfold qrow
  pointwise

/-- A head of the body, in its operations, is the rotated head. -/
theorem head_at (w o n : ℕ) (hw : ∀ a, (![0, w] : Fin 2 → ℕ) a + S1024x256.size a ≤ S1024x3072.size a) (hw' : w + 256 ≤ 3072) (ho : S512x256.Slices ![0, o] S512x128) (ho' : o + 128 ≤ 256) (hn : n < 8)
    (hq : ∀ a, (![n, 0] : Fin 2 → ℕ) a + S1x128.size a ≤ S8x128.size a)
    (x0 : FVec Ideal S512x1024 .f32) (x3 : FVec Ideal S1x1024 .f32) (x4 : FVec Ideal S1024x3072 .bf16) (x6 : FVec Ideal S8x128 .f32) (x7 x8 : FVec Ideal S512x128 .f32) (r : Fin 512) (d : Fin 128) :
    headOp ![0, o] ho (cols (rows x0 x3) (wcols ![0, w] hw x4)) (cosines x7) (cosines x8) (qrow ![n, 0] hq x6) (ix2 r d) = headA x0 x3 x4 x6 x7 x8 (w + o) (by omega) ⟨n, hn⟩ r d := by
  rw [headOp_at o ho' ho]
  unfold headA prodA
  simp only [cols_at w hw hw', cosines_at, qrow_at n hn, Nat.add_assoc]

variable (m : (ℓ : Loc nD τ sig) → Buf (Elt Ideal) ℓ) (c : Dev nD) (t : Fin cfg0.N)

/-! ## Keys -/

/-- The block of keys. -/
def akG (x0 : FVec Ideal S512x1024 .f32) (x3 : FVec Ideal S1x1024 .f32) (x4 : FVec Ideal S1024x3072 .bf16) (x6 : FVec Ideal S8x128 .f32) (x7 x8 : FVec Ideal S512x128 .f32) (y : S512x256.Idx) : EReal :=
  headA x0 x3 x4 x6 x7 x8 (1024 + (y 1).val / 128 * 128) (by have h : (y 1).val < 256 := (y 1).isLt; omega) 1 (y 0) ⟨(y 1).val % 128, Nat.mod_lt _ (by decide)⟩

theorem ak_piece (o : ℕ) (ho : S512x256.Slices ![0, o] S512x128) (h : o = 0 ∨ o = 128) (he : ∀ a, (![0, o] : Fin 2 → ℕ) a + S512x128.size a ≤ S512x256.size a)
    (x0 : FVec Ideal S512x1024 .f32) (x3 : FVec Ideal S1x1024 .f32) (x4 : FVec Ideal S1024x3072 .bf16) (x6 : FVec Ideal S8x128 .f32) (x7 x8 : FVec Ideal S512x128 .f32) (x : S512x128.Idx) :
    (truncf .bf16 (headOp ![0, o] ho (cols (rows x0 x3) (wcols ![0, 1024] inb_S1024x3072_S1024x256_0_1024 x4)) (cosines x7) (cosines x8) (qrow ![1, 0] inb_S8x128_S1x128_1_0 x6)) bitsLt_bf16_f32 : FVec Ideal S512x128 .bf16) x
      = akG x0 x3 x4 x6 x7 x8 ((Rect.unit (s := S512x256) ![0, o] S512x128.size he).emb x) := by
  obtain ⟨r, d, rfl⟩ : ∃ (r : Fin 512) (d : Fin 128), x = ix2 r d := ⟨x 0, x 1, eq_ix2 x⟩
  have e : (Rect.unit (s := S512x256) ![0, o] S512x128.size he).emb (ix2 r d) = ix2 r (⟨o + d.val, by omega⟩ : Fin 256) := by blk_ext
  rw [e]
  refine (head_at 1024 o 1 inb_S1024x3072_S1024x256_0_1024 (by decide) ho (by omega) (by decide) inb_S8x128_S1x128_1_0 x0 x3 x4 x6 x7 x8 r d).trans ?_
  exact headA_congr x0 x3 x4 x6 x7 x8 1 r _ _ (by show 1024 + o = 1024 + (o + d.val) / 128 * 128; omega) (Fin.ext (by show d.val = (o + d.val) % 128; omega))

theorem ak_block (y : S512x256.Idx) : (outsAt0 m c t).2.1 y = akG (iblk m c 0 t) (iblk m c 3 t) (X0_4 m c t) (iblk m c 6 t) (iblk m c 7 t) (iblk m c 8 t) y := by
  unfold outsAt0
  dsimp only
  unfold out0_A_13
  refine View.read_writes_apply_of_pieces (Val := Elt Ideal) (e := .bf16) _ _ (akG (iblk m c 0 t) (iblk m c 3 t) (X0_4 m c t) (iblk m c 6 t) (iblk m c 7 t) (iblk m c 8 t)) _ ?_ y (cover0_A_13 ..)
  unfold kernelRun0_A
  dsimp only
  simp only [List.forall_mem_cons, List.not_mem_nil, false_imp_iff, implies_true, and_true]
  sl_unfold_words
  simp only [View.readAt_eq_ld, Memref.IsWhole.read_unread]
  exact ⟨ak_piece 128 slices_S512x256_o0_128_S512x128 (.inr rfl) inb_S512x256_S512x128_0_128 (iblk m c 0 t) (iblk m c 3 t) (X0_4 m c t) (iblk m c 6 t) (iblk m c 7 t) (iblk m c 8 t),
    ak_piece 0 slices_S512x256_o0_0_S512x128 (.inl rfl) inb_S512x256_S512x128_0_0 (iblk m c 0 t) (iblk m c 3 t) (X0_4 m c t) (iblk m c 6 t) (iblk m c 7 t) (iblk m c 8 t)⟩

/-! ## Queries -/

/-- The block of queries: scaled, a head's coordinates along the rows. -/
def aqG (x0 : FVec Ideal S512x1024 .f32) (x3 : FVec Ideal S1x1024 .f32) (x4 : FVec Ideal S1024x3072 .bf16) (x6 : FVec Ideal S8x128 .f32) (x7 x8 : FVec Ideal S512x128 .f32) (y : S1x1x1024x512.Idx) : EReal :=
  headA x0 x3 x4 x6 x7 x8 ((y 2).val / 128 * 128) (by have h : (y 2).val < 1024 := (y 2).isLt; omega) 0 (y 3) ⟨(y 2).val % 128, Nat.mod_lt _ (by decide)⟩ * (Named.named (F := Ideal) κ "scale_log2e" (0x3E0293EE#32 : BitVec (FTy.bits .f32)) : Ideal .f32)

theorem aq_piece (w o : ℕ) (hw : ∀ a, (![0, w] : Fin 2 → ℕ) a + S1024x256.size a ≤ S1024x3072.size a) (hw' : w % 256 = 0 ∧ w + 256 ≤ 1024) (ho : S512x256.Slices ![0, o] S512x128) (h : o = 0 ∨ o = 128)
    (he : ∀ a, (![0, 0, w + o, 0] : Fin 4 → ℕ) a + S1x1x128x512.size a ≤ S1x1x1024x512.size a)
    (x0 : FVec Ideal S512x1024 .f32) (x3 : FVec Ideal S1x1024 .f32) (x4 : FVec Ideal S1024x3072 .bf16) (x6 : FVec Ideal S8x128 .f32) (x7 x8 : FVec Ideal S512x128 .f32) (x : S1x1x128x512.Idx) :
    (shapeCast S1x1x128x512 (truncf .bf16 (transpose S128x512 [1, 0] (mulf (headOp ![0, o] ho (cols (rows x0 x3) (wcols ![0, w] hw x4)) (cosines x7) (cosines x8) (qrow ![0, 0] inb_S8x128_S1x128_0_0 x6))
        (broadcast S512x128 (Named.named κ "scale_log2e" 0x3E0293EE#32))) transposes_S512x128_p1_0_S128x512) bitsLt_bf16_f32) shapeCasts_S128x512_S1x1x128x512 : FVec Ideal S1x1x128x512 .bf16) x
      = aqG x0 x3 x4 x6 x7 x8 ((Rect.unit (s := S1x1x1024x512) ![0, 0, w + o, 0] S1x1x128x512.size he).emb x) := by
  obtain ⟨d, r, rfl⟩ : ∃ (d : Fin 128) (r : Fin 512), x = ix4 (0 : Fin 1) (0 : Fin 1) d r := ⟨x 2, x 3, (eq_ix4 x).trans (congrArg₂ (ix4 · · _ _) (Subsingleton.elim _ _) (Subsingleton.elim _ _))⟩
  have e : (Rect.unit (s := S1x1x1024x512) ![0, 0, w + o, 0] S1x1x128x512.size he).emb (ix4 (0 : Fin 1) (0 : Fin 1) d r) = ix4 (0 : Fin 1) (0 : Fin 1) (⟨w + o + d.val, by omega⟩ : Fin 1024) r := by blk_ext
  rw [e]
  pointwise
  rw [head_at w o 0 hw (by omega) ho (by omega) (by decide)]
  exact congrArg (· * _) (headA_congr x0 x3 x4 x6 x7 x8 0 r _ _ (by show w + o = (w + o + d.val) / 128 * 128; omega) (Fin.ext (by show d.val = (w + o + d.val) % 128; omega)))

theorem aq_block (y : S1x1x1024x512.Idx) : (outsAt0 m c t).1 y = aqG (iblk m c 0 t) (iblk m c 3 t) (X0_4 m c t) (iblk m c 6 t) (iblk m c 7 t) (iblk m c 8 t) y := by
  unfold outsAt0
  dsimp only
  unfold out0_A_12
  refine View.read_writes_apply_of_pieces (Val := Elt Ideal) (e := .bf16) _ _ (aqG (iblk m c 0 t) (iblk m c 3 t) (X0_4 m c t) (iblk m c 6 t) (iblk m c 7 t) (iblk m c 8 t)) _ ?_ y (cover0_A_12 ..)
  unfold kernelRun0_A
  dsimp only
  simp only [List.forall_mem_cons, List.not_mem_nil, false_imp_iff, implies_true, and_true]
  sl_unfold_words
  simp only [View.readAt_eq_ld, Memref.IsWhole.read_unread]
  exact ⟨aq_piece 768 128 inb_S1024x3072_S1024x256_0_768 (by decide) slices_S512x256_o0_128_S512x128 (.inr rfl) inb_S1x1x1024x512_S1x1x128x512_0_0_896_0 (iblk m c 0 t) (iblk m c 3 t) (X0_4 m c t) (iblk m c 6 t) (iblk m c 7 t) (iblk m c 8 t),
    aq_piece 768 0 inb_S1024x3072_S1024x256_0_768 (by decide) slices_S512x256_o0_0_S512x128 (.inl rfl) inb_S1x1x1024x512_S1x1x128x512_0_0_768_0 (iblk m c 0 t) (iblk m c 3 t) (X0_4 m c t) (iblk m c 6 t) (iblk m c 7 t) (iblk m c 8 t),
    aq_piece 512 128 inb_S1024x3072_S1024x256_0_512 (by decide) slices_S512x256_o0_128_S512x128 (.inr rfl) inb_S1x1x1024x512_S1x1x128x512_0_0_640_0 (iblk m c 0 t) (iblk m c 3 t) (X0_4 m c t) (iblk m c 6 t) (iblk m c 7 t) (iblk m c 8 t),
    aq_piece 512 0 inb_S1024x3072_S1024x256_0_512 (by decide) slices_S512x256_o0_0_S512x128 (.inl rfl) inb_S1x1x1024x512_S1x1x128x512_0_0_512_0 (iblk m c 0 t) (iblk m c 3 t) (X0_4 m c t) (iblk m c 6 t) (iblk m c 7 t) (iblk m c 8 t),
    aq_piece 256 128 inb_S1024x3072_S1024x256_0_256 (by decide) slices_S512x256_o0_128_S512x128 (.inr rfl) inb_S1x1x1024x512_S1x1x128x512_0_0_384_0 (iblk m c 0 t) (iblk m c 3 t) (X0_4 m c t) (iblk m c 6 t) (iblk m c 7 t) (iblk m c 8 t),
    aq_piece 256 0 inb_S1024x3072_S1024x256_0_256 (by decide) slices_S512x256_o0_0_S512x128 (.inl rfl) inb_S1x1x1024x512_S1x1x128x512_0_0_256_0 (iblk m c 0 t) (iblk m c 3 t) (X0_4 m c t) (iblk m c 6 t) (iblk m c 7 t) (iblk m c 8 t),
    aq_piece 0 128 inb_S1024x3072_S1024x256_0_0 (by decide) slices_S512x256_o0_128_S512x128 (.inr rfl) inb_S1x1x1024x512_S1x1x128x512_0_0_128_0 (iblk m c 0 t) (iblk m c 3 t) (X0_4 m c t) (iblk m c 6 t) (iblk m c 7 t) (iblk m c 8 t),
    aq_piece 0 0 inb_S1024x3072_S1024x256_0_0 (by decide) slices_S512x256_o0_0_S512x128 (.inl rfl) inb_S1x1x1024x512_S1x1x128x512_0_0_0_0 (iblk m c 0 t) (iblk m c 3 t) (X0_4 m c t) (iblk m c 6 t) (iblk m c 7 t) (iblk m c 8 t)⟩

/-! ## The memory's queries and the gates' rows -/

/-- The block's memory queries. -/
def mqG (x0 : FVec Ideal S512x1024 .f32) (x3 : FVec Ideal S1x1024 .f32) (x5 : FVec Ideal S1024x2816 .bf16) (y : S512x512.Idx) : EReal :=
  prodB x0 x3 x5 (y 0) ⟨256 + (y 1).val, by have h : (y 1).val < 512 := (y 1).isLt; omega⟩ * (Named.named (F := Ideal) κ "scale" (0x3DB504F3#32 : BitVec (FTy.bits .f32)) : Ideal .f32)

/-- 512 columns of the arranged weights. -/
def wcolsB (o : Fin 2 → ℕ) (ho : ∀ a, o a + S1024x512.size a ≤ S1024x2816.size a) (x5 : FVec Ideal S1024x2816 .bf16) : Vec Ideal S1024x512 .bf16 :=
  View.ld x5 (Rect.unit (s := S1024x2816) o S1024x512.size ho)

theorem mq_piece (x0 : FVec Ideal S512x1024 .f32) (x3 : FVec Ideal S1x1024 .f32) (x5 : FVec Ideal S1024x2816 .bf16) (x : S512x512.Idx) :
    k0_pay114 (F := Ideal) (rows x0 x3) (wcolsB ![0, 256] inb_S1024x2816_S1024x512_0_256 x5) x
      = mqG x0 x3 x5 ((Rect.unit (s := S512x512) ![0, 0] S512x512.size inb_S512x512_S512x512_0_0).emb x) := by
  obtain ⟨r, d, rfl⟩ : ∃ (r : Fin 512) (d : Fin 512), x = ix2 r d := ⟨x 0, x 1, eq_ix2 x⟩
  have e : (Rect.unit (s := S512x512) ![0, 0] S512x512.size inb_S512x512_S512x512_0_0).emb (ix2 r d) = ix2 r d := by blk_ext
  rw [e]
  unfold k0_pay114 mqG prodB prod wcolsB
  pointwise
  simp only [rows_at]

theorem mq_block (y : S512x512.Idx) : (outsAt0 m c t).2.2.2.2.2.1 y = mqG (iblk m c 0 t) (iblk m c 3 t) (iblk m c 5 t) y := by
  unfold outsAt0
  dsimp only
  unfold out0_A_17
  refine View.read_writes_apply_of_pieces (Val := Elt Ideal) (e := .bf16) _ _ (mqG (iblk m c 0 t) (iblk m c 3 t) (iblk m c 5 t)) _ ?_ y (cover0_A_17 ..)
  unfold kernelRun0_A
  dsimp only
  simp only [List.forall_mem_cons, List.not_mem_nil, false_imp_iff, implies_true, and_true]
  sl_unfold_words
  simp only [View.readAt_eq_ld, Memref.IsWhole.read_unread]
  exact mq_piece (iblk m c 0 t) (iblk m c 3 t) (iblk m c 5 t)

/-- The block's rows of the mixers' gate. -/
def zG (x0 : FVec Ideal S512x1024 .f32) (x3 : FVec Ideal S1x1024 .f32) (x5 : FVec Ideal S1024x2816 .bf16) (y : S512x2048.Idx) : EReal :=
  prodB x0 x3 x5 (y 0) ⟨768 + (y 1).val, by have h : (y 1).val < 2048 := (y 1).isLt; omega⟩

theorem z_piece (o : ℕ) (ho : o + 512 ≤ 2048) (hw : ∀ a, (![0, 768 + o] : Fin 2 → ℕ) a + S1024x512.size a ≤ S1024x2816.size a) (he : ∀ a, (![0, o] : Fin 2 → ℕ) a + S512x512.size a ≤ S512x2048.size a)
    (x0 : FVec Ideal S512x1024 .f32) (x3 : FVec Ideal S1x1024 .f32) (x5 : FVec Ideal S1024x2816 .bf16) (x : S512x512.Idx) :
    k0_pay115 (F := Ideal) (rows x0 x3) (wcolsB ![0, 768 + o] hw x5) x = zG x0 x3 x5 ((Rect.unit (s := S512x2048) ![0, o] S512x512.size he).emb x) := by
  obtain ⟨r, d, rfl⟩ : ∃ (r : Fin 512) (d : Fin 512), x = ix2 r d := ⟨x 0, x 1, eq_ix2 x⟩
  have e : (Rect.unit (s := S512x2048) ![0, o] S512x512.size he).emb (ix2 r d) = ix2 r (⟨o + d.val, by omega⟩ : Fin 2048) := by blk_ext
  rw [e]
  unfold k0_pay115 zG prodB prod wcolsB
  pointwise
  simp only [rows_at, Nat.add_assoc]

theorem z_block (y : S512x2048.Idx) : (outsAt0 m c t).2.2.2.2.2.2 y = zG (iblk m c 0 t) (iblk m c 3 t) (iblk m c 5 t) y := by
  unfold outsAt0
  dsimp only
  unfold out0_A_18
  refine View.read_writes_apply_of_pieces (Val := Elt Ideal) (e := .bf16) _ _ (zG (iblk m c 0 t) (iblk m c 3 t) (iblk m c 5 t)) _ ?_ y (cover0_A_18 ..)
  unfold kernelRun0_A
  dsimp only
  simp only [List.forall_mem_cons, List.not_mem_nil, false_imp_iff, implies_true, and_true]
  sl_unfold_words
  simp only [View.readAt_eq_ld, Memref.IsWhole.read_unread]
  exact ⟨z_piece 1536 (by decide) inb_S1024x2816_S1024x512_0_2304 inb_S512x2048_S512x512_0_1536 (iblk m c 0 t) (iblk m c 3 t) (iblk m c 5 t),
    z_piece 1024 (by decide) inb_S1024x2816_S1024x512_0_1792 inb_S512x2048_S512x512_0_1024 (iblk m c 0 t) (iblk m c 3 t) (iblk m c 5 t),
    z_piece 512 (by decide) inb_S1024x2816_S1024x512_0_1280 inb_S512x2048_S512x512_0_512 (iblk m c 0 t) (iblk m c 3 t) (iblk m c 5 t),
    z_piece 0 (by decide) inb_S1024x2816_S1024x512_0_768 inb_S512x2048_S512x512_0_0 (iblk m c 0 t) (iblk m c 3 t) (iblk m c 5 t)⟩

/-! ## Values -/

/-- A row of the block of values: a value head's coordinates and then sixteen rows, the first of ones. -/
def avRow (x0 : FVec Ideal S512x1024 .f32) (x3 : FVec Ideal S1x1024 .f32) (x4 : FVec Ideal S1024x3072 .bf16) (ρ : Fin 288) (r : Fin 512) : EReal :=
  if h : ρ.val % 144 < 128 then prodA x0 x3 x4 r ⟨1280 + (ρ.val / 144 * 128 + ρ.val % 144), by omega⟩ else if ρ.val % 144 = 128 then 1 else 0

/-- The block of values. -/
def avG (x0 : FVec Ideal S512x1024 .f32) (x3 : FVec Ideal S1x1024 .f32) (x4 : FVec Ideal S1024x3072 .bf16) (y : S1x1x288x512.Idx) : EReal := avRow x0 x3 x4 (y 2) (y 3)

theorem av_piece (o e : ℕ) (ho : S256x512.Slices ![o, 0] S128x512) (h : (o = 0 ∧ e = 0) ∨ (o = 128 ∧ e = 144)) (he : ∀ a, (![0, 0, e, 0] : Fin 4 → ℕ) a + S1x1x128x512.size a ≤ S1x1x288x512.size a)
    (x0 : FVec Ideal S512x1024 .f32) (x3 : FVec Ideal S1x1024 .f32) (x4 : FVec Ideal S1024x3072 .bf16) (x : S1x1x128x512.Idx) :
    (shapeCast S1x1x128x512 (extractStridedSlice S128x512 ![o, 0] (truncf .bf16 (transpose S256x512 [1, 0] (cols (rows x0 x3) (wcols ![0, 1280] inb_S1024x3072_S1024x256_0_1280 x4)) transposes_S512x256_p1_0_S256x512)
        bitsLt_bf16_f32) ho) shapeCasts_S128x512_S1x1x128x512 : FVec Ideal S1x1x128x512 .bf16) x
      = avG x0 x3 x4 ((Rect.unit (s := S1x1x288x512) ![0, 0, e, 0] S1x1x128x512.size he).emb x) := by
  obtain ⟨d, r, rfl⟩ : ∃ (d : Fin 128) (r : Fin 512), x = ix4 (0 : Fin 1) (0 : Fin 1) d r := ⟨x 2, x 3, (eq_ix4 x).trans (congrArg₂ (ix4 · · _ _) (Subsingleton.elim _ _) (Subsingleton.elim _ _))⟩
  have e' : (Rect.unit (s := S1x1x288x512) ![0, 0, e, 0] S1x1x128x512.size he).emb (ix4 (0 : Fin 1) (0 : Fin 1) d r) = ix4 (0 : Fin 1) (0 : Fin 1) (⟨e + d.val, by omega⟩ : Fin 288) r := by blk_ext
  rw [e']
  pointwise
  rw [cols_at 1280 inb_S1024x3072_S1024x256_0_1280 (by decide)]
  show _ = avRow x0 x3 x4 ⟨e + d.val, _⟩ r
  unfold avRow prodA
  rw [dif_pos (by show (e + d.val) % 144 < 128; omega)]
  have hj : (⟨1280 + (o + d.val), by omega⟩ : Fin 3072) = ⟨1280 + ((e + d.val) / 144 * 128 + (e + d.val) % 144), by omega⟩ := Fin.ext (by show _ + _ = _ + _; omega)
  rw [hj]

theorem ones_piece (e : ℕ) (h : e = 128 ∨ e = 272) (he : ∀ a, (![0, 0, e, 0] : Fin 4 → ℕ) a + S1x1x16x512.size a ≤ S1x1x288x512.size a)
    (x0 : FVec Ideal S512x1024 .f32) (x3 : FVec Ideal S1x1024 .f32) (x4 : FVec Ideal S1024x3072 .bf16) (x : S1x1x16x512.Idx) :
    k0_pay42 (F := Ideal) x = avG x0 x3 x4 ((Rect.unit (s := S1x1x288x512) ![0, 0, e, 0] S1x1x16x512.size he).emb x) := by
  obtain ⟨d, r, rfl⟩ : ∃ (d : Fin 16) (r : Fin 512), x = ix4 (0 : Fin 1) (0 : Fin 1) d r := ⟨x 2, x 3, (eq_ix4 x).trans (congrArg₂ (ix4 · · _ _) (Subsingleton.elim _ _) (Subsingleton.elim _ _))⟩
  have e' : (Rect.unit (s := S1x1x288x512) ![0, 0, e, 0] S1x1x16x512.size he).emb (ix4 (0 : Fin 1) (0 : Fin 1) d r) = ix4 (0 : Fin 1) (0 : Fin 1) (⟨e + d.val, by omega⟩ : Fin 288) r := by blk_ext
  rw [e']
  unfold k0_pay42 k0_pay40
  show _ = avRow x0 x3 x4 ⟨e + d.val, _⟩ r
  unfold avRow
  rw [dif_neg (by show ¬(e + d.val) % 144 < 128; omega)]
  pointwise
  have hd : ∀ d : Fin 16, IntOp.cmpi .eq (BitVec.ofNat 32 d.val) 0#32 = if d.val = 0 then 1#1 else 0#1 := by decide +kernel
  rw [hd]
  by_cases h0 : d.val = 0
  · rw [if_pos h0, if_pos (by omega)]; rfl
  · rw [if_neg h0, if_neg (by omega)]; rfl

theorem av_block (y : S1x1x288x512.Idx) : (outsAt0 m c t).2.2.1 y = avG (iblk m c 0 t) (iblk m c 3 t) (X0_4 m c t) y := by
  unfold outsAt0
  dsimp only
  unfold out0_A_14
  refine View.read_writes_apply_of_pieces (Val := Elt Ideal) (e := .bf16) _ _ (avG (iblk m c 0 t) (iblk m c 3 t) (X0_4 m c t)) _ ?_ y (cover0_A_14 ..)
  unfold kernelRun0_A
  dsimp only
  simp only [List.forall_mem_cons, List.not_mem_nil, false_imp_iff, implies_true, and_true]
  sl_unfold_words
  simp only [View.readAt_eq_ld, Memref.IsWhole.read_unread]
  exact ⟨ones_piece 272 (.inr rfl) inb_S1x1x288x512_S1x1x16x512_0_0_272_0 (iblk m c 0 t) (iblk m c 3 t) (X0_4 m c t),
    av_piece 128 144 slices_S256x512_o128_0_S128x512 (.inr ⟨rfl, rfl⟩) inb_S1x1x288x512_S1x1x128x512_0_0_144_0 (iblk m c 0 t) (iblk m c 3 t) (X0_4 m c t),
    ones_piece 128 (.inl rfl) inb_S1x1x288x512_S1x1x16x512_0_0_128_0 (iblk m c 0 t) (iblk m c 3 t) (X0_4 m c t),
    av_piece 0 0 slices_S256x512_o0_0_S128x512 (.inl ⟨rfl, rfl⟩) inb_S1x1x288x512_S1x1x128x512_0_0_0_0 (iblk m c 0 t) (iblk m c 3 t) (X0_4 m c t)⟩

/-! ## Gates -/

/-- The arranged weights' first 256 columns: the gates'. -/
def wgate (x5 : FVec Ideal S1024x2816 .bf16) : Vec Ideal S1024x256 .bf16 :=
  View.ld x5 (Rect.unit (s := S1024x2816) ![0, 0] S1024x256.size inb_S1024x2816_S1024x256_0_0)

/-- A row of 256 lanes. -/
def lanes (x : FVec Ideal S1x256 .f32) : Vec Ideal S1x256 .f32 := View.ld x (Rect.unit (s := S1x256) ![0, 0] S1x256.size inb_S1x256_S1x256_0_0)

/-- The position of a lane in its direction's 128. -/
def laneOp : IVec S512x256 32 :=
  select (andi (xori k0_pay112 (broadcastTo S512x256 (broadcast S512x256 (Scalar.cmpi .slt (Scalar.select (Scalar.cmpi .eq 128#32 0#32) 1#32 128#32) 0#32)) broadcasts_S512x256_S512x256)) k0_pay111)
    (addi k0_pay110 (broadcast S512x256 (Scalar.select (Scalar.cmpi .eq 128#32 0#32) 1#32 128#32))) k0_pay110

theorem lane_at (r : Fin 512) (l : Fin 256) : laneOp (ix2 r l) = BitVec.ofNat 32 (l.val % 128) := by
  have h : ∀ l : Fin 256, laneOp (ix2 r l) = BitVec.ofNat 32 (l.val % 128) := by
    unfold laneOp k0_pay110 k0_pay111 k0_pay112 k0_pay110
    pointwise
    decide +kernel
  exact h l

/-- The decay gate of a product, a rate's logarithm and a bias. -/
def decay (y a dt : EReal) : EReal := (0 - Ideal.exp a) * (max (y + dt) 0 + Ideal.log1p (Ideal.exp (0 - FloatOps.absf (F := Ideal) (φ := .f32) (y + dt))))

/-- A lane of the block of gates: four decays, four strengths, zeros. -/
def gate (x0 : FVec Ideal S512x1024 .f32) (x3 : FVec Ideal S1x1024 .f32) (x5 : FVec Ideal S1024x2816 .bf16) (x10 x11 : FVec Ideal S1x256 .f32) (r : Fin 512) (l : Fin 256) : EReal :=
  if l.val % 128 < 4 then decay (prodB x0 x3 x5 r ⟨l.val, by omega⟩) (x10 (ix2 0 l)) (x11 (ix2 0 l)) else if l.val % 128 < 8 then Ideal.logistic (prodB x0 x3 x5 r ⟨l.val, by omega⟩) else 0

/-- The block of gates. -/
def gateG (x0 : FVec Ideal S512x1024 .f32) (x3 : FVec Ideal S1x1024 .f32) (x5 : FVec Ideal S1024x2816 .bf16) (x10 x11 : FVec Ideal S1x256 .f32) (y : S512x256.Idx) : EReal := gate x0 x3 x5 x10 x11 (y 0) (y 1)

theorem gate_piece (x0 : FVec Ideal S512x1024 .f32) (x3 : FVec Ideal S1x1024 .f32) (x5 : FVec Ideal S1024x2816 .bf16) (x10 x11 : FVec Ideal S1x256 .f32) (x : S512x256.Idx) :
    (k0_pay113 (F := Ideal) (cols (rows x0 x3) (wgate x5)) (Scalar.select (Scalar.cmpi .eq 128#32 0#32) 1#32 128#32) k0_pay110 k0_pay111 k0_pay112
        (Scalar.cmpi .slt (Scalar.select (Scalar.cmpi .eq 128#32 0#32) 1#32 128#32) 0#32) (lanes x11) (lanes x10)) x
      = gateG x0 x3 x5 x10 x11 ((Rect.unit (s := S512x256) ![0, 0] S512x256.size inb_S512x256_S512x256_0_0).emb x) := by
  obtain ⟨r, l, rfl⟩ : ∃ (r : Fin 512) (l : Fin 256), x = ix2 r l := ⟨x 0, x 1, eq_ix2 x⟩
  have e : (Rect.unit (s := S512x256) ![0, 0] S512x256.size inb_S512x256_S512x256_0_0).emb (ix2 r l) = ix2 r l := by blk_ext
  rw [e]
  unfold k0_pay113 gateG gate prodB prod
  change select (cmpi .slt laneOp (broadcast S512x256 4#32)) _ (select (cmpi .slt laneOp (broadcast S512x256 8#32)) _ _) (ix2 r l) = _
  unfold cols wgate lanes
  pointwise
  rw [lane_at]
  simp only [rows_at]
  have h4 : ∀ l : Fin 128, IntOp.cmpi .slt (BitVec.ofNat 32 l.val) 4#32 = if l.val < 4 then 1#1 else 0#1 := by decide +kernel
  have h8 : ∀ l : Fin 128, IntOp.cmpi .slt (BitVec.ofNat 32 l.val) 8#32 = if l.val < 8 then 1#1 else 0#1 := by decide +kernel
  have h4' := h4 ⟨l.val % 128, Nat.mod_lt _ (by decide)⟩
  have h8' := h8 ⟨l.val % 128, Nat.mod_lt _ (by decide)⟩
  dsimp only at h4' h8'
  rw [h4', h8']
  by_cases l4 : l.val % 128 < 4
  · rw [if_pos l4, if_pos l4]; rfl
  · rw [if_neg l4, if_neg l4]
    by_cases l8 : l.val % 128 < 8
    · rw [if_pos l8, if_pos l8]; rfl
    · rw [if_neg l8, if_neg l8]; rfl

theorem gate_block (y : S512x256.Idx) : (outsAt0 m c t).2.2.2.2.1 y = gateG (iblk m c 0 t) (iblk m c 3 t) (iblk m c 5 t) (iblk m c 10 t) (iblk m c 11 t) y := by
  unfold outsAt0
  dsimp only
  unfold out0_A_16
  refine View.read_writes_apply_of_pieces (Val := Elt Ideal) (e := .f32) _ _ (gateG (iblk m c 0 t) (iblk m c 3 t) (iblk m c 5 t) (iblk m c 10 t) (iblk m c 11 t)) _ ?_ y (cover0_A_16 ..)
  unfold kernelRun0_A
  dsimp only
  simp only [List.forall_mem_cons, List.not_mem_nil, false_imp_iff, implies_true, and_true]
  sl_unfold_words
  simp only [View.readAt_eq_ld, Memref.IsWhole.read_unread]
  exact gate_piece (iblk m c 0 t) (iblk m c 3 t) (iblk m c 5 t) (iblk m c 10 t) (iblk m c 11 t)

end Proj

end
-- ==== Proof.ProjArgs.lean ====
/- The input projection's results, of its arguments. -/
module

public import proofs.«01_k».proof.Proof.ProjBlock

@[expose] public section

set_option maxRecDepth 16384

noncomputable section

namespace Proj

open Idealize.ShloMosaic Cert.Kernel4Ideal Cert.Kernel4Ideal.Facts₀ Norm
open scoped BigOperators

/-- The arguments. -/
structure Args where
  /-- The layer's input. -/
  x : FVec Ideal S8x4096x1024 .f32
  /-- The weights of the norm of the rows. -/
  nw : FVec Ideal S1x1024 .f32
  /-- The projection's weights. -/
  w : FVec Ideal S1x1024x5648 .f32
  /-- The weights of the norm of the attention's queries. -/
  qw : FVec Ideal S1x128 .f32
  /-- The weights of the norm of the attention's keys. -/
  kw : FVec Ideal S1x128 .f32
  /-- The convolution's weights. -/
  cw : FVec Ideal S1x5x1536 .f32
  /-- The logarithms of the decay rates. -/
  al : FVec Ideal S1x2x4 .f32
  /-- What is added to the decays' inputs. -/
  dt : FVec Ideal S1x2x4 .f32

/-! ## The angles of the rotations -/

/-- The 32 frequencies. -/
def freqs : FVec Ideal S32 .f32 :=
  Host.powf (broadcastInDim S32 ![] bcast_S_S32 (constant S_ .f32 0x461C4000#32)) (Host.divf (Host.negf (addf (broadcastInDim S32 ![] bcast_S_S32 (constant S_ .f32 0x00000000#32))
    (mulf (broadcastInDim S32 ![] bcast_S_S32 (constant S_ .f32 0x40000000#32)) (sitofp .f32 (iotaInDim S32 32 0))))) (broadcastInDim S32 ![] bcast_S_S32 (constant S_ .f32 0x42800000#32)))

/-- The positions times the frequencies. -/
def angles (p : IVec S4096 32) : FVec Ideal S4096x32 .f32 :=
  mulf (broadcastInDim S4096x32 ![0, 1] bcast_S4096x1_S4096x32_0_1 (broadcastInDim S4096x1 ![0] bcast_S4096_S4096x1_0 (sitofp .f32 p)))
    (broadcastInDim S4096x32 ![0, 1] bcast_S1x32_S4096x32_0_1 (broadcastInDim S1x32 ![1] bcast_S32_S1x32_1 freqs))

/-- A token's row in the image of 64 × 64. -/
def rowIds : IVec S4096 32 := shapeCast S4096 (broadcastInDim S64x64 ![0] bcast_S64_S64x64_0 (iotaInDim S64 32 0)) shapeCasts_S64x64_S4096

/-- What the columns are remainders by: 64. -/
def side : IVec S_ 32 := select (cmpi .eq (constantI S_ 32 64#32) (constantI S_ 32 0#32)) (constantI S_ 32 1#32) (constantI S_ 32 64#32)

/-- A token's remainder by the image's side. -/
def rems : IVec S4096 32 := Host.remsi (iotaInDim S4096 32 0) (broadcastInDim S4096 ![] bcast_S_S4096 side)

/-- A token's column in the image. -/
def colIds : IVec S4096 32 :=
  select (andi (cmpi .ne (cmpi .slt rems (broadcastInDim S4096 ![] bcast_S_S4096 (constantI S_ 32 0#32))) (broadcastInDim S4096 ![] bcast_S_S4096 (cmpi .slt side (constantI S_ 32 0#32))))
    (cmpi .ne rems (broadcastInDim S4096 ![] bcast_S_S4096 (constantI S_ 32 0#32)))) (addi rems (broadcastInDim S4096 ![] bcast_S_S4096 side)) rems

/-- The cosines of a token's rotation: its row's angles for the first 64 coordinates, its column's for the others. -/
def cosAt (R : Fin 4096) (d : Fin 128) : EReal :=
  if d.val < 64 then Host.cos (angles rowIds) (ix2 R (⟨d.val % 32, by omega⟩ : Fin 32)) else Host.cos (angles colIds) (ix2 R (⟨d.val % 32, by omega⟩ : Fin 32))

/-- The sines of a token's rotation. -/
def sinAt (R : Fin 4096) (d : Fin 128) : EReal :=
  if d.val < 64 then Host.sin (angles rowIds) (ix2 R (⟨d.val % 32, by omega⟩ : Fin 32)) else Host.sin (angles colIds) (ix2 R (⟨d.val % 32, by omega⟩ : Fin 32))

/-- The sines with the sign they enter a rotation with. -/
def ssinAt (R : Fin 4096) (d : Fin 128) : EReal := if d.val % 64 < 32 then -sinAt R d else sinAt R d

/-! ## The results at a token -/

/-- A token's row, normed, times a column of the weights. -/
def P (A : Args) (b : Fin 8) (R : Fin 4096) (j : Fin 5648) : EReal := prod (fun k => A.x (ix3 b R k)) (fun k => A.nw (ix2 0 k)) (fun k => A.w (ix3 0 k j))

/-- A normed and rotated head, of the columns from `o` on. -/
def head (A : Args) (q : Fin 128 → EReal) (b : Fin 8) (R : Fin 4096) (o : ℕ) (ho : o + 128 ≤ 5648) (d : Fin 128) : EReal :=
  headR (fun i => P A b R ⟨o + i.val, by omega⟩) q (cosAt R) (ssinAt R) d

/-- The attention's queries, over the root of the head's size and the logarithm of 2. -/
def aqAt (A : Args) (b : Fin 8) (R : Fin 4096) (e : Fin 1024) : EReal :=
  head A (fun i => A.qw (ix2 0 i)) b R (e.val / 128 * 128) (by omega) ⟨e.val % 128, by omega⟩ * (((Real.sqrt 128 * Real.log 2)⁻¹ : ℝ) : EReal)

/-- The attention's keys. -/
def akAt (A : Args) (b : Fin 8) (R : Fin 4096) (e : Fin 256) : EReal :=
  head A (fun i => A.kw (ix2 0 i)) b R (1024 + e.val / 128 * 128) (by omega) ⟨e.val % 128, by omega⟩

/-- The attention's values, each head's followed by a one and 15 zeros. -/
def avAt (A : Args) (b : Fin 8) (R : Fin 4096) (ρ : Fin 288) : EReal :=
  if h : ρ.val % 144 < 128 then P A b R ⟨1280 + (ρ.val / 144 * 128 + ρ.val % 144), by omega⟩ else if ρ.val % 144 = 128 then 1 else 0

/-- The convolution's input, with two zeros before the sequence and two after it. -/
def ext (A : Args) (b : Fin 8) (ρ : ℕ) (j : Fin 1536) : EReal := if h : 2 ≤ ρ ∧ ρ < 4098 then P A b ⟨ρ - 2, by omega⟩ ⟨1536 + j.val, by omega⟩ else 0

/-- The convolution over five tokens, times its logistic. -/
def convAt (A : Args) (b : Fin 8) (R : Fin 4096) (j : Fin 1536) : EReal :=
  silu (ext A b R.val j * A.cw (ix3 0 0 j) + ext A b (R.val + 1) j * A.cw (ix3 0 1 j) + ext A b (R.val + 2) j * A.cw (ix3 0 2 j) + ext A b (R.val + 3) j * A.cw (ix3 0 3 j)
    + ext A b (R.val + 4) j * A.cw (ix3 0 4 j))

/-- A head's coordinate over the head's length. -/
def unitAt (A : Args) (b : Fin 8) (R : Fin 4096) (j : Fin 1536) : EReal := convAt A b R j * invLen (fun d : Fin 128 => convAt A b R ⟨j.val / 128 * 128 + d.val, by omega⟩)

/-- The delta net's queries, over the root of the head's size, its keys and its values. -/
def qkvAt (A : Args) (b : Fin 8) (R : Fin 4096) (j : Fin 1536) : EReal :=
  if j.val < 512 then unitAt A b R j * (((Real.sqrt 128)⁻¹ : ℝ) : EReal) else if j.val < 1024 then unitAt A b R j else convAt A b R j

/-- The delta net's gates: of each direction four decays, four strengths and zeros. -/
def gateAt (A : Args) (b : Fin 8) (R : Fin 4096) (n : Fin 2) (q : Fin 128) : EReal :=
  if h : q.val < 4 then decay (P A b R ⟨3072 + (n.val * 4 + q.val), by omega⟩) (A.al (ix3 0 n ⟨q.val, h⟩)) (A.dt (ix3 0 n ⟨q.val, h⟩))
  else if h : q.val < 8 then Ideal.logistic (P A b R ⟨3080 + (n.val * 4 + (q.val - 4)), by omega⟩) else 0

/-- The memory's queries, over the root of the head's size. -/
def mqAt (A : Args) (b : Fin 8) (R : Fin 4096) (j : Fin 512) : EReal := P A b R ⟨3088 + j.val, by omega⟩ * (((Real.sqrt 128)⁻¹ : ℝ) : EReal)

/-- The gate of the heads. -/
def zAt (A : Args) (b : Fin 8) (R : Fin 4096) (j : Fin 2048) : EReal := P A b R ⟨3600 + j.val, by omega⟩

/-! ## The arrays -/

/-- The batch of a row of the flat arrays. -/
def bOf (i : Fin 32768) : Fin 8 := ⟨i.val / 4096, by omega⟩

/-- The token of a row of the flat arrays. -/
def rOf (i : Fin 32768) : Fin 4096 := ⟨i.val % 4096, by omega⟩

/-- The token of a tile's row. -/
def tOf (n : Fin 8) (r : Fin 512) : Fin 4096 := ⟨n.val * 512 + r.val, by omega⟩

def aq (A : Args) (i : S8x8x1024x512.Idx) : EReal := aqAt A (i 0) (tOf (i 1) (i 3)) (i 2)

def ak (A : Args) (i : S32768x256.Idx) : EReal := akAt A (bOf (i 0)) (rOf (i 0)) (i 1)

def av (A : Args) (i : S8x8x288x512.Idx) : EReal := avAt A (i 0) (tOf (i 1) (i 3)) (i 2)

def qkv (A : Args) (i : S32768x1536.Idx) : EReal := qkvAt A (bOf (i 0)) (rOf (i 0)) (i 1)

def gates (A : Args) (i : S32768x256.Idx) : EReal :=
  gateAt A (bOf (i 0)) (rOf (i 0)) ⟨(i 1).val / 128, by have h : (i 1).val < 256 := (i 1).isLt; omega⟩ ⟨(i 1).val % 128, Nat.mod_lt _ (by decide)⟩

def mq (A : Args) (i : S32768x512.Idx) : EReal := mqAt A (bOf (i 0)) (rOf (i 0)) (i 1)

def z (A : Args) (i : S32768x2048.Idx) : EReal := zAt A (bOf (i 0)) (rOf (i 0)) (i 1)

end Proj

end
-- ==== Proof.ProjAngles.lean ====
/- The tables of cosines and sines the input projection's call reads. -/
module

public import proofs.«01_k».proof.Proof.ProjArgs
public import Idealize.ShloMosaic.Lib.StableHlo.ReadAt

@[expose] public section

set_option maxRecDepth 16384

noncomputable section

namespace Cert.Kernel4Ideal

open Cert.Kernel4Ideal.Gen Idealize.ShloMosaic Idealize.ShloMosaic.TcCoe Idealize.ShloMosaic.Pipeline Proj Norm

variable (m : (ℓ : Loc nD τ sig) → Buf (Elt Ideal) ℓ) (c : Dev nD)

/-- The cosines of a row's angles, of the first 64 coordinates. -/
theorem cos_row (R : Fin 4096) (d : Fin 128) (e : Fin 32) (h : d.val < 64) (he : d.val % 32 = e.val) : cosAt R d = Host.cos (angles rowIds) (ix2 R e) :=
  (if_pos h).trans (congrArg (Host.cos (angles rowIds)) (congrArg (ix2 R) (Fin.ext he)))

/-- The cosines of a column's angles, of the other coordinates. -/
theorem cos_col (R : Fin 4096) (d : Fin 128) (e : Fin 32) (h : 64 ≤ d.val) (he : d.val % 32 = e.val) : cosAt R d = Host.cos (angles colIds) (ix2 R e) :=
  (if_neg (by omega)).trans (congrArg (Host.cos (angles colIds)) (congrArg (ix2 R) (Fin.ext he)))

/-- The sines of a row's angles, of the first 64 coordinates. -/
theorem sin_row (R : Fin 4096) (d : Fin 128) (e : Fin 32) (h : d.val < 64) (he : d.val % 32 = e.val) : sinAt R d = Host.sin (angles rowIds) (ix2 R e) :=
  (if_pos h).trans (congrArg (Host.sin (angles rowIds)) (congrArg (ix2 R) (Fin.ext he)))

/-- The sines of a column's angles, of the other coordinates. -/
theorem sin_col (R : Fin 4096) (d : Fin 128) (e : Fin 32) (h : 64 ≤ d.val) (he : d.val % 32 = e.val) : sinAt R d = Host.sin (angles colIds) (ix2 R e) :=
  (if_neg (by omega)).trans (congrArg (Host.sin (angles colIds)) (congrArg (ix2 R) (Fin.ext he)))

set_option maxHeartbeats 1000000 in
/-- The cosines. -/
theorem V_cos (R : Fin 4096) (d : Fin 128) : V (F := Ideal) m c main_v31 (ix2 R d) = cosAt R d := by
  unfold V
  after_reads_at
  rcases Nat.lt_or_ge d.val 32 with h | h
  · refine (dif_pos h).trans (Eq.trans ?_ (cos_row R d ⟨d.val, h⟩ (by omega) (by show d.val % 32 = d.val; omega)).symm)
    after_reads_simp
    unfold angles rowIds freqs
    rfl
  rcases Nat.lt_or_ge (d.val - 32) 32 with h1 | h1
  · refine (dif_neg (by omega)).trans ((dif_pos h1).trans (Eq.trans ?_ (cos_row R d ⟨d.val - 32, h1⟩ (by omega) (by show d.val % 32 = d.val - 32; omega)).symm))
    after_reads_simp
    unfold angles rowIds freqs
    rfl
  rcases Nat.lt_or_ge (d.val - 32 - 32) 32 with h2 | h2
  · refine (dif_neg (by omega)).trans ((dif_neg (by omega)).trans ((dif_pos h2).trans (Eq.trans ?_ (cos_col R d ⟨d.val - 32 - 32, h2⟩ (by omega) (by show d.val % 32 = d.val - 32 - 32; omega)).symm)))
    after_reads_simp
    simp -implicitDefEqProofs only [StableHlo.TRef.toBuf, StableHlo.TRef.ofBuf, cast_cast, cast_eq, id_eq]
    unfold angles colIds rems side freqs
    rfl
  · refine (dif_neg (by omega)).trans ((dif_neg (by omega)).trans ((dif_neg (by omega)).trans (Eq.trans ?_ (cos_col R d ⟨d.val - 32 - 32 - 32, by omega⟩ (by omega) (by show d.val % 32 = d.val - 32 - 32 - 32; omega)).symm)))
    after_reads_simp
    simp -implicitDefEqProofs only [StableHlo.TRef.toBuf, StableHlo.TRef.ofBuf, cast_cast, cast_eq, id_eq]
    unfold angles colIds rems side freqs
    rfl

set_option maxHeartbeats 1000000 in
/-- The signed sines. -/
theorem V_sin (R : Fin 4096) (d : Fin 128) : V (F := Ideal) m c main_v34 (ix2 R d) = ssinAt R d := by
  unfold V
  after_reads_at
  rcases Nat.lt_or_ge d.val 32 with h | h
  · refine (dif_pos h).trans (Eq.trans ?_ ((if_pos (by omega)).trans (congrArg (-·) (sin_row R d ⟨d.val, h⟩ (by omega) (by show d.val % 32 = d.val; omega)))).symm)
    after_reads_simp
    unfold angles rowIds freqs
    rfl
  rcases Nat.lt_or_ge (d.val - 32) 32 with h1 | h1
  · refine (dif_neg (by omega)).trans ((dif_pos h1).trans (Eq.trans ?_ ((if_neg (by omega)).trans (sin_row R d ⟨d.val - 32, h1⟩ (by omega) (by show d.val % 32 = d.val - 32; omega))).symm))
    after_reads_simp
    unfold angles rowIds freqs
    rfl
  rcases Nat.lt_or_ge (d.val - 32 - 32) 32 with h2 | h2
  · refine (dif_neg (by omega)).trans ((dif_neg (by omega)).trans ((dif_pos h2).trans (Eq.trans ?_ ((if_pos (by omega)).trans (congrArg (-·) (sin_col R d ⟨d.val - 32 - 32, h2⟩ (by omega) (by show d.val % 32 = d.val - 32 - 32; omega)))).symm)))
    after_reads_simp
    simp -implicitDefEqProofs only [StableHlo.TRef.toBuf, StableHlo.TRef.ofBuf, cast_cast, cast_eq, id_eq]
    unfold angles colIds rems side freqs
    rfl
  · refine (dif_neg (by omega)).trans ((dif_neg (by omega)).trans ((dif_neg (by omega)).trans (Eq.trans ?_ ((if_neg (by omega)).trans (sin_col R d ⟨d.val - 32 - 32 - 32, by omega⟩ (by omega) (by show d.val % 32 = d.val - 32 - 32 - 32; omega))).symm)))
    after_reads_simp
    simp -implicitDefEqProofs only [StableHlo.TRef.toBuf, StableHlo.TRef.ofBuf, cast_cast, cast_eq, id_eq]
    unfold angles colIds rems side freqs
    rfl

end Cert.Kernel4Ideal

end
-- ==== Proof.ProjWeights.lean ====
/- The rest of the weights, as the input projection's call arranges them. -/
module

public import proofs.«01_k».proof.Proof.ProjArgs
public import Idealize.ShloMosaic.Lib.StableHlo.ReadAt

@[expose] public section

set_option maxRecDepth 16384

noncomputable section

namespace Cert.Kernel4Ideal

open Cert.Kernel4Ideal.Gen Idealize.ShloMosaic Idealize.ShloMosaic.TcCoe Idealize.ShloMosaic.Pipeline Proj Norm

variable (m : (ℓ : Loc nD τ sig) → Buf (Elt Ideal) ℓ) (c : Dev nD)

/-- The program's arguments. -/
def args : Args where
  x := m ((c.tc : Thread nD τ).loc main_arg0)
  nw := m ((c.tc : Thread nD τ).loc main_arg1)
  w := m ((c.tc : Thread nD τ).loc main_arg2)
  qw := m ((c.tc : Thread nD τ).loc main_arg3)
  kw := m ((c.tc : Thread nD τ).loc main_arg4)
  cw := m ((c.tc : Thread nD τ).loc main_arg5)
  al := m ((c.tc : Thread nD τ).loc main_arg6)
  dt := m ((c.tc : Thread nD τ).loc main_arg7)

set_option maxHeartbeats 1600000 in
/-- The first 256 columns: four of each direction's decays, four of its strengths, zeros. -/
theorem V_gates (k : Fin 1024) (n : Fin 2) (q : Fin 8) : V (F := Ideal) m c main_v62 (ix2 k ⟨n.val * 128 + q.val, by omega⟩)
    = if q.val < 4 then (args m c).w (ix3 0 k ⟨3072 + (n.val * 4 + q.val), by omega⟩) else (args m c).w (ix3 0 k ⟨3080 + (n.val * 4 + (q.val - 4)), by omega⟩) := by
  unfold V
  after_reads_at
  rcases (by omega : n.val = 0 ∨ n.val = 1) with hn | hn <;> rcases Nat.lt_or_ge q.val 4 with hq | hq
  · refine (dif_pos (by omega)).trans (Eq.trans ?_ (if_pos hq).symm)
    after_reads_at
    refine congrArg (m (c, Proc.devRef .tc main_arg2)) (congrArg (ix3 0 k) (Fin.ext ?_))
    simp only
    omega
  · refine (dif_neg (by omega)).trans ((dif_pos (by omega)).trans (Eq.trans ?_ (if_neg (by omega)).symm))
    after_reads_at
    refine congrArg (m (c, Proc.devRef .tc main_arg2)) (congrArg (ix3 0 k) (Fin.ext ?_))
    simp only
    omega
  · refine (dif_neg (by omega)).trans ((dif_neg (by omega)).trans ((dif_neg (by omega)).trans ((dif_pos (by omega)).trans (Eq.trans ?_ (if_pos hq).symm))))
    after_reads_at
    refine congrArg (m (c, Proc.devRef .tc main_arg2)) (congrArg (ix3 0 k) (Fin.ext ?_))
    simp only
    omega
  · refine (dif_neg (by omega)).trans ((dif_neg (by omega)).trans ((dif_neg (by omega)).trans ((dif_neg (by omega)).trans ((dif_pos (by omega)).trans (Eq.trans ?_ (if_neg (by omega)).symm)))))
    after_reads_at
    refine congrArg (m (c, Proc.devRef .tc main_arg2)) (congrArg (ix3 0 k) (Fin.ext ?_))
    simp only
    omega

set_option maxHeartbeats 1000000 in
/-- The other columns: the memory's queries and the gate. -/
theorem V_rest (k : Fin 1024) (j : Fin 2560) : V (F := Ideal) m c main_v62 (ix2 k ⟨256 + j.val, by omega⟩) = (args m c).w (ix3 0 k ⟨3088 + j.val, by omega⟩) := by
  unfold V
  after_reads_at
  refine (dif_neg (by omega)).trans ((dif_neg (by omega)).trans ((dif_neg (by omega)).trans ((dif_neg (by omega)).trans ((dif_neg (by omega)).trans ((dif_neg (by omega)).trans ?_)))))
  rcases Nat.lt_or_ge (256 + j.val - 4 - 4 - 120 - 4 - 4 - 120) 512 with h | h
  · refine (dif_pos h).trans ?_
    after_reads_at
    refine congrArg (m (c, Proc.devRef .tc main_arg2)) (congrArg (ix3 0 k) (Fin.ext ?_))
    simp only
    omega
  · refine (dif_neg (by omega)).trans ?_
    after_reads_at
    refine congrArg (m (c, Proc.devRef .tc main_arg2)) (congrArg (ix3 0 k) (Fin.ext ?_))
    simp only
    omega

end Cert.Kernel4Ideal

end
-- ==== Proof.ProjTables.lean ====
/- The input projection's tables, that the program builds by writing its weights into zeros. -/
module

public import proofs.«01_k».proof.Proof.Gen.Kernel4Ideal.Value
public import Idealize.ShloMosaic.Lib.Routing.OpsSet
public import Idealize.ShloMosaic.Lib.Routing.OpsPair
public import Idealize.ShloMosaic.Lib.Pipeline.ValueKit

@[expose] public section

set_option maxRecDepth 16384

noncomputable section

namespace Proj

open Idealize.ShloMosaic Idealize.ShloMosaic.Routing Cert.Kernel4Ideal Cert.Kernel4Ideal.Gen

/-! ## Rows of the heads' weights -/

theorem lands_row (idx : IVec S1 32) (k : ℕ) (hk : (idx (ix1 0)).toInt = (k : ℤ)) (e : Fin 128) (r : Fin 8) (d : Fin 128) :
    scatter_S8x128_S1_S128_0_0_0_0.resultIdx? (ix1 e) idx = some (ix2 r d) ↔ r.val = k ∧ d = e := by
  have h0 : scatter_S8x128_S1_S128_0_0_0_0.start (ix1 e) idx 0 = (idx (ix1 0)).toInt := congrArg (fun j => (idx j).toInt) (eq_ix1 _ |>.trans (congrArg ix1 (Subsingleton.elim (α := Fin 1) _ _)))
  have h1 : scatter_S8x128_S1_S128_0_0_0_0.start (ix1 e) idx 1 = 0 := rfl
  have w0 : scatter_S8x128_S1_S128_0_0_0_0.window (ix1 e) 0 = 0 := rfl
  have w1 : scatter_S8x128_S1_S128_0_0_0_0.window (ix1 e) 1 = e.val := rfl
  refine (resultIdx?_ix2 _ _ idx r d).trans ?_
  rw [h0, h1, w0, w1, hk, Fin.ext_iff]
  omega

theorem scatter_row (x : FVec Ideal S8x128 .f32) (idx : IVec S1 32) (u : FVec Ideal S128 .f32) (k : ℕ) (hk : (idx (ix1 0)).toInt = (k : ℤ)) (r : Fin 8) (d : Fin 128) :
    Host.scatter scatter_S8x128_S1_S128_0_0_0_0 (fun _ b => b) x idx u (ix2 r d) = if r.val = k then u (ix1 d) else x (ix2 r d) := by
  by_cases h : r.val = k
  · rw [if_pos h]
    refine scatter_set_hit _ x idx u _ _ (fun j hj => ?_) (ix1 d) ((lands_row idx k hk d r d).2 ⟨h, rfl⟩)
    rw [eq_ix1 j] at hj ⊢
    rw [((lands_row idx k hk _ r d).1 hj).2]
  · rw [if_neg h]
    refine scatter_set_miss _ x idx u _ fun j hj => ?_
    rw [eq_ix1 j] at hj
    exact h ((lands_row idx k hk _ r d).1 hj).1

/-! ## The taps' rows -/

theorem lands_taps (idx : IVec S1 32) (hk : (idx (ix1 0)).toInt = 0) (a : Fin 5) (b : Fin 1536) (r : Fin 8) (d : Fin 1536) :
    scatter_S8x1536_S1_S5x1536_01_n_0_0.resultIdx? (ix2 a b) idx = some (ix2 r d) ↔ r.val = a.val ∧ d = b := by
  have h0 : scatter_S8x1536_S1_S5x1536_01_n_0_0.start (ix2 a b) idx 0 = (idx (ix1 0)).toInt := congrArg (fun j => (idx j).toInt) (eq_ix1 _ |>.trans (congrArg ix1 (Subsingleton.elim (α := Fin 1) _ _)))
  have h1 : scatter_S8x1536_S1_S5x1536_01_n_0_0.start (ix2 a b) idx 1 = 0 := rfl
  have w0 : scatter_S8x1536_S1_S5x1536_01_n_0_0.window (ix2 a b) 0 = a.val := rfl
  have w1 : scatter_S8x1536_S1_S5x1536_01_n_0_0.window (ix2 a b) 1 = b.val := rfl
  refine (resultIdx?_ix2 _ _ idx r d).trans ?_
  rw [h0, h1, w0, w1, hk, Fin.ext_iff]
  omega

theorem scatter_taps (x : FVec Ideal S8x1536 .f32) (idx : IVec S1 32) (u : FVec Ideal S5x1536 .f32) (hk : (idx (ix1 0)).toInt = 0) (r : Fin 5) (d : Fin 1536) :
    Host.scatter scatter_S8x1536_S1_S5x1536_01_n_0_0 (fun _ b => b) x idx u (ix2 (⟨r.val, by omega⟩ : Fin 8) d) = u (ix2 r d) := by
  refine scatter_set_hit _ x idx u _ _ (fun j hj => ?_) (ix2 r d) ((lands_taps idx hk r d _ d).2 ⟨rfl, rfl⟩)
  rw [eq_ix2 j] at hj ⊢
  have h := (lands_taps idx hk _ _ _ d).1 hj
  rw [h.2, show r = j 0 from Fin.ext h.1]

/-! ## The gates' lanes -/

theorem lands_lanes (idx : IVec S1 32) (hk : (idx (ix1 0)).toInt = 0) (a : Fin 2) (b : Fin 4) (r : Fin 2) (d : Fin 128) :
    scatter_S2x128_S1_S2x4_01_n_1_0.resultIdx? (ix2 a b) idx = some (ix2 r d) ↔ r = a ∧ d.val = b.val := by
  have h0 : scatter_S2x128_S1_S2x4_01_n_1_0.start (ix2 a b) idx 1 = (idx (ix1 0)).toInt := congrArg (fun j => (idx j).toInt) (eq_ix1 _ |>.trans (congrArg ix1 (Subsingleton.elim (α := Fin 1) _ _)))
  have h1 : scatter_S2x128_S1_S2x4_01_n_1_0.start (ix2 a b) idx 0 = 0 := rfl
  have w0 : scatter_S2x128_S1_S2x4_01_n_1_0.window (ix2 a b) 0 = a.val := rfl
  have w1 : scatter_S2x128_S1_S2x4_01_n_1_0.window (ix2 a b) 1 = b.val := rfl
  refine (resultIdx?_ix2 _ _ idx r d).trans ?_
  rw [h0, h1, w0, w1, hk, Fin.ext_iff]
  omega

theorem scatter_lanes (x : FVec Ideal S2x128 .f32) (idx : IVec S1 32) (u : FVec Ideal S2x4 .f32) (hk : (idx (ix1 0)).toInt = 0) (r : Fin 2) (d : Fin 4) :
    Host.scatter scatter_S2x128_S1_S2x4_01_n_1_0 (fun _ b => b) x idx u (ix2 r (⟨d.val, by omega⟩ : Fin 128)) = u (ix2 r d) := by
  refine scatter_set_hit _ x idx u _ _ (fun j hj => ?_) (ix2 r d) ((lands_lanes idx hk r d r _).2 ⟨rfl, rfl⟩)
  rw [eq_ix2 j] at hj ⊢
  have h := (lands_lanes idx hk _ _ r _).1 hj
  rw [h.1, show d = j 1 from Fin.ext h.2]

end Proj

end
-- ==== Proof.ProjReads.lean ====
/- The blocks the input projection's body reads, of the arguments. -/
module

public import proofs.«01_k».proof.Proof.ProjAngles
public import proofs.«01_k».proof.Proof.ProjWeights
public import proofs.«01_k».proof.Proof.ProjTables
public import Idealize.ShloMosaic.Lib.StableHlo.ReadAt

@[expose] public section

set_option maxRecDepth 16384

noncomputable section

namespace Cert.Kernel4Ideal

open Cert.Kernel4Ideal.Gen Idealize.ShloMosaic Idealize.ShloMosaic.TcCoe Idealize.ShloMosaic.Pipeline Proj Norm
open scoped BigOperators

variable (m : (ℓ : Loc nD τ sig) → Buf (Elt Ideal) ℓ) (c : Dev nD)

/-- The grid's points: a batch and a tile of 512 rows, with the 16 rows before it and after it. -/
theorem idx : ∀ t : Fin cfg0.N, (win0_0.index t = ![t.val, 0] ∧ win0_1.index t = ![t.val * 32 - 1, 0] ∧ win0_2.index t = ![min (t.val * 32 + 32) 2047, 0]
    ∧ win0_3.index t = ![0, 0] ∧ win0_4.index t = ![0, 0] ∧ win0_5.index t = ![0, 0] ∧ win0_6.index t = ![0, 0]) ∧ (win0_7.index t = ![t.val % 8, 0] ∧ win0_8.index t = ![t.val % 8, 0]
    ∧ win0_9.index t = ![0, 0] ∧ win0_10.index t = ![0, 0] ∧ win0_11.index t = ![0, 0]) ∧ win0_12.index t = ![t.val / 8, t.val % 8, 0, 0] ∧ win0_13.index t = ![t.val, 0]
    ∧ win0_14.index t = ![t.val / 8, t.val % 8, 0, 0] ∧ win0_15.index t = ![t.val, 0] ∧ win0_16.index t = ![t.val, 0] ∧ win0_17.index t = ![t.val, 0] ∧ win0_18.index t = ![t.val, 0] := by
  decide +kernel

/-! ## The arrays the launch reads -/

theorem V_x (i : Fin 32768) (k : Fin 1024) : V (F := Ideal) m c main_v48 (ix2 i k) = (args m c).x (ix3 (bOf i) (rOf i) k) := by
  unfold V
  after_reads_at
  rfl

theorem V_nw (k : Fin 1024) : V (F := Ideal) m c main_v50 (ix2 0 k) = (args m c).nw (ix2 0 k) := by
  unfold V
  after_reads_at
  rfl

theorem V_w (k : Fin 1024) (j : Fin 5648) : V (F := Ideal) m c main_v47 (ix2 k j) = (args m c).w (ix3 0 k j) := by
  unfold V
  after_reads_at
  rfl

/-- The head weights: the queries' in row 0. -/
theorem V_qw (d : Fin 128) : V (F := Ideal) m c main_v41 (ix2 0 d) = (args m c).qw (ix2 0 d) := by
  unfold V
  after_reads_at
  refine (scatter_row _ _ _ 1 rfl 0 d).trans ((if_neg (by decide)).trans ((scatter_row _ _ _ 0 rfl 0 d).trans ((if_pos rfl).trans ?_)))
  rfl

/-- The head weights: the keys' in row 1. -/
theorem V_kw (d : Fin 128) : V (F := Ideal) m c main_v41 (ix2 1 d) = (args m c).kw (ix2 0 d) := by
  unfold V
  after_reads_at
  refine (scatter_row _ _ _ 1 rfl 1 d).trans ((if_pos rfl).trans ?_)
  rfl

/-- The convolution's weights, in the first five rows. -/
theorem V_cw (r : Fin 5) (j : Fin 1536) : V (F := Ideal) m c main_v45 (ix2 (⟨r.val, by omega⟩ : Fin 8) j) = (args m c).cw (ix3 0 r j) := by
  unfold V
  after_reads_at
  refine (scatter_taps _ _ _ rfl r j).trans ?_
  rfl

/-- The logarithms of the decay rates, in each direction's first four lanes. -/
theorem V_al (n : Fin 2) (q : Fin 4) : V (F := Ideal) m c main_v67 (ix2 0 ⟨n.val * 128 + q.val, by omega⟩) = (args m c).al (ix3 0 n q) := by
  unfold V
  after_reads_at
  have e : (⟨(n.val * 128 + q.val) % 128, by omega⟩ : Fin 128) = ⟨q.val, by omega⟩ := Fin.ext (by show (n.val * 128 + q.val) % 128 = q.val; omega)
  rw [e]
  refine (scatter_lanes _ _ _ rfl n q).trans ?_
  rfl

/-- What is added to the decays' inputs, in each direction's first four lanes. -/
theorem V_dt (n : Fin 2) (q : Fin 4) : V (F := Ideal) m c main_v72 (ix2 0 ⟨n.val * 128 + q.val, by omega⟩) = (args m c).dt (ix3 0 n q) := by
  unfold V
  after_reads_at
  have e : (⟨(n.val * 128 + q.val) % 128, by omega⟩ : Fin 128) = ⟨q.val, by omega⟩ := Fin.ext (by show (n.val * 128 + q.val) % 128 = q.val; omega)
  rw [e]
  refine (scatter_lanes _ _ _ rfl n q).trans ?_
  rfl

/-! ## The blocks -/

section blocks

variable (t : Fin cfg0.N) (ht : t.val < 64)
include ht

theorem blk_x (r : Fin 512) (k : Fin 1024) :
    iblk (F := Ideal) m c 0 t (ix2 r k) = (args m c).x (ix3 ⟨t.val / 8, by omega⟩ (tOf ⟨t.val % 8, by omega⟩ r) k) := by
  trans V (F := Ideal) m c main_v48 (ix2 ⟨t.val * 512 + r.val, by omega⟩ k)
  · blk_ext [iblk, idx t]
  · refine (V_x m c _ k).trans (congrArg (args m c).x (congrArg₂ (ix3 · · k) (Fin.ext ?_) (Fin.ext ?_)))
    · show (t.val * 512 + r.val) / 4096 = t.val / 8
      omega
    · show (t.val * 512 + r.val) % 4096 = t.val % 8 * 512 + r.val
      omega

/-- The rows before a block that does not begin a sequence. -/
theorem blk_before (h : t.val % 8 ≠ 0) (r : Fin 16) (k : Fin 1024) :
    iblk (F := Ideal) m c 1 t (ix2 r k) = (args m c).x (ix3 ⟨t.val / 8, by omega⟩ ⟨t.val % 8 * 512 + r.val - 16, by omega⟩ k) := by
  trans V (F := Ideal) m c main_v48 (ix2 ⟨(t.val * 32 - 1) * 16 + r.val, by omega⟩ k)
  · blk_ext [iblk, idx t]
  · refine (V_x m c _ k).trans (congrArg (args m c).x (congrArg₂ (ix3 · · k) (Fin.ext ?_) (Fin.ext ?_)))
    · show ((t.val * 32 - 1) * 16 + r.val) / 4096 = t.val / 8
      omega
    · show ((t.val * 32 - 1) * 16 + r.val) % 4096 = t.val % 8 * 512 + r.val - 16
      omega

/-- The rows after a block that does not end a sequence. -/
theorem blk_after (h : t.val % 8 ≠ 7) (r : Fin 16) (k : Fin 1024) :
    iblk (F := Ideal) m c 2 t (ix2 r k) = (args m c).x (ix3 ⟨t.val / 8, by omega⟩ ⟨t.val % 8 * 512 + 512 + r.val, by omega⟩ k) := by
  have e : min (t.val * 32 + 32) 2047 = t.val * 32 + 32 := by omega
  trans V (F := Ideal) m c main_v48 (ix2 ⟨(t.val * 32 + 32) * 16 + r.val, by omega⟩ k)
  · blk_ext [iblk, idx t, e]
  · refine (V_x m c _ k).trans (congrArg (args m c).x (congrArg₂ (ix3 · · k) (Fin.ext ?_) (Fin.ext ?_)))
    · show ((t.val * 32 + 32) * 16 + r.val) / 4096 = t.val / 8
      omega
    · show ((t.val * 32 + 32) * 16 + r.val) % 4096 = t.val % 8 * 512 + 512 + r.val
      omega

omit ht

theorem blk_nw (k : Fin 1024) : iblk (F := Ideal) m c 3 t (ix2 0 k) = (args m c).nw (ix2 0 k) := by
  trans V (F := Ideal) m c main_v50 (ix2 0 k)
  · blk_ext [iblk, idx t]
  · exact V_nw m c k

theorem blk_w (k : Fin 1024) (j : Fin 3072) : X0_4 (F := Ideal) m c t (ix2 k j) = (args m c).w (ix3 0 k ⟨j.val, by omega⟩) := by
  trans V (F := Ideal) m c main_v47 (ix2 k ⟨j.val, by omega⟩)
  · unfold X0_4 Pipeline.Window.fill
    rw [dif_pos (moved0_4 t _)]
    blk_ext [iblk, idx t]
  · exact V_w m c k _

theorem blk_rest (k : Fin 1024) (j : Fin 2816) : iblk (F := Ideal) m c 5 t (ix2 k j) = V (F := Ideal) m c main_v62 (ix2 k j) := by
  blk_ext [iblk, idx t]

theorem blk_heads (n : Fin 8) (d : Fin 128) : iblk (F := Ideal) m c 6 t (ix2 n d) = V (F := Ideal) m c main_v41 (ix2 n d) := by
  blk_ext [iblk, idx t]

theorem blk_cos (r : Fin 512) (d : Fin 128) : iblk (F := Ideal) m c 7 t (ix2 r d) = cosAt (tOf ⟨t.val % 8, by omega⟩ r) d := by
  trans V (F := Ideal) m c main_v31 (ix2 (tOf ⟨t.val % 8, by omega⟩ r) d)
  · blk_ext [iblk, idx t, tOf]
  · exact V_cos m c _ d

theorem blk_sin (r : Fin 512) (d : Fin 128) : iblk (F := Ideal) m c 8 t (ix2 r d) = ssinAt (tOf ⟨t.val % 8, by omega⟩ r) d := by
  trans V (F := Ideal) m c main_v34 (ix2 (tOf ⟨t.val % 8, by omega⟩ r) d)
  · blk_ext [iblk, idx t, tOf]
  · exact V_sin m c _ d

theorem blk_cw (r : Fin 5) (j : Fin 1536) : iblk (F := Ideal) m c 9 t (ix2 (⟨r.val, by omega⟩ : Fin 8) j) = (args m c).cw (ix3 0 r j) := by
  trans V (F := Ideal) m c main_v45 (ix2 (⟨r.val, by omega⟩ : Fin 8) j)
  · blk_ext [iblk, idx t]
  · exact V_cw m c r j

theorem blk_al (n : Fin 2) (q : Fin 4) : iblk (F := Ideal) m c 10 t (ix2 0 ⟨n.val * 128 + q.val, by omega⟩) = (args m c).al (ix3 0 n q) := by
  trans V (F := Ideal) m c main_v67 (ix2 0 ⟨n.val * 128 + q.val, by omega⟩)
  · blk_ext [iblk, idx t]
  · exact V_al m c n q

theorem blk_dt (n : Fin 2) (q : Fin 4) : iblk (F := Ideal) m c 11 t (ix2 0 ⟨n.val * 128 + q.val, by omega⟩) = (args m c).dt (ix3 0 n q) := by
  trans V (F := Ideal) m c main_v72 (ix2 0 ⟨n.val * 128 + q.val, by omega⟩)
  · blk_ext [iblk, idx t]
  · exact V_dt m c n q

end blocks

end Cert.Kernel4Ideal

end
-- ==== Proof.ProjConv.lean ====
/- What the input projection's body computes of the delta net's queries, keys and values. -/
module

public import proofs.«01_k».proof.Proof.ProjBlock

@[expose] public section

set_option maxRecDepth 16384

noncomputable section

namespace Proj

open Idealize.ShloMosaic Cert.Kernel4Ideal Cert.Kernel4Ideal.Gen Norm
open scoped BigOperators

/-! ## The rows with their neighbours -/

/-- A row of the block with the sixteen rows before it and the sixteen after. -/
def extRow (x0 : FVec Ideal S512x1024 .f32) (x1 x2 : FVec Ideal S16x1024 .f32) (ρ : Fin 544) (k : Fin 1024) : EReal :=
  if h : ρ.val < 16 then x1 (ix2 ⟨ρ.val, h⟩ k) else if h' : ρ.val - 16 < 512 then x0 (ix2 ⟨ρ.val - 16, h'⟩ k) else x2 (ix2 ⟨ρ.val - 16 - 512, by omega⟩ k)

/-- The normed rows with their neighbours', in the body's operations. -/
def extRows (x0 : FVec Ideal S512x1024 .f32) (x1 x2 : FVec Ideal S16x1024 .f32) (x3 : FVec Ideal S1x1024 .f32) : FVec Ideal S544x1024 .bf16 :=
  k0_pay9 (F := Ideal) (rows x0 x3)
    (k0_pay6 (View.ld x1 (Rect.unit (s := S16x1024) ![0, 0] S16x1024.size inb_S16x1024_S16x1024_0_0)) (View.ld x3 (Rect.unit (s := S1x1024) ![0, 0] S1x1024.size inb_S1x1024_S1x1024_0_0)))
    (k0_pay7 (View.ld x2 (Rect.unit (s := S16x1024) ![0, 0] S16x1024.size inb_S16x1024_S16x1024_0_0)))
    (k0_pay8 (View.ld x3 (Rect.unit (s := S1x1024) ![0, 0] S1x1024.size inb_S1x1024_S1x1024_0_0)))

theorem extRows_at (x0 : FVec Ideal S512x1024 .f32) (x1 x2 : FVec Ideal S16x1024 .f32) (x3 : FVec Ideal S1x1024 .f32) (ρ : Fin 544) (k : Fin 1024) :
    extRows x0 x1 x2 x3 (ix2 ρ k) = rowN (extRow x0 x1 x2 ρ) (fun i => x3 (ix2 0 i)) k := by
  unfold extRows k0_pay9 k0_pay6 k0_pay7 k0_pay8
  pointwise
  by_cases h : ρ.val < 16
  · have e : extRow x0 x1 x2 ρ = fun i => x1 (ix2 ⟨ρ.val, h⟩ i) := funext fun i => dif_pos h
    rw [dif_pos h, e]; unfold rowN invRms; with_reducible rfl
  · by_cases h' : ρ.val - 16 < 512
    · have e : extRow x0 x1 x2 ρ = fun i => x0 (ix2 ⟨ρ.val - 16, h'⟩ i) := funext fun i => (dif_neg h).trans (dif_pos h')
      rw [dif_neg h, dif_pos h', e]
      exact rows_at x0 x3 ⟨ρ.val - 16, h'⟩ k
    · have e : extRow x0 x1 x2 ρ = fun i => x2 (ix2 ⟨ρ.val - 16 - 512, by omega⟩ i) := funext fun i => (dif_neg h).trans (dif_neg h')
      have key : ∀ q : Fin 16, x2 (ix2 q k) * Ideal.rsqrt (Ideal.div (∑ i, x2 (ix2 q i) * x2 (ix2 q i)) (Ideal.ofBits .f32 1149239296#32) + Ideal.ofBits .f32 897988541#32) * x3 (ix2 0 k)
          = rowN (fun i => x2 (ix2 q i)) (fun i => x3 (ix2 0 i)) k := fun q => rfl
      rw [dif_neg h, dif_neg h']
      exact (key _).trans (congrArg (fun f => rowN f (fun i => x3 (ix2 0 i)) k) e.symm)

/-- Rows and their neighbours times 256 columns. -/
def colsE (n : FVec Ideal S544x1024 .bf16) (w : Vec Ideal S1024x256 .bf16) : FVec Ideal S544x256 .f32 :=
  matmul dot_S544x1024_S1024x256_S544x256_1_0_0_1_n_n none n (shapeCast S1024x256 w shapeCasts_S1024x256_S1024x256 : FVec Ideal S1024x256 .bf16) (constant S544x256 .f32 0x00000000#32)

/-- A row's product with a column. -/
def prodE (x0 : FVec Ideal S512x1024 .f32) (x1 x2 : FVec Ideal S16x1024 .f32) (x3 : FVec Ideal S1x1024 .f32) (x4 : FVec Ideal S1024x3072 .bf16) (ρ : Fin 544) (j : Fin 1536) : EReal :=
  prod (extRow x0 x1 x2 ρ) (fun k => x3 (ix2 0 k)) (fun k => x4 (ix2 k ⟨1536 + j.val, by omega⟩))

theorem colsE_at (w : ℕ) (hw : ∀ a, (![0, 1536 + w] : Fin 2 → ℕ) a + S1024x256.size a ≤ S1024x3072.size a) (hw' : w + 256 ≤ 1536) (x0 : FVec Ideal S512x1024 .f32) (x1 x2 : FVec Ideal S16x1024 .f32) (x3 : FVec Ideal S1x1024 .f32) (x4 : FVec Ideal S1024x3072 .bf16) (ρ : Fin 544) (d : Fin 256) :
    colsE (extRows x0 x1 x2 x3) (wcols ![0, 1536 + w] hw x4) (ix2 ρ d) = prodE x0 x1 x2 x3 x4 ρ ⟨w + d.val, by omega⟩ := by
  unfold colsE wcols prodE prod
  pointwise
  simp only [extRows_at, Nat.add_assoc]

/-- The products with the rows before the sequence and after it at zero; `a` and `b` say whether the block is its sequence's first, and its last. -/
def edge (a b : BitVec 1) (x0 : FVec Ideal S512x1024 .f32) (x1 x2 : FVec Ideal S16x1024 .f32) (x3 : FVec Ideal S1x1024 .f32) (x4 : FVec Ideal S1024x3072 .bf16) (ρ : Fin 544) (j : Fin 1536) : EReal :=
  if (ρ.val < 16 ∧ a = 1#1) ∨ (528 ≤ ρ.val ∧ b = 1#1) then 0 else prodE x0 x1 x2 x3 x4 ρ j

/-- The same, of an index of the buffer that holds them. -/
def edgeG (a b : BitVec 1) (x0 : FVec Ideal S512x1024 .f32) (x1 x2 : FVec Ideal S16x1024 .f32) (x3 : FVec Ideal S1x1024 .f32) (x4 : FVec Ideal S1024x3072 .bf16) (y : S544x1536.Idx) : EReal := edge a b x0 x1 x2 x3 x4 (y 0) (y 1)

theorem select_one {α : Type} (x y : α) : Scalar.select 1#1 x y = x := if_pos rfl

theorem select_ne {α : Type} {b : BitVec 1} (h : ¬b = 1#1) (x y : α) : Scalar.select b x y = y := if_neg h

section pieces

variable (a b : BitVec 1) (w : ℕ) (hw : ∀ a, (![0, 1536 + w] : Fin 2 → ℕ) a + S1024x256.size a ≤ S1024x3072.size a) (hw' : w + 256 ≤ 1536) (x0 : FVec Ideal S512x1024 .f32) (x1 x2 : FVec Ideal S16x1024 .f32) (x3 : FVec Ideal S1x1024 .f32) (x4 : FVec Ideal S1024x3072 .bf16)

include hw'

theorem first_piece (he : ∀ a, (![0, w] : Fin 2 → ℕ) a + S16x256.size a ≤ S544x1536.size a) (x : S16x256.Idx) :
    (shapeCast S16x256 (Scalar.select a (broadcast S16x256 (Scalar.ofBits .f32 0x00000000#32)) (extractStridedSlice S16x256 ![0, 0] (colsE (extRows x0 x1 x2 x3) (wcols ![0, 1536 + w] hw x4)) slices_S544x256_o0_0_S16x256))
        shapeCasts_S16x256_S16x256 : FVec Ideal S16x256 .f32) x
      = edgeG a b x0 x1 x2 x3 x4 ((Rect.unit (s := S544x1536) ![0, w] S16x256.size he).emb x) := by
  obtain ⟨r, d, rfl⟩ : ∃ (r : Fin 16) (d : Fin 256), x = ix2 r d := ⟨x 0, x 1, eq_ix2 x⟩
  have e : (Rect.unit (s := S544x1536) ![0, w] S16x256.size he).emb (ix2 r d) = ix2 (⟨0 + r.val, by omega⟩ : Fin 544) (⟨w + d.val, by omega⟩ : Fin 1536) := by blk_ext
  rw [e]
  show _ = edge a b x0 x1 x2 x3 x4 ⟨0 + r.val, _⟩ ⟨w + d.val, _⟩
  unfold edge
  have hr := r.isLt
  by_cases h : a = 1#1
  · subst h
    rw [if_pos (.inl ⟨by show 0 + r.val < 16; omega, rfl⟩)]
    rw [select_one]
    pointwise
  · rw [if_neg (by rintro (⟨-, h'⟩ | ⟨h', -⟩); exacts [h h', absurd (show 528 ≤ 0 + r.val from h') (by omega)])]
    rw [select_ne h]
    refine Eq.trans ?_ (colsE_at w hw hw' x0 x1 x2 x3 x4 _ d)
    pointwise

theorem last_piece (he : ∀ a, (![528, w] : Fin 2 → ℕ) a + S16x256.size a ≤ S544x1536.size a) (x : S16x256.Idx) :
    (shapeCast S16x256 (Scalar.select b (broadcast S16x256 (Scalar.ofBits .f32 0x00000000#32)) (extractStridedSlice S16x256 ![528, 0] (colsE (extRows x0 x1 x2 x3) (wcols ![0, 1536 + w] hw x4)) slices_S544x256_o528_0_S16x256))
        shapeCasts_S16x256_S16x256 : FVec Ideal S16x256 .f32) x
      = edgeG a b x0 x1 x2 x3 x4 ((Rect.unit (s := S544x1536) ![528, w] S16x256.size he).emb x) := by
  obtain ⟨r, d, rfl⟩ : ∃ (r : Fin 16) (d : Fin 256), x = ix2 r d := ⟨x 0, x 1, eq_ix2 x⟩
  have e : (Rect.unit (s := S544x1536) ![528, w] S16x256.size he).emb (ix2 r d) = ix2 (⟨528 + r.val, by omega⟩ : Fin 544) (⟨w + d.val, by omega⟩ : Fin 1536) := by blk_ext
  rw [e]
  show _ = edge a b x0 x1 x2 x3 x4 ⟨528 + r.val, _⟩ ⟨w + d.val, _⟩
  unfold edge
  have hr := r.isLt
  by_cases h : b = 1#1
  · subst h
    rw [if_pos (.inr ⟨by show 528 ≤ 528 + r.val; omega, rfl⟩)]
    rw [select_one]
    pointwise
  · rw [if_neg (by rintro (⟨h', -⟩ | ⟨-, h'⟩); exacts [absurd (show 528 + r.val < 16 from h') (by omega), h h'])]
    rw [select_ne h]
    refine Eq.trans ?_ (colsE_at w hw hw' x0 x1 x2 x3 x4 _ d)
    pointwise

theorem mid_piece (he : ∀ a, (![16, w] : Fin 2 → ℕ) a + S512x256.size a ≤ S544x1536.size a) (x : S512x256.Idx) :
    (shapeCast S512x256 (extractStridedSlice S512x256 ![16, 0] (colsE (extRows x0 x1 x2 x3) (wcols ![0, 1536 + w] hw x4)) slices_S544x256_o16_0_S512x256) shapeCasts_S512x256_S512x256 : FVec Ideal S512x256 .f32) x
      = edgeG a b x0 x1 x2 x3 x4 ((Rect.unit (s := S544x1536) ![16, w] S512x256.size he).emb x) := by
  obtain ⟨r, d, rfl⟩ : ∃ (r : Fin 512) (d : Fin 256), x = ix2 r d := ⟨x 0, x 1, eq_ix2 x⟩
  have e : (Rect.unit (s := S544x1536) ![16, w] S512x256.size he).emb (ix2 r d) = ix2 (⟨16 + r.val, by omega⟩ : Fin 544) (⟨w + d.val, by omega⟩ : Fin 1536) := by blk_ext
  rw [e]
  show _ = edge a b x0 x1 x2 x3 x4 ⟨16 + r.val, _⟩ ⟨w + d.val, _⟩
  unfold edge
  have hr := r.isLt
  rw [if_neg (by rintro (⟨h', -⟩ | ⟨h', -⟩); exacts [absurd (show 16 + r.val < 16 from h') (by omega), absurd (show 528 ≤ 16 + r.val from h') (by omega)])]
  refine Eq.trans ?_ (colsE_at w hw hw' x0 x1 x2 x3 x4 _ d)
  pointwise

end pieces

/-! ## The convolution -/

/-- A tap: the rows shifted, times a row of weights. -/
def tapOp (s : FVec Ideal S544x128 .f32) (w : FVec Ideal S1x128 .f32) : FVec Ideal S512x128 .f32 :=
  mulf (extractStridedSlice S512x128 ![16, 0] s slices_S544x128_o16_0_S512x128) (broadcastTo S512x128 (shapeCast S1x128 w shapeCasts_S1x128_S1x128) broadcasts_S1x128_S512x128)

/-- A head of the convolution, in the body's operations. -/
def convOp (s : FVec Ideal S544x128 .f32) (w0 w1 w2 w3 w4 : FVec Ideal S1x128 .f32) : FVec Ideal S512x128 .f32 :=
  have y : FVec Ideal S512x128 .f32 := addf (addf (addf (addf (tapOp (dynamicRotate 0 2#32 none s rotates_S544x128_d0) w0) (tapOp (dynamicRotate 0 1#32 none s rotates_S544x128_d0) w1)) (tapOp s w2))
    (tapOp (dynamicRotate 0 543#32 none s rotates_S544x128_d0) w3)) (tapOp (dynamicRotate 0 542#32 none s rotates_S544x128_d0) w4)
  mulf y (logistic y)

/-- A head over its length. -/
def unitOp (y : FVec Ideal S512x128 .f32) : FVec Ideal S512x128 .f32 :=
  mulf y (broadcastTo S512x128 (rsqrt (addf (shapeCast S512x1 (multiReduction .add [1] S512 (mulf y y) 0x00000000#32 reduces_S512x128_S512 (.inl rfl) rfl) shapeCasts_S512_S512x1)
    (broadcast S512x1 (Scalar.ofBits .f32 0x358637BD#32)))) broadcasts_S512x1_S512x128)

/-- The five taps of one coordinate. -/
def taps (s : Fin 544 → EReal) (w : Fin 5 → EReal) (r : Fin 512) : EReal :=
  s ⟨r.val + 14, by omega⟩ * w 0 + s ⟨r.val + 15, by omega⟩ * w 1 + s ⟨r.val + 16, by omega⟩ * w 2 + s ⟨r.val + 17, by omega⟩ * w 3 + s ⟨r.val + 18, by omega⟩ * w 4

theorem convOp_at (s : FVec Ideal S544x128 .f32) (w0 w1 w2 w3 w4 : FVec Ideal S1x128 .f32) (r : Fin 512) (d : Fin 128) :
    convOp s w0 w1 w2 w3 w4 (ix2 r d) = silu (taps (fun ρ => s (ix2 ρ d)) ![w0 (ix2 0 d), w1 (ix2 0 d), w2 (ix2 0 d), w3 (ix2 0 d), w4 (ix2 0 d)] r) := by
  unfold convOp tapOp silu taps
  pointwise
  have e0 : (16 + r.val + 544 - 2) % 544 = r.val + 14 := by omega
  have e1 : (16 + r.val + 544 - 1) % 544 = r.val + 15 := by omega
  have e2 : 16 + r.val = r.val + 16 := by omega
  have e3 : (16 + r.val + 544 - 543) % 544 = r.val + 17 := by omega
  have e4 : (16 + r.val + 544 - 542) % 544 = r.val + 18 := by omega
  simp only [e0, e1, e3, e4]
  simp only [e2]

theorem unitOp_at (y : FVec Ideal S512x128 .f32) (r : Fin 512) (d : Fin 128) : unitOp y (ix2 r d) = y (ix2 r d) * invLen (fun i => y (ix2 r i)) := by
  unfold unitOp invLen
  pointwise

/-- The products of the sequence's first rows, in the body's operations. -/
def firstOp (a : BitVec 1) (p : FVec Ideal S544x256 .f32) : FVec Ideal S16x256 .f32 :=
  shapeCast S16x256 (Scalar.select a (broadcast S16x256 (Scalar.ofBits .f32 0x00000000#32)) (extractStridedSlice S16x256 ![0, 0] p slices_S544x256_o0_0_S16x256)) shapeCasts_S16x256_S16x256

/-- The products of the block's own rows. -/
def midOp (p : FVec Ideal S544x256 .f32) : FVec Ideal S512x256 .f32 :=
  shapeCast S512x256 (extractStridedSlice S512x256 ![16, 0] p slices_S544x256_o16_0_S512x256) shapeCasts_S512x256_S512x256

/-- The products of the sequence's last rows. -/
def lastOp (b : BitVec 1) (p : FVec Ideal S544x256 .f32) : FVec Ideal S16x256 .f32 :=
  shapeCast S16x256 (Scalar.select b (broadcast S16x256 (Scalar.ofBits .f32 0x00000000#32)) (extractStridedSlice S16x256 ![528, 0] p slices_S544x256_o528_0_S16x256)) shapeCasts_S16x256_S16x256

theorem inb2 {n0 n1 a0 a1 o0 o1 : ℕ} (h0 : o0 + a0 ≤ n0) (h1 : o1 + a1 ≤ n1) : ∀ a, (![o0, o1] : Fin 2 → ℕ) a + (![a0, a1] : Fin 2 → ℕ) a ≤ (![n0, n1] : Fin 2 → ℕ) a :=
  Fin.forall_fin_two.mpr ⟨h0, h1⟩

/-- The three stores of a 256 columns' products. -/
def fill (a b : BitVec 1) (x0 : FVec Ideal S512x1024 .f32) (x1 x2 : FVec Ideal S16x1024 .f32) (x3 : FVec Ideal S1x1024 .f32) (x4 : FVec Ideal S1024x3072 .bf16) (c : ℕ) (hc : c + 256 ≤ 1536) : List (View.Piece (Elt Ideal) S544x1536 .f32) :=
  [⟨Rect.unit ![528, c] S16x256.size (inb2 (by decide) hc), lastOp b (colsE (extRows x0 x1 x2 x3) (wcols ![0, 1536 + c] (inb2 (by decide) (by omega)) x4))⟩,
    ⟨Rect.unit ![16, c] S512x256.size (inb2 (by decide) hc), midOp (colsE (extRows x0 x1 x2 x3) (wcols ![0, 1536 + c] (inb2 (by decide) (by omega)) x4))⟩,
    ⟨Rect.unit ![0, c] S16x256.size (inb2 (by decide) hc), firstOp a (colsE (extRows x0 x1 x2 x3) (wcols ![0, 1536 + c] (inb2 (by decide) (by omega)) x4))⟩]

theorem fill_at (a b : BitVec 1) (x0 : FVec Ideal S512x1024 .f32) (x1 x2 : FVec Ideal S16x1024 .f32) (x3 : FVec Ideal S1x1024 .f32) (x4 : FVec Ideal S1024x3072 .bf16) (c : ℕ) (hc : c + 256 ≤ 1536) : ∀ p ∈ fill a b x0 x1 x2 x3 x4 c hc, ∀ x : p.1.shape.Idx, p.2 x = edgeG a b x0 x1 x2 x3 x4 (p.1.emb x) := by
  unfold fill
  simp only [List.forall_mem_cons, List.not_mem_nil, false_imp_iff, implies_true, and_true]
  exact ⟨last_piece a b c _ hc x0 x1 x2 x3 x4 _, mid_piece a b c _ hc x0 x1 x2 x3 x4 _, first_piece a b c _ hc x0 x1 x2 x3 x4 _⟩

theorem fill_cover (a b : BitVec 1) (x0 : FVec Ideal S512x1024 .f32) (x1 x2 : FVec Ideal S16x1024 .f32) (x3 : FVec Ideal S1x1024 .f32) (x4 : FVec Ideal S1024x3072 .bf16) (c : ℕ) (hc : c + 256 ≤ 1536) (y : S544x1536.Idx) (hl : c ≤ (y 1).val) (hr : (y 1).val < c + 256) : ∃ p ∈ fill a b x0 x1 x2 x3 x4 c hc, y ∈ p.1.set := by
  have h0 : (y 0).val < 544 := (y 0).isLt
  unfold fill
  simp only [List.exists_mem_cons_iff, Rect.mem_set_unit, Fin.forall_fin_two]
  by_cases hb : 528 ≤ (y 0).val
  · exact .inl ⟨⟨hb, by show _ < 528 + 16; omega⟩, hl, hr⟩
  · by_cases hm : 16 ≤ (y 0).val
    · exact .inr (.inl ⟨⟨hm, by show _ < 16 + 512; omega⟩, hl, hr⟩)
    · exact .inr (.inr (.inl ⟨⟨Nat.zero_le _, by show _ < 0 + 16; omega⟩, hl, hr⟩))

/-- The stores that fill the buffer of products, the last first. -/
def fills (a b : BitVec 1) (x0 : FVec Ideal S512x1024 .f32) (x1 x2 : FVec Ideal S16x1024 .f32) (x3 : FVec Ideal S1x1024 .f32) (x4 : FVec Ideal S1024x3072 .bf16) : List (View.Piece (Elt Ideal) S544x1536 .f32) :=
  fill a b x0 x1 x2 x3 x4 1280 (by decide) ++ (fill a b x0 x1 x2 x3 x4 1024 (by decide) ++ (fill a b x0 x1 x2 x3 x4 768 (by decide)
    ++ (fill a b x0 x1 x2 x3 x4 512 (by decide) ++ (fill a b x0 x1 x2 x3 x4 256 (by decide) ++ fill a b x0 x1 x2 x3 x4 0 (by decide)))))

theorem fills_at (a b : BitVec 1) (x0 : FVec Ideal S512x1024 .f32) (x1 x2 : FVec Ideal S16x1024 .f32) (x3 : FVec Ideal S1x1024 .f32) (x4 : FVec Ideal S1024x3072 .bf16) : ∀ p ∈ fills a b x0 x1 x2 x3 x4, ∀ x : p.1.shape.Idx, p.2 x = edgeG a b x0 x1 x2 x3 x4 (p.1.emb x) := by
  unfold fills
  simp only [List.forall_mem_append]
  exact ⟨fill_at a b x0 x1 x2 x3 x4 1280 _, fill_at a b x0 x1 x2 x3 x4 1024 _, fill_at a b x0 x1 x2 x3 x4 768 _, fill_at a b x0 x1 x2 x3 x4 512 _, fill_at a b x0 x1 x2 x3 x4 256 _, fill_at a b x0 x1 x2 x3 x4 0 _⟩

theorem fills_cover (a b : BitVec 1) (x0 : FVec Ideal S512x1024 .f32) (x1 x2 : FVec Ideal S16x1024 .f32) (x3 : FVec Ideal S1x1024 .f32) (x4 : FVec Ideal S1024x3072 .bf16) (y : S544x1536.Idx) : ∃ p ∈ fills a b x0 x1 x2 x3 x4, y ∈ p.1.set := by
  have h1 : (y 1).val < 1536 := (y 1).isLt
  have hl : ∀ {L L' : List (View.Piece (Elt Ideal) S544x1536 .f32)}, (∃ p ∈ L, y ∈ p.1.set) → ∃ p ∈ L ++ L', y ∈ p.1.set := fun ⟨p, hp, hy⟩ => ⟨p, List.mem_append_left _ hp, hy⟩
  have hr : ∀ {L L' : List (View.Piece (Elt Ideal) S544x1536 .f32)}, (∃ p ∈ L', y ∈ p.1.set) → ∃ p ∈ L ++ L', y ∈ p.1.set := fun ⟨p, hp, hy⟩ => ⟨p, List.mem_append_right _ hp, hy⟩
  unfold fills
  by_cases c5 : 1280 ≤ (y 1).val
  · exact hl (fill_cover a b x0 x1 x2 x3 x4 1280 _ y c5 (by omega))
  by_cases c4 : 1024 ≤ (y 1).val
  · exact hr (hl (fill_cover a b x0 x1 x2 x3 x4 1024 _ y c4 (by omega)))
  by_cases c3 : 768 ≤ (y 1).val
  · exact hr (hr (hl (fill_cover a b x0 x1 x2 x3 x4 768 _ y c3 (by omega))))
  by_cases c2 : 512 ≤ (y 1).val
  · exact hr (hr (hr (hl (fill_cover a b x0 x1 x2 x3 x4 512 _ y c2 (by omega)))))
  by_cases c1 : 256 ≤ (y 1).val
  · exact hr (hr (hr (hr (hl (fill_cover a b x0 x1 x2 x3 x4 256 _ y c1 (by omega))))))
  · exact hr (hr (hr (hr (hr (fill_cover a b x0 x1 x2 x3 x4 0 _ y (Nat.zero_le _) (by omega))))))

/-- What a head reads of the filled buffer. -/
theorem filled (a b : BitVec 1) (x0 : FVec Ideal S512x1024 .f32) (x1 x2 : FVec Ideal S16x1024 .f32) (x3 : FVec Ideal S1x1024 .f32) (x4 : FVec Ideal S1024x3072 .bf16) {sig' : RefSig} {k : Kind} {sp : Space} (v : View sig' k sp S544x1536 .f32) (o : ℕ) (ho : ∀ a, (![0, o] : Fin 2 → ℕ) a + S544x128.size a ≤ S544x1536.size a) (ho' : o + 128 ≤ 1536)
    (ρ : Fin 544) (d : Fin 128) :
    (v.readCov (Val := Elt Ideal) (fills a b x0 x1 x2 x3 x4) (Rect.unit (s := S544x1536) ![0, o] S544x128.size ho).toLoadRect) (ix2 ρ d) = edge a b x0 x1 x2 x3 x4 ρ ⟨o + d.val, by omega⟩ := by
  have e : (Rect.unit (s := S544x1536) ![0, o] S544x128.size ho).emb (ix2 ρ d) = ix2 ρ (⟨o + d.val, by omega⟩ : Fin 1536) := by blk_ext
  refine (View.read_writes_apply_of_pieces (Val := Elt Ideal) _ _ (edgeG a b x0 x1 x2 x3 x4) _ (fills_at a b x0 x1 x2 x3 x4) _ (fills_cover a b x0 x1 x2 x3 x4 _)).trans ?_
  exact congrArg (edgeG a b x0 x1 x2 x3 x4) e

/-! ## The heads of the convolution -/

/-- A coordinate of the convolution. -/
def conv (a b : BitVec 1) (x0 : FVec Ideal S512x1024 .f32) (x1 x2 : FVec Ideal S16x1024 .f32) (x3 : FVec Ideal S1x1024 .f32) (x4 : FVec Ideal S1024x3072 .bf16) (x9 : FVec Ideal S8x1536 .f32) (r : Fin 512) (j : Fin 1536) : EReal :=
  silu (taps (fun ρ => edge a b x0 x1 x2 x3 x4 ρ j) (fun i => x9 (ix2 (⟨i.val, by omega⟩ : Fin 8) j)) r)

/-- A head's coordinate over the head's length. -/
def unit (a b : BitVec 1) (x0 : FVec Ideal S512x1024 .f32) (x1 x2 : FVec Ideal S16x1024 .f32) (x3 : FVec Ideal S1x1024 .f32) (x4 : FVec Ideal S1024x3072 .bf16) (x9 : FVec Ideal S8x1536 .f32) (r : Fin 512) (j : Fin 1536) : EReal :=
  conv a b x0 x1 x2 x3 x4 x9 r j * invLen (fun d : Fin 128 => conv a b x0 x1 x2 x3 x4 x9 r ⟨j.val / 128 * 128 + d.val, by omega⟩)

/-- What the body writes into its block of the delta net's queries, keys and values. -/
def qkvG (a b : BitVec 1) (x0 : FVec Ideal S512x1024 .f32) (x1 x2 : FVec Ideal S16x1024 .f32) (x3 : FVec Ideal S1x1024 .f32) (x4 : FVec Ideal S1024x3072 .bf16) (x9 : FVec Ideal S8x1536 .f32) (y : S512x1536.Idx) : EReal :=
  if (y 1).val < 512 then unit a b x0 x1 x2 x3 x4 x9 (y 0) (y 1) * (Named.named (F := Ideal) κ "scale" (0x3DB504F3#32 : BitVec (FTy.bits .f32)) : Ideal .f32)
  else if (y 1).val < 1024 then unit a b x0 x1 x2 x3 x4 x9 (y 0) (y 1)
  else conv a b x0 x1 x2 x3 x4 x9 (y 0) (y 1)

/-- A row of a head's weights. -/
def tapRow (o : Fin 2 → ℕ) (ho : ∀ a, o a + S1x128.size a ≤ S8x1536.size a) (x9 : FVec Ideal S8x1536 .f32) : Vec Ideal S1x128 .f32 := View.ld x9 (Rect.unit (s := S8x1536) o S1x128.size ho)

section heads

variable (a b : BitVec 1) (x0 : FVec Ideal S512x1024 .f32) (x1 x2 : FVec Ideal S16x1024 .f32) (x3 : FVec Ideal S1x1024 .f32) (x4 : FVec Ideal S1024x3072 .bf16) (x9 : FVec Ideal S8x1536 .f32) {sig' : RefSig} {k : Kind} {sp : Space} (v : View sig' k sp S544x1536 .f32)
  (o : ℕ) (ho' : o + 128 ≤ 1536)

/-- A head, of the filled buffer and the weights. -/
def convHead : FVec Ideal S512x128 .f32 :=
  convOp (v.readCov (Val := Elt Ideal) (fills a b x0 x1 x2 x3 x4) (Rect.unit (s := S544x1536) ![0, o] S544x128.size (inb2 (by decide) ho')).toLoadRect) (tapRow ![0, o] (inb2 (by decide) ho') x9) (tapRow ![1, o] (inb2 (by decide) ho') x9) (tapRow ![2, o] (inb2 (by decide) ho') x9)
    (tapRow ![3, o] (inb2 (by decide) ho') x9) (tapRow ![4, o] (inb2 (by decide) ho') x9)

theorem convHead_at (r : Fin 512) (d : Fin 128) : convHead a b x0 x1 x2 x3 x4 x9 v o ho' (ix2 r d) = conv a b x0 x1 x2 x3 x4 x9 r ⟨o + d.val, by omega⟩ := by
  unfold convHead
  rw [convOp_at]
  unfold conv
  have hw : ∀ (n : Fin 8) (hn : ∀ a, (![n.val, o] : Fin 2 → ℕ) a + S1x128.size a ≤ S8x1536.size a), tapRow ![n.val, o] hn x9 (ix2 0 d) = x9 (ix2 n (⟨o + d.val, by omega⟩ : Fin 1536)) := by
    intro n hn
    unfold tapRow
    have e : (Rect.unit (s := S8x1536) ![n.val, o] S1x128.size hn).emb (ix2 0 d) = ix2 n (⟨o + d.val, by omega⟩ : Fin 1536) := by blk_ext
    exact congrArg x9 e
  have e : (![tapRow ![0, o] (inb2 (by decide) ho') x9 (ix2 0 d), tapRow ![1, o] (inb2 (by decide) ho') x9 (ix2 0 d), tapRow ![2, o] (inb2 (by decide) ho') x9 (ix2 0 d), tapRow ![3, o] (inb2 (by decide) ho') x9 (ix2 0 d), tapRow ![4, o] (inb2 (by decide) ho') x9 (ix2 0 d)] : Fin 5 → EReal)
      = fun i => x9 (ix2 (⟨i.val, by omega⟩ : Fin 8) (⟨o + d.val, by omega⟩ : Fin 1536)) := by
    funext i
    fin_cases i
    exacts [hw 0 _, hw 1 _, hw 2 _, hw 3 _, hw 4 _]
  rw [e]
  exact congrArg (fun s => silu (taps s _ r)) (funext fun ρ => filled a b x0 x1 x2 x3 x4 v o _ ho' ρ d)

theorem unitHead_at (n : Fin 12) (hn : o = n.val * 128) (r : Fin 512) (d : Fin 128) : unitOp (convHead a b x0 x1 x2 x3 x4 x9 v o ho') (ix2 r d) = unit a b x0 x1 x2 x3 x4 x9 r ⟨o + d.val, by omega⟩ := by
  rw [unitOp_at]
  unfold unit
  simp only [convHead_at]
  have e : (o + d.val) / 128 * 128 = o := by omega
  simp only [e]

variable (he : ∀ a, (![0, o] : Fin 2 → ℕ) a + S512x128.size a ≤ S512x1536.size a)

theorem emb_head (r : Fin 512) (d : Fin 128) : (Rect.unit (s := S512x1536) ![0, o] S512x128.size he).emb (ix2 r d) = ix2 r (⟨o + d.val, by omega⟩ : Fin 1536) := by blk_ext

theorem query_piece (n : Fin 4) (hn : o = n.val * 128) (x : S512x128.Idx) :
    (truncf .bf16 (mulf (unitOp (convHead a b x0 x1 x2 x3 x4 x9 v o ho')) (broadcast S512x128 (Named.named (F := Ideal) κ "scale" (0x3DB504F3#32 : BitVec (FTy.bits .f32)) : Ideal .f32))) (by decide) : FVec Ideal S512x128 .bf16) x
      = qkvG a b x0 x1 x2 x3 x4 x9 ((Rect.unit (s := S512x1536) ![0, o] S512x128.size he).emb x) := by
  obtain ⟨r, d, rfl⟩ : ∃ (r : Fin 512) (d : Fin 128), x = ix2 r d := ⟨x 0, x 1, eq_ix2 x⟩
  rw [emb_head o ho' he]
  unfold qkvG
  rw [if_pos (by show o + d.val < 512; omega)]
  refine Eq.trans ?_ (congrArg (· * _) (unitHead_at a b x0 x1 x2 x3 x4 x9 v o ho' ⟨n.val, by omega⟩ hn r d))
  pointwise

theorem key_piece (n : Fin 4) (hn : o = 512 + n.val * 128) (x : S512x128.Idx) :
    (truncf .bf16 (unitOp (convHead a b x0 x1 x2 x3 x4 x9 v o ho')) (by decide) : FVec Ideal S512x128 .bf16) x
      = qkvG a b x0 x1 x2 x3 x4 x9 ((Rect.unit (s := S512x1536) ![0, o] S512x128.size he).emb x) := by
  obtain ⟨r, d, rfl⟩ : ∃ (r : Fin 512) (d : Fin 128), x = ix2 r d := ⟨x 0, x 1, eq_ix2 x⟩
  rw [emb_head o ho' he]
  unfold qkvG
  rw [if_neg (by show ¬o + d.val < 512; omega), if_pos (by show o + d.val < 1024; omega)]
  exact unitHead_at a b x0 x1 x2 x3 x4 x9 v o ho' ⟨4 + n.val, by omega⟩ (by show o = (4 + n.val) * 128; omega) r d

theorem value_piece (n : Fin 4) (hn : o = 1024 + n.val * 128) (x : S512x128.Idx) :
    (truncf .bf16 (convHead a b x0 x1 x2 x3 x4 x9 v o ho') (by decide) : FVec Ideal S512x128 .bf16) x
      = qkvG a b x0 x1 x2 x3 x4 x9 ((Rect.unit (s := S512x1536) ![0, o] S512x128.size he).emb x) := by
  obtain ⟨r, d, rfl⟩ : ∃ (r : Fin 512) (d : Fin 128), x = ix2 r d := ⟨x 0, x 1, eq_ix2 x⟩
  rw [emb_head o ho' he]
  unfold qkvG
  rw [if_neg (by show ¬o + d.val < 512; omega), if_neg (by show ¬o + d.val < 1024; omega)]
  exact convHead_at a b x0 x1 x2 x3 x4 x9 v o ho' r d

end heads

variable (m : (ℓ : Loc nD τ sig) → Buf (Elt Ideal) ℓ) (c : Dev nD) (t : Fin cfg0.N)

/-- A block's number among its sequence's eight, in the body's operations. -/
def seqOp (i : BitVec 32) : BitVec 32 :=
  have q : BitVec 32 := Scalar.select (Scalar.cmpi .eq 8#32 0#32) 1#32 8#32
  have v := Scalar.remsi i q
  Scalar.select (Scalar.andi (Scalar.xori (Scalar.cmpi .slt v 0#32) (Scalar.cmpi .slt q 0#32)) (Scalar.cmpi .ne v 0#32)) (Scalar.addi v q) v

set_option maxHeartbeats 4000000 in
theorem qkv_block (y : S512x1536.Idx) :
    (outsAt0 m c t).2.2.2.1 y = qkvG (Scalar.cmpi .eq (seqOp (BitVec.ofNat 32 (grid0.coords t 0).val)) 0#32) (Scalar.cmpi .eq (seqOp (BitVec.ofNat 32 (grid0.coords t 0).val)) 7#32)
      (iblk m c 0 t) (iblk m c 1 t) (iblk m c 2 t) (iblk m c 3 t) (X0_4 m c t) (iblk m c 9 t) y := by
  unfold outsAt0
  dsimp only
  unfold out0_A_15
  refine View.read_writes_apply_of_pieces (Val := Elt Ideal) (e := .bf16) _ _ (qkvG _ _ (iblk m c 0 t) (iblk m c 1 t) (iblk m c 2 t) (iblk m c 3 t) (X0_4 m c t) (iblk m c 9 t)) _ ?_ y (cover0_A_15 ..)
  unfold kernelRun0_A
  dsimp only
  simp only [List.forall_mem_cons, List.not_mem_nil, false_imp_iff, implies_true, and_true]
  sl_unfold_words
  simp only [View.readAt_eq_ld, Memref.IsWhole.read_unread]
  exact ⟨value_piece _ _ (iblk m c 0 t) (iblk m c 1 t) (iblk m c 2 t) (iblk m c 3 t) (X0_4 m c t) (iblk m c 9 t) scM0_0.view 1408 (by decide) inb_S512x1536_S512x128_0_1408 3 rfl,
    value_piece _ _ (iblk m c 0 t) (iblk m c 1 t) (iblk m c 2 t) (iblk m c 3 t) (X0_4 m c t) (iblk m c 9 t) scM0_0.view 1280 (by decide) inb_S512x1536_S512x128_0_1280 2 rfl,
    value_piece _ _ (iblk m c 0 t) (iblk m c 1 t) (iblk m c 2 t) (iblk m c 3 t) (X0_4 m c t) (iblk m c 9 t) scM0_0.view 1152 (by decide) inb_S512x1536_S512x128_0_1152 1 rfl,
    value_piece _ _ (iblk m c 0 t) (iblk m c 1 t) (iblk m c 2 t) (iblk m c 3 t) (X0_4 m c t) (iblk m c 9 t) scM0_0.view 1024 (by decide) inb_S512x1536_S512x128_0_1024 0 rfl,
    key_piece _ _ (iblk m c 0 t) (iblk m c 1 t) (iblk m c 2 t) (iblk m c 3 t) (X0_4 m c t) (iblk m c 9 t) scM0_0.view 896 (by decide) inb_S512x1536_S512x128_0_896 3 rfl,
    key_piece _ _ (iblk m c 0 t) (iblk m c 1 t) (iblk m c 2 t) (iblk m c 3 t) (X0_4 m c t) (iblk m c 9 t) scM0_0.view 768 (by decide) inb_S512x1536_S512x128_0_768 2 rfl,
    key_piece _ _ (iblk m c 0 t) (iblk m c 1 t) (iblk m c 2 t) (iblk m c 3 t) (X0_4 m c t) (iblk m c 9 t) scM0_0.view 640 (by decide) inb_S512x1536_S512x128_0_640 1 rfl,
    key_piece _ _ (iblk m c 0 t) (iblk m c 1 t) (iblk m c 2 t) (iblk m c 3 t) (X0_4 m c t) (iblk m c 9 t) scM0_0.view 512 (by decide) inb_S512x1536_S512x128_0_512 0 rfl,
    query_piece _ _ (iblk m c 0 t) (iblk m c 1 t) (iblk m c 2 t) (iblk m c 3 t) (X0_4 m c t) (iblk m c 9 t) scM0_0.view 384 (by decide) inb_S512x1536_S512x128_0_384 3 rfl,
    query_piece _ _ (iblk m c 0 t) (iblk m c 1 t) (iblk m c 2 t) (iblk m c 3 t) (X0_4 m c t) (iblk m c 9 t) scM0_0.view 256 (by decide) inb_S512x1536_S512x128_0_256 2 rfl,
    query_piece _ _ (iblk m c 0 t) (iblk m c 1 t) (iblk m c 2 t) (iblk m c 3 t) (X0_4 m c t) (iblk m c 9 t) scM0_0.view 128 (by decide) inb_S512x1536_S512x128_0_128 1 rfl,
    query_piece _ _ (iblk m c 0 t) (iblk m c 1 t) (iblk m c 2 t) (iblk m c 3 t) (X0_4 m c t) (iblk m c 9 t) scM0_0.view 0 (by decide) inb_S512x1536_S512x128_0_0 0 rfl⟩

end Proj

end
-- ==== Proof.ProjValue.lean ====
/- The arrays the input projection's call leaves, of its arguments. -/
module

public import proofs.«01_k».proof.Proof.ProjReads
public import proofs.«01_k».proof.Proof.ProjConv

@[expose] public section

set_option maxRecDepth 16384

noncomputable section

namespace Cert.Kernel4Ideal

open Cert.Kernel4Ideal.Gen Idealize.ShloMosaic Idealize.ShloMosaic.TcCoe Idealize.ShloMosaic.Pipeline Proj Norm
open scoped BigOperators

variable (m : (ℓ : Loc nD τ sig) → Buf (Elt Ideal) ℓ) (c : Dev nD)

/-- The first named factor is one over √128 · log 2. -/
theorem scale_log2e_eq : (Named.named (F := Ideal) κ "scale_log2e" (0x3E0293EE#32 : BitVec (FTy.bits .f32)) : Ideal .f32) = (((Real.sqrt 128 * Real.log 2)⁻¹ : ℝ) : EReal) :=
  IdealRules.named_const.ideal_named_scalar _ _ _ _ rfl

/-- The second named factor is one over √128. -/
theorem scale_eq : (Named.named (F := Ideal) κ "scale" (0x3DB504F3#32 : BitVec (FTy.bits .f32)) : Ideal .f32) = (((Real.sqrt 128)⁻¹ : ℝ) : EReal) :=
  IdealRules.named_const.ideal_named_scalar _ _ _ _ rfl

/-- Whether a point's block begins its sequence. -/
theorem first_bit : ∀ t : Fin cfg0.N, Scalar.cmpi .eq (seqOp (BitVec.ofNat 32 (grid0.coords t 0).val)) 0#32 = if t.val % 8 = 0 then 1#1 else 0#1 := by
  decide +kernel

/-- Whether a point's block ends its sequence. -/
theorem last_bit : ∀ t : Fin cfg0.N, Scalar.cmpi .eq (seqOp (BitVec.ofNat 32 (grid0.coords t 0).val)) 7#32 = if t.val % 8 = 7 then 1#1 else 0#1 := by
  decide +kernel

section point

variable (t : Fin cfg0.N) (ht : t.val < 64)
include ht

/-! ## Products -/

theorem prodA_at (r : Fin 512) (j : Fin 3072) :
    prodA (iblk m c 0 t) (iblk m c 3 t) (X0_4 m c t) r j = P (args m c) ⟨t.val / 8, by omega⟩ (tOf ⟨t.val % 8, by omega⟩ r) ⟨j.val, by omega⟩ := by
  unfold prodA P
  simp only [blk_x m c t ht, blk_nw m c t, blk_w m c t]

/-- The products with the columns of the memory's queries and the gate. -/
theorem prodB_rest (r : Fin 512) (j : Fin 2560) :
    prodB (iblk m c 0 t) (iblk m c 3 t) (iblk m c 5 t) r ⟨256 + j.val, by omega⟩ = P (args m c) ⟨t.val / 8, by omega⟩ (tOf ⟨t.val % 8, by omega⟩ r) ⟨3088 + j.val, by omega⟩ := by
  unfold prodB P
  simp only [blk_x m c t ht, blk_nw m c t, blk_rest m c t, V_rest m c]

/-- The products with the columns of the decays. -/
theorem prodB_decay (r : Fin 512) (n : Fin 2) (q : Fin 8) (h : q.val < 4) :
    prodB (iblk m c 0 t) (iblk m c 3 t) (iblk m c 5 t) r ⟨n.val * 128 + q.val, by omega⟩
      = P (args m c) ⟨t.val / 8, by omega⟩ (tOf ⟨t.val % 8, by omega⟩ r) ⟨3072 + (n.val * 4 + q.val), by omega⟩ := by
  unfold prodB P
  simp only [blk_x m c t ht, blk_nw m c t, blk_rest m c t, V_gates m c, if_pos h]

/-- The products with the columns of the strengths. -/
theorem prodB_strength (r : Fin 512) (n : Fin 2) (q : Fin 8) (h : ¬q.val < 4) :
    prodB (iblk m c 0 t) (iblk m c 3 t) (iblk m c 5 t) r ⟨n.val * 128 + q.val, by omega⟩
      = P (args m c) ⟨t.val / 8, by omega⟩ (tOf ⟨t.val % 8, by omega⟩ r) ⟨3080 + (n.val * 4 + (q.val - 4)), by omega⟩ := by
  unfold prodB P
  simp only [blk_x m c t ht, blk_nw m c t, blk_rest m c t, V_gates m c, if_neg h]

/-! ## The blocks at a row -/

/-- A head of the block. -/
theorem head_at (q : Fin 128 → EReal) (n : Fin 8) (hq : ∀ d, V (F := Ideal) m c main_v41 (ix2 n d) = q d) (o : ℕ) (ho : o + 128 ≤ 3072) (r : Fin 512) (d : Fin 128) :
    headA (iblk m c 0 t) (iblk m c 3 t) (X0_4 m c t) (iblk m c 6 t) (iblk m c 7 t) (iblk m c 8 t) o ho n r d
      = head (args m c) q ⟨t.val / 8, by omega⟩ (tOf ⟨t.val % 8, by omega⟩ r) o (by omega) d :=
  congrFun (congr (congr (congr (congrArg headR (funext fun i => prodA_at m c t ht r _)) (funext fun i => (blk_heads m c t n i).trans (hq i)))
    (funext fun i => blk_cos m c t r i)) (funext fun i => blk_sin m c t r i)) d

theorem aq_at (r : Fin 512) (e : Fin 1024) :
    aqG (iblk m c 0 t) (iblk m c 3 t) (X0_4 m c t) (iblk m c 6 t) (iblk m c 7 t) (iblk m c 8 t) (ix4 0 0 e r)
      = aqAt (args m c) ⟨t.val / 8, by omega⟩ (tOf ⟨t.val % 8, by omega⟩ r) e := by
  unfold aqG aqAt
  rw [scale_log2e_eq]
  exact congrArg (· * (((Real.sqrt 128 * Real.log 2)⁻¹ : ℝ) : EReal)) (head_at m c t ht _ 0 (V_qw m c) _ _ r _)

theorem ak_at (r : Fin 512) (e : Fin 256) :
    akG (iblk m c 0 t) (iblk m c 3 t) (X0_4 m c t) (iblk m c 6 t) (iblk m c 7 t) (iblk m c 8 t) (ix2 r e)
      = akAt (args m c) ⟨t.val / 8, by omega⟩ (tOf ⟨t.val % 8, by omega⟩ r) e :=
  head_at m c t ht _ 1 (V_kw m c) _ _ r _

theorem av_at (r : Fin 512) (ρ : Fin 288) :
    avG (iblk m c 0 t) (iblk m c 3 t) (X0_4 m c t) (ix4 0 0 ρ r) = avAt (args m c) ⟨t.val / 8, by omega⟩ (tOf ⟨t.val % 8, by omega⟩ r) ρ := by
  show avRow _ _ _ ρ r = _
  unfold avRow avAt
  by_cases h : ρ.val % 144 < 128
  · rw [dif_pos h, dif_pos h]
    exact prodA_at m c t ht r _
  · rw [dif_neg h, dif_neg h]

theorem mq_at (r j : Fin 512) :
    mqG (iblk m c 0 t) (iblk m c 3 t) (iblk m c 5 t) (ix2 r j) = mqAt (args m c) ⟨t.val / 8, by omega⟩ (tOf ⟨t.val % 8, by omega⟩ r) j := by
  unfold mqG mqAt
  rw [scale_eq]
  exact congrArg (· * (((Real.sqrt 128)⁻¹ : ℝ) : EReal)) (prodB_rest m c t ht r ⟨j.val, by omega⟩)

theorem z_at (r : Fin 512) (j : Fin 2048) :
    zG (iblk m c 0 t) (iblk m c 3 t) (iblk m c 5 t) (ix2 r j) = zAt (args m c) ⟨t.val / 8, by omega⟩ (tOf ⟨t.val % 8, by omega⟩ r) j := by
  unfold zG zAt
  have e : (⟨768 + j.val, by omega⟩ : Fin 2816) = ⟨256 + (512 + j.val), by omega⟩ := Fin.ext (by show 768 + j.val = 256 + (512 + j.val); omega)
  have e' : (⟨3600 + j.val, by omega⟩ : Fin 5648) = ⟨3088 + (512 + j.val), by omega⟩ := Fin.ext (by show 3600 + j.val = 3088 + (512 + j.val); omega)
  rw [e']
  exact (congrArg (prodB (iblk m c 0 t) (iblk m c 3 t) (iblk m c 5 t) r) e).trans (prodB_rest m c t ht r ⟨512 + j.val, by omega⟩)

theorem gate_at (r : Fin 512) (n : Fin 2) (q : Fin 128) :
    gateG (iblk m c 0 t) (iblk m c 3 t) (iblk m c 5 t) (iblk m c 10 t) (iblk m c 11 t) (ix2 r ⟨n.val * 128 + q.val, by omega⟩)
      = gateAt (args m c) ⟨t.val / 8, by omega⟩ (tOf ⟨t.val % 8, by omega⟩ r) n q := by
  unfold gateG gateAt
  show gate _ _ _ _ _ r ⟨n.val * 128 + q.val, _⟩ = _
  unfold gate
  have e : (n.val * 128 + q.val) % 128 = q.val := by omega
  simp only [e]
  by_cases h : q.val < 4
  · rw [if_pos h, dif_pos h]
    have h0 := prodB_decay m c t ht r n ⟨q.val, by omega⟩ h
    have h1 := blk_al m c t n ⟨q.val, h⟩
    have h2 := blk_dt m c t n ⟨q.val, h⟩
    exact congr (congr (congrArg decay h0) h1) h2
  · rw [if_neg h, dif_neg h]
    by_cases h' : q.val < 8
    · rw [if_pos h', dif_pos h']
      exact congrArg Ideal.logistic (prodB_strength m c t ht r n ⟨q.val, h'⟩ h)
    · rw [if_neg h', dif_neg h']

/-! ## The convolution -/

/-- The products of a row of the block, or of a neighbour of the block inside its sequence, and zero outside. -/
theorem edge_at (a b : BitVec 1) (ha : a = if t.val % 8 = 0 then 1#1 else 0#1) (hb : b = if t.val % 8 = 7 then 1#1 else 0#1) (ρ : Fin 544) (h : 14 ≤ ρ.val ∧ ρ.val < 530) (j : Fin 1536) :
    edge a b (iblk m c 0 t) (iblk m c 1 t) (iblk m c 2 t) (iblk m c 3 t) (X0_4 m c t) ρ j = Proj.ext (args m c) ⟨t.val / 8, by omega⟩ (t.val % 8 * 512 + ρ.val - 14) j := by
  have ha' : a = 1#1 ↔ t.val % 8 = 0 := by rw [ha]; split <;> simp_all
  have hb' : b = 1#1 ↔ t.val % 8 = 7 := by rw [hb]; split <;> simp_all
  unfold edge Proj.ext
  by_cases hz : (ρ.val < 16 ∧ a = 1#1) ∨ (528 ≤ ρ.val ∧ b = 1#1)
  · rw [if_pos hz, dif_neg]
    rw [ha', hb'] at hz
    omega
  · rw [if_neg hz]
    rw [ha', hb'] at hz
    rw [dif_pos (by omega)]
    unfold prodE P
    have hx : (extRow (iblk m c 0 t) (iblk m c 1 t) (iblk m c 2 t) ρ : Fin 1024 → EReal)
        = fun k => (args m c).x (ix3 ⟨t.val / 8, by omega⟩ ⟨t.val % 8 * 512 + ρ.val - 14 - 2, by omega⟩ k) := by
      funext k
      unfold extRow
      split
      · rename_i h1
        refine (blk_before m c t ht (by omega) ⟨ρ.val, h1⟩ k).trans (congrArg (args m c).x (congrArg (ix3 _ · k) (Fin.ext ?_)))
        show t.val % 8 * 512 + ρ.val - 16 = t.val % 8 * 512 + ρ.val - 14 - 2
        omega
      · split
        · rename_i h1 h2
          refine (blk_x m c t ht ⟨ρ.val - 16, h2⟩ k).trans (congrArg (args m c).x (congrArg (ix3 _ · k) (Fin.ext ?_)))
          show t.val % 8 * 512 + (ρ.val - 16) = t.val % 8 * 512 + ρ.val - 14 - 2
          omega
        · rename_i h1 h2
          refine (blk_after m c t ht (by omega) ⟨ρ.val - 16 - 512, by omega⟩ k).trans (congrArg (args m c).x (congrArg (ix3 _ · k) (Fin.ext ?_)))
          show t.val % 8 * 512 + 512 + (ρ.val - 16 - 512) = t.val % 8 * 512 + ρ.val - 14 - 2
          omega
    exact congr (congr (congrArg prod hx) (funext fun k => blk_nw m c t k)) (funext fun k => blk_w m c t k _)

/-- The convolution of a row of the block. -/
theorem conv_at (a b : BitVec 1) (ha : a = if t.val % 8 = 0 then 1#1 else 0#1) (hb : b = if t.val % 8 = 7 then 1#1 else 0#1) (r : Fin 512) (j : Fin 1536) :
    conv a b (iblk m c 0 t) (iblk m c 1 t) (iblk m c 2 t) (iblk m c 3 t) (X0_4 m c t) (iblk m c 9 t) r j
      = convAt (args m c) ⟨t.val / 8, by omega⟩ (tOf ⟨t.val % 8, by omega⟩ r) j := by
  have hs : ∀ (k : Fin 5), edge a b (iblk m c 0 t) (iblk m c 1 t) (iblk m c 2 t) (iblk m c 3 t) (X0_4 m c t) ⟨r.val + 14 + k.val, by omega⟩ j
      = Proj.ext (args m c) ⟨t.val / 8, by omega⟩ ((tOf ⟨t.val % 8, by omega⟩ r).val + k.val) j := fun k => by
    refine (edge_at m c t ht a b ha hb ⟨r.val + 14 + k.val, by omega⟩ (by show 14 ≤ r.val + 14 + k.val ∧ r.val + 14 + k.val < 530; omega) j).trans (congrArg (Proj.ext (args m c) _ · j) ?_)
    show t.val % 8 * 512 + (r.val + 14 + k.val) - 14 = t.val % 8 * 512 + r.val + k.val
    omega
  have hw : ∀ (k : Fin 5), iblk (F := Ideal) m c 9 t (ix2 (⟨k.val, by omega⟩ : Fin 8) j) = (args m c).cw (ix3 0 k j) := fun k => blk_cw m c t k j
  have e : ∀ (k : Fin 5), edge a b (iblk m c 0 t) (iblk m c 1 t) (iblk m c 2 t) (iblk m c 3 t) (X0_4 m c t) ⟨r.val + 14 + k.val, by omega⟩ j * iblk (F := Ideal) m c 9 t (ix2 (⟨k.val, by omega⟩ : Fin 8) j)
      = Proj.ext (args m c) ⟨t.val / 8, by omega⟩ ((tOf ⟨t.val % 8, by omega⟩ r).val + k.val) j * (args m c).cw (ix3 0 k j) := fun k => congr (congrArg HMul.hMul (hs k)) (hw k)
  unfold conv convAt taps
  exact congrArg silu (congr (congrArg HAdd.hAdd (congr (congrArg HAdd.hAdd (congr (congrArg HAdd.hAdd (congr (congrArg HAdd.hAdd (e 0)) (e 1))) (e 2))) (e 3))) (e 4))

theorem qkv_at (a b : BitVec 1) (ha : a = if t.val % 8 = 0 then 1#1 else 0#1) (hb : b = if t.val % 8 = 7 then 1#1 else 0#1) (r : Fin 512) (j : Fin 1536) :
    qkvG a b (iblk m c 0 t) (iblk m c 1 t) (iblk m c 2 t) (iblk m c 3 t) (X0_4 m c t) (iblk m c 9 t) (ix2 r j)
      = qkvAt (args m c) ⟨t.val / 8, by omega⟩ (tOf ⟨t.val % 8, by omega⟩ r) j := by
  have hc := conv_at m c t ht a b ha hb r
  have hu : unit a b (iblk m c 0 t) (iblk m c 1 t) (iblk m c 2 t) (iblk m c 3 t) (X0_4 m c t) (iblk m c 9 t) r j = unitAt (args m c) ⟨t.val / 8, by omega⟩ (tOf ⟨t.val % 8, by omega⟩ r) j := by
    unfold unit unitAt
    exact congr (congrArg HMul.hMul (hc j)) (congrArg invLen (funext fun d => hc _))
  unfold qkvG qkvAt
  rw [scale_eq]
  show (if j.val < 512 then unit _ _ _ _ _ _ _ _ r j * _ else if j.val < 1024 then unit _ _ _ _ _ _ _ _ r j else conv _ _ _ _ _ _ _ _ r j) = _
  rw [hu, hc j]

end point

/-! ## The arrays -/

/-- The batch of a row of a point's block. -/
theorem bOf_tile (t : Fin cfg0.N) (ht : t.val < 64) (r : Fin 512) : bOf ⟨t.val * 512 + r.val, by omega⟩ = ⟨t.val / 8, by omega⟩ :=
  Fin.ext (by show (t.val * 512 + r.val) / 4096 = t.val / 8; omega)

/-- The token of a row of a point's block. -/
theorem rOf_tile (t : Fin cfg0.N) (ht : t.val < 64) (r : Fin 512) : rOf ⟨t.val * 512 + r.val, by omega⟩ = tOf ⟨t.val % 8, by omega⟩ r :=
  Fin.ext (by show (t.val * 512 + r.val) % 4096 = t.val % 8 * 512 + r.val; omega)

theorem aq_eq : (dats m 0 c).arrAt 12 cfg0.N = Proj.aq (args m c) := by
  refine (dats m 0 c).arrAt_eq_of_covers 12 _ (by decide +kernel) fun t hf y => ?_
  blk_simp
  rw [after0_12]
  have ht : t.val < 64 := t.isLt
  obtain ⟨e, r, rfl⟩ : ∃ (e : Fin 1024) (r : Fin 512), y = ix4 (0 : Fin 1) (0 : Fin 1) e r := ⟨y 2, y 3, (eq_ix4 y).trans (congrArg₂ (ix4 · · _ _) (Subsingleton.elim _ _) (Subsingleton.elim _ _))⟩
  refine (aq_block m c t _).trans ((aq_at m c t ht r e).trans ?_)
  rw [show (win0_12.blk t).view.emb (ix4 (0 : Fin 1) (0 : Fin 1) e r) = (ix4 ⟨t.val / 8, by omega⟩ ⟨t.val % 8, by omega⟩ e r : S8x8x1024x512.Idx) by blk_ext [idx t]]
  rfl

theorem ak_eq : (dats m 0 c).arrAt 13 cfg0.N = Proj.ak (args m c) := by
  refine (dats m 0 c).arrAt_eq_of_covers 13 _ (by decide +kernel) fun t hf y => ?_
  blk_simp
  rw [after0_13]
  have ht : t.val < 64 := t.isLt
  obtain ⟨r, e, rfl⟩ : ∃ (r : Fin 512) (e : Fin 256), y = ix2 r e := ⟨y 0, y 1, eq_ix2 y⟩
  refine (ak_block m c t _).trans ((ak_at m c t ht r e).trans ?_)
  rw [show (win0_13.blk t).view.emb (ix2 r e) = (ix2 ⟨t.val * 512 + r.val, by omega⟩ e : S32768x256.Idx) by blk_ext [idx t]]
  show _ = akAt (args m c) (bOf ⟨t.val * 512 + r.val, _⟩) (rOf ⟨t.val * 512 + r.val, _⟩) e
  rw [bOf_tile t ht, rOf_tile t ht]

theorem av_eq : (dats m 0 c).arrAt 14 cfg0.N = Proj.av (args m c) := by
  refine (dats m 0 c).arrAt_eq_of_covers 14 _ (by decide +kernel) fun t hf y => ?_
  blk_simp
  rw [after0_14]
  have ht : t.val < 64 := t.isLt
  obtain ⟨e, r, rfl⟩ : ∃ (e : Fin 288) (r : Fin 512), y = ix4 (0 : Fin 1) (0 : Fin 1) e r := ⟨y 2, y 3, (eq_ix4 y).trans (congrArg₂ (ix4 · · _ _) (Subsingleton.elim _ _) (Subsingleton.elim _ _))⟩
  refine (av_block m c t _).trans ((av_at m c t ht r e).trans ?_)
  rw [show (win0_14.blk t).view.emb (ix4 (0 : Fin 1) (0 : Fin 1) e r) = (ix4 ⟨t.val / 8, by omega⟩ ⟨t.val % 8, by omega⟩ e r : S8x8x288x512.Idx) by blk_ext [idx t]]
  rfl

theorem qkv_eq : (dats m 0 c).arrAt 15 cfg0.N = Proj.qkv (args m c) := by
  refine (dats m 0 c).arrAt_eq_of_covers 15 _ (by decide +kernel) fun t hf y => ?_
  blk_simp
  rw [after0_15]
  have ht : t.val < 64 := t.isLt
  obtain ⟨r, e, rfl⟩ : ∃ (r : Fin 512) (e : Fin 1536), y = ix2 r e := ⟨y 0, y 1, eq_ix2 y⟩
  refine (qkv_block m c t _).trans ((qkv_at m c t ht _ _ (first_bit t) (last_bit t) r e).trans ?_)
  rw [show (win0_15.blk t).view.emb (ix2 r e) = (ix2 ⟨t.val * 512 + r.val, by omega⟩ e : S32768x1536.Idx) by blk_ext [idx t]]
  show _ = qkvAt (args m c) (bOf ⟨t.val * 512 + r.val, _⟩) (rOf ⟨t.val * 512 + r.val, _⟩) e
  rw [bOf_tile t ht, rOf_tile t ht]

theorem gates_eq : (dats m 0 c).arrAt 16 cfg0.N = Proj.gates (args m c) := by
  refine (dats m 0 c).arrAt_eq_of_covers 16 _ (by decide +kernel) fun t hf y => ?_
  blk_simp
  rw [after0_16]
  have ht : t.val < 64 := t.isLt
  obtain ⟨r, e, rfl⟩ : ∃ (r : Fin 512) (e : Fin 256), y = ix2 r e := ⟨y 0, y 1, eq_ix2 y⟩
  obtain ⟨n, q, rfl⟩ : ∃ (n : Fin 2) (q : Fin 128), e = ⟨n.val * 128 + q.val, by omega⟩ :=
    ⟨⟨e.val / 128, by omega⟩, ⟨e.val % 128, by omega⟩, Fin.ext (by show e.val = e.val / 128 * 128 + e.val % 128; omega)⟩
  refine (gate_block m c t _).trans ((gate_at m c t ht r n q).trans ?_)
  rw [show (win0_16.blk t).view.emb (ix2 r ⟨n.val * 128 + q.val, by omega⟩) = (ix2 ⟨t.val * 512 + r.val, by omega⟩ ⟨n.val * 128 + q.val, by omega⟩ : S32768x256.Idx) by blk_ext [idx t]]
  show _ = gateAt (args m c) (bOf ⟨t.val * 512 + r.val, _⟩) (rOf ⟨t.val * 512 + r.val, _⟩) ⟨(n.val * 128 + q.val) / 128, _⟩ ⟨(n.val * 128 + q.val) % 128, _⟩
  rw [bOf_tile t ht, rOf_tile t ht]
  exact congrArg₂ (gateAt (args m c) _ _) (Fin.ext (by show n.val = (n.val * 128 + q.val) / 128; omega)) (Fin.ext (by show q.val = (n.val * 128 + q.val) % 128; omega))

theorem mq_eq : (dats m 0 c).arrAt 17 cfg0.N = Proj.mq (args m c) := by
  refine (dats m 0 c).arrAt_eq_of_covers 17 _ (by decide +kernel) fun t hf y => ?_
  blk_simp
  rw [after0_17]
  have ht : t.val < 64 := t.isLt
  obtain ⟨r, e, rfl⟩ : ∃ (r : Fin 512) (e : Fin 512), y = ix2 r e := ⟨y 0, y 1, eq_ix2 y⟩
  refine (mq_block m c t _).trans ((mq_at m c t ht r e).trans ?_)
  rw [show (win0_17.blk t).view.emb (ix2 r e) = (ix2 ⟨t.val * 512 + r.val, by omega⟩ e : S32768x512.Idx) by blk_ext [idx t]]
  show _ = mqAt (args m c) (bOf ⟨t.val * 512 + r.val, _⟩) (rOf ⟨t.val * 512 + r.val, _⟩) e
  rw [bOf_tile t ht, rOf_tile t ht]

theorem z_eq : (dats m 0 c).arrAt 18 cfg0.N = Proj.z (args m c) := by
  refine (dats m 0 c).arrAt_eq_of_covers 18 _ (by decide +kernel) fun t hf y => ?_
  blk_simp
  rw [after0_18]
  have ht : t.val < 64 := t.isLt
  obtain ⟨r, e, rfl⟩ : ∃ (r : Fin 512) (e : Fin 2048), y = ix2 r e := ⟨y 0, y 1, eq_ix2 y⟩
  refine (z_block m c t _).trans ((z_at m c t ht r e).trans ?_)
  rw [show (win0_18.blk t).view.emb (ix2 r e) = (ix2 ⟨t.val * 512 + r.val, by omega⟩ e : S32768x2048.Idx) by blk_ext [idx t]]
  show _ = zAt (args m c) (bOf ⟨t.val * 512 + r.val, _⟩) (rOf ⟨t.val * 512 + r.val, _⟩) e
  rw [bOf_tile t ht, rOf_tile t ht]

omit c in
/-- Every execution ends with the seven results in their arrays and the arguments as they were. -/
theorem run_value (ρ : Dev nD → PrngReg) :
    θ_run defs (onTc (τ := τ) (main (F := Ideal))) ⟨m, fun _ => 0, ρ⟩ (fun r => ∀ c : Dev nD,
      r.2.mem ((c.tc : Thread nD τ).loc main_v73_0) = Proj.aq (args m c)
      ∧ r.2.mem ((c.tc : Thread nD τ).loc main_v73_1) = Proj.ak (args m c)
      ∧ r.2.mem ((c.tc : Thread nD τ).loc main_v73_2) = Proj.av (args m c)
      ∧ r.2.mem ((c.tc : Thread nD τ).loc main_v73_3) = Proj.qkv (args m c)
      ∧ r.2.mem ((c.tc : Thread nD τ).loc main_v73_4) = Proj.gates (args m c)
      ∧ r.2.mem ((c.tc : Thread nD τ).loc main_v73_5) = Proj.mq (args m c)
      ∧ r.2.mem ((c.tc : Thread nD τ).loc main_v73_6) = Proj.z (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ hr c => by
    obtain ⟨h0, h1, h2, h3, h4, h5, h6, h⟩ := hr c
    exact ⟨h0.trans (aq_eq m c), h1.trans (ak_eq m c), h2.trans (av_eq m c), h3.trans (qkv_eq m c), h4.trans (gates_eq m c), h5.trans (mq_eq m c), h6.trans (z_eq m c), h⟩)
    (Value.run_blocks m ρ)

end Cert.Kernel4Ideal

end
-- ==== Proof.ProjRef.lean ====
/- The reference's projection, heads and angles, of its arguments. -/
module

public import proofs.«01_k».proof.Proof.ProjArgs
public import proofs.«01_k».proof.Proof.Gen.Reference4Ideal
public import proofs.«01_k».proof.Proof.Gen.Reference4Ideal.Run

@[expose] public section

set_option maxRecDepth 16384

noncomputable section

namespace Cert.Reference4Ideal

open Cert.Reference4Ideal.Gen Cert.Reference4Ideal.Value Idealize.ShloMosaic Idealize.ShloMosaic.TcCoe Idealize.SL.Sem Proj Norm
open scoped BigOperators

/-- The buffers hold the arguments. -/
structure Holds (V0 : Valuation τ sig (Elt Ideal)) (A : Args) : Prop where
  x : V0 (Proc.devRef .tc main_arg0) = A.x
  nw : V0 (Proc.devRef .tc main_arg1) = A.nw
  w : V0 (Proc.devRef .tc main_arg2) = A.w
  qw : V0 (Proc.devRef .tc main_arg3) = A.qw
  kw : V0 (Proc.devRef .tc main_arg4) = A.kw
  cw : V0 (Proc.devRef .tc main_arg5) = A.cw
  al : V0 (Proc.devRef .tc main_arg6) = A.al
  dt : V0 (Proc.devRef .tc main_arg7) = A.dt

variable {V0 : Valuation τ sig (Elt Ideal)} {A : Args} (hV : Holds V0 A)
include hV

/-- The projection. -/
theorem v15_at (b : Fin 8) (R : Fin 4096) (j : Fin 5648) : res_main_v15 V0 (ix3 b R j) = P A b R j := by
  unfold res_main_v15 P prod rowN invRms
  rw [hV.x, hV.nw, hV.w]
  pointwise

/-- The queries' heads. -/
theorem v51_at (b : Fin 8) (R : Fin 4096) (h : Fin 8) (d : Fin 128) : res_main_v51 V0 (ix4 b R h d) = P A b R ⟨h.val * 128 + d.val, by omega⟩ := by
  refine Eq.trans ?_ (v15_at hV b R ⟨h.val * 128 + d.val, by omega⟩)
  unfold res_main_v51
  pointwise

/-- The keys' heads. -/
theorem v116_at (b : Fin 8) (R : Fin 4096) (h : Fin 2) (d : Fin 128) : res_main_v116 V0 (ix4 b R h d) = P A b R ⟨1024 + h.val * 128 + d.val, by omega⟩ := by
  refine Eq.trans ?_ ((v15_at hV b R ⟨1024 + (h.val * 128 + d.val), by omega⟩).trans (congrArg (P A b R) (Fin.ext (Nat.add_assoc _ _ _).symm)))
  unfold res_main_v116
  pointwise

/-- The queries' heads, normed. -/
theorem v65_at (b : Fin 8) (R : Fin 4096) (h : Fin 8) (d : Fin 128) :
    res_main_v65 V0 (ix4 b R h d) = headN (fun i => P A b R ⟨h.val * 128 + i.val, by omega⟩) (fun i => A.qw (ix2 0 i)) d := by
  simp only [← v51_at hV]
  unfold res_main_v65 headN invRms
  rw [hV.qw]
  pointwise

/-- The keys' heads, normed. -/
theorem v130_at (b : Fin 8) (R : Fin 4096) (h : Fin 2) (d : Fin 128) :
    res_main_v130 V0 (ix4 b R h d) = headN (fun i => P A b R ⟨1024 + h.val * 128 + i.val, by omega⟩) (fun i => A.kw (ix2 0 i)) d := by
  simp only [← v116_at hV]
  unfold res_main_v130 headN invRms
  rw [hV.kw]
  pointwise

omit hV

variable (V0)

/-- The rows' angles. -/
theorem v44_eq : res_main_v44 V0 = angles rowIds := rfl

/-- The columns' angles. -/
theorem v50_eq : res_main_v50 V0 = angles colIds := rfl

/-- √128, of the pattern of 128. -/
theorem sqrt_128 : Ideal.sqrt (Ideal.ofBits .f32 0x43000000#32) = ((Real.sqrt 128 : ℝ) : EReal) := by
  have h : Ideal.ofBits .f32 0x43000000#32 = ((128 : ℝ) : EReal) := by
    simp [Ideal.ofBits, Ideal.ieee, -EReal.coe_mul]; norm_num
  rw [h, Ideal.sqrt_coe, if_neg (by norm_num)]

/-- The logarithm of 2, of the pattern of 2. -/
theorem log_2 : Ideal.log (Ideal.ofBits .f32 0x40000000#32) = ((Real.log 2 : ℝ) : EReal) := by
  have h : Ideal.ofBits .f32 0x40000000#32 = ((2 : ℝ) : EReal) := by
    simp [Ideal.ofBits, Ideal.ieee, -EReal.coe_mul]; norm_num
  rw [h, Ideal.log_coe, if_neg (by norm_num)]

/-- A quotient by √128. -/
theorem div_sqrt (x : EReal) : Ideal.div x (Ideal.sqrt (Ideal.ofBits .f32 0x43000000#32)) = x * (((Real.sqrt 128)⁻¹ : ℝ) : EReal) := by
  rw [sqrt_128, Ideal.div_coe (Real.sqrt_pos.2 (by norm_num)).ne', one_div]

/-- A quotient by √128 times the logarithm of 2. -/
theorem div_sqrt_log (x : EReal) : Ideal.div x (Ideal.sqrt (Ideal.ofBits .f32 0x43000000#32) * Ideal.log (Ideal.ofBits .f32 0x40000000#32))
    = x * (((Real.sqrt 128 * Real.log 2)⁻¹ : ℝ) : EReal) := by
  rw [sqrt_128, log_2, ← EReal.coe_mul, Ideal.div_coe (mul_pos (Real.sqrt_pos.2 (by norm_num)) (Real.log_pos (by norm_num))).ne', one_div]

end Cert.Reference4Ideal

end
-- ==== Proof.ProjRefHeads.lean ====
/- The reference's queries and keys of the attention, of its arguments. -/
module

public import proofs.«01_k».proof.Proof.ProjRef

@[expose] public section

set_option maxRecDepth 16384

noncomputable section

namespace Cert.Reference4Ideal

open Cert.Reference4Ideal.Gen Cert.Reference4Ideal.Value Idealize.ShloMosaic Idealize.ShloMosaic.TcCoe Idealize.SL.Sem Proj Norm
open scoped BigOperators

/-- Equal coordinates of equal angles. -/
theorem term (N : Fin 128 → EReal) (C : Fin 32 → EReal) {k k' : Fin 128} {l l' : Fin 32} (hk : k = k') (hl : l = l') : N k * C l = N k' * C l' := by rw [hk, hl]

/-- Four quarters, each pair of quarters rotated by its cosines and sines. -/
def rotated (x0 x1 x2 x3 c0 s0 c1 s1 : Fin 32 → EReal) (d : Fin 128) : EReal :=
  if h : d.val < 64 then
    if h1 : d.val < 32 then x0 ⟨d.val, by omega⟩ * c0 ⟨d.val, by omega⟩ - x1 ⟨d.val, by omega⟩ * s0 ⟨d.val, by omega⟩
    else x1 ⟨d.val - 32, by omega⟩ * c0 ⟨d.val - 32, by omega⟩ + x0 ⟨d.val - 32, by omega⟩ * s0 ⟨d.val - 32, by omega⟩
  else
    if h1 : d.val - 64 < 32 then x2 ⟨d.val - 64, by omega⟩ * c1 ⟨d.val - 64, by omega⟩ - x3 ⟨d.val - 64, by omega⟩ * s1 ⟨d.val - 64, by omega⟩
    else x3 ⟨d.val - 64 - 32, by omega⟩ * c1 ⟨d.val - 64 - 32, by omega⟩ + x2 ⟨d.val - 64 - 32, by omega⟩ * s1 ⟨d.val - 64 - 32, by omega⟩

/-- The quarters of a normed head, rotated by a token's angles, are the rotated head. -/
theorem quarters (y q : Fin 128 → EReal) (R : Fin 4096) (d : Fin 128) :
    rotated (fun k => headN y q ⟨k.val, by omega⟩) (fun k => headN y q ⟨32 + k.val, by omega⟩) (fun k => headN y q ⟨64 + k.val, by omega⟩) (fun k => headN y q ⟨64 + (32 + k.val), by omega⟩)
      (fun k => Host.cos (angles rowIds) (ix2 R k)) (fun k => Host.sin (angles rowIds) (ix2 R k)) (fun k => Host.cos (angles colIds) (ix2 R k)) (fun k => Host.sin (angles colIds) (ix2 R k)) d
      = headR y q (cosAt R) (ssinAt R) d := by
  unfold rotated headR ssinAt sinAt cosAt pair
  by_cases h : d.val < 64 <;> by_cases h1 : d.val % 64 < 32
  · rw [dif_pos h, dif_pos (by omega), if_pos h1, if_pos h1, if_pos h, if_pos h, mul_neg, ← sub_eq_add_neg]
    refine congrArg₂ (· - ·) (term _ (fun l => Host.cos (angles rowIds) (ix2 R l)) ?_ ?_) (term _ (fun l => Host.sin (angles rowIds) (ix2 R l)) ?_ ?_) <;> simp only [Fin.ext_iff] <;> omega
  · rw [dif_pos h, dif_neg (by omega), if_neg h1, if_neg h1, if_pos h, if_pos h]
    refine congrArg₂ (· + ·) (term _ (fun l => Host.cos (angles rowIds) (ix2 R l)) ?_ ?_) (term _ (fun l => Host.sin (angles rowIds) (ix2 R l)) ?_ ?_) <;> simp only [Fin.ext_iff] <;> omega
  · rw [dif_neg h, dif_pos (by omega), if_pos h1, if_pos h1, if_neg h, if_neg h, mul_neg, ← sub_eq_add_neg]
    refine congrArg₂ (· - ·) (term _ (fun l => Host.cos (angles colIds) (ix2 R l)) ?_ ?_) (term _ (fun l => Host.sin (angles colIds) (ix2 R l)) ?_ ?_) <;> simp only [Fin.ext_iff] <;> omega
  · rw [dif_neg h, dif_neg (by omega), if_neg h1, if_neg h1, if_neg h, if_neg h]
    refine congrArg₂ (· + ·) (term _ (fun l => Host.cos (angles colIds) (ix2 R l)) ?_ ?_) (term _ (fun l => Host.sin (angles colIds) (ix2 R l)) ?_ ?_) <;> simp only [Fin.ext_iff] <;> omega

section angles

variable (V0 : Valuation τ sig (Elt Ideal))

theorem v69_at (R : Fin 4096) (k : Fin 32) : res_main_v69 V0 (ix3 R 0 k) = Host.cos (angles rowIds) (ix2 R k) := by
  unfold res_main_v69
  rw [v44_eq]
  pointwise

theorem v71_at (R : Fin 4096) (k : Fin 32) : res_main_v71 V0 (ix3 R 0 k) = Host.sin (angles rowIds) (ix2 R k) := by
  unfold res_main_v71
  rw [v44_eq]
  pointwise

theorem v90_at (R : Fin 4096) (k : Fin 32) : res_main_v90 V0 (ix3 R 0 k) = Host.cos (angles colIds) (ix2 R k) := by
  unfold res_main_v90
  rw [v50_eq]
  pointwise

theorem v92_at (R : Fin 4096) (k : Fin 32) : res_main_v92 V0 (ix3 R 0 k) = Host.sin (angles colIds) (ix2 R k) := by
  unfold res_main_v92
  rw [v50_eq]
  pointwise

theorem v134_at (R : Fin 4096) (k : Fin 32) : res_main_v134 V0 (ix3 R 0 k) = Host.cos (angles rowIds) (ix2 R k) := by
  unfold res_main_v134
  rw [v44_eq]
  pointwise

theorem v136_at (R : Fin 4096) (k : Fin 32) : res_main_v136 V0 (ix3 R 0 k) = Host.sin (angles rowIds) (ix2 R k) := by
  unfold res_main_v136
  rw [v44_eq]
  pointwise

theorem v155_at (R : Fin 4096) (k : Fin 32) : res_main_v155 V0 (ix3 R 0 k) = Host.cos (angles colIds) (ix2 R k) := by
  unfold res_main_v155
  rw [v50_eq]
  pointwise

theorem v157_at (R : Fin 4096) (k : Fin 32) : res_main_v157 V0 (ix3 R 0 k) = Host.sin (angles colIds) (ix2 R k) := by
  unfold res_main_v157
  rw [v50_eq]
  pointwise

end angles

variable {V0 : Valuation τ sig (Elt Ideal)} {A : Args} (hV : Holds V0 A)
include hV

theorem v72_at (b : Fin 8) (R : Fin 4096) (h : Fin 8) (k : Fin 32) :
    res_main_v72 V0 (ix4 b R h k) = headN (fun i => P A b R ⟨h.val * 128 + i.val, by omega⟩) (fun i => A.qw (ix2 0 i)) ⟨k.val, by omega⟩ := by
  refine Eq.trans ?_ (v65_at hV b R h ⟨k.val, by omega⟩)
  unfold res_main_v72 res_main_v66
  pointwise

theorem v73_at (b : Fin 8) (R : Fin 4096) (h : Fin 8) (k : Fin 32) :
    res_main_v73 V0 (ix4 b R h k) = headN (fun i => P A b R ⟨h.val * 128 + i.val, by omega⟩) (fun i => A.qw (ix2 0 i)) ⟨32 + k.val, by omega⟩ := by
  refine Eq.trans ?_ (v65_at hV b R h ⟨32 + k.val, by omega⟩)
  unfold res_main_v73 res_main_v66
  pointwise

theorem v93_at (b : Fin 8) (R : Fin 4096) (h : Fin 8) (k : Fin 32) :
    res_main_v93 V0 (ix4 b R h k) = headN (fun i => P A b R ⟨h.val * 128 + i.val, by omega⟩) (fun i => A.qw (ix2 0 i)) ⟨64 + k.val, by omega⟩ := by
  refine Eq.trans ?_ (v65_at hV b R h ⟨64 + k.val, by omega⟩)
  unfold res_main_v93 res_main_v67
  pointwise

theorem v94_at (b : Fin 8) (R : Fin 4096) (h : Fin 8) (k : Fin 32) :
    res_main_v94 V0 (ix4 b R h k) = headN (fun i => P A b R ⟨h.val * 128 + i.val, by omega⟩) (fun i => A.qw (ix2 0 i)) ⟨64 + (32 + k.val), by omega⟩ := by
  refine Eq.trans ?_ (v65_at hV b R h ⟨64 + (32 + k.val), by omega⟩)
  unfold res_main_v94 res_main_v67
  pointwise

theorem v137_at (b : Fin 8) (R : Fin 4096) (h : Fin 2) (k : Fin 32) :
    res_main_v137 V0 (ix4 b R h k) = headN (fun i => P A b R ⟨1024 + h.val * 128 + i.val, by omega⟩) (fun i => A.kw (ix2 0 i)) ⟨k.val, by omega⟩ := by
  refine Eq.trans ?_ (v130_at hV b R h ⟨k.val, by omega⟩)
  unfold res_main_v137 res_main_v131
  pointwise

theorem v138_at (b : Fin 8) (R : Fin 4096) (h : Fin 2) (k : Fin 32) :
    res_main_v138 V0 (ix4 b R h k) = headN (fun i => P A b R ⟨1024 + h.val * 128 + i.val, by omega⟩) (fun i => A.kw (ix2 0 i)) ⟨32 + k.val, by omega⟩ := by
  refine Eq.trans ?_ (v130_at hV b R h ⟨32 + k.val, by omega⟩)
  unfold res_main_v138 res_main_v131
  pointwise

theorem v158_at (b : Fin 8) (R : Fin 4096) (h : Fin 2) (k : Fin 32) :
    res_main_v158 V0 (ix4 b R h k) = headN (fun i => P A b R ⟨1024 + h.val * 128 + i.val, by omega⟩) (fun i => A.kw (ix2 0 i)) ⟨64 + k.val, by omega⟩ := by
  refine Eq.trans ?_ (v130_at hV b R h ⟨64 + k.val, by omega⟩)
  unfold res_main_v158 res_main_v132
  pointwise

theorem v159_at (b : Fin 8) (R : Fin 4096) (h : Fin 2) (k : Fin 32) :
    res_main_v159 V0 (ix4 b R h k) = headN (fun i => P A b R ⟨1024 + h.val * 128 + i.val, by omega⟩) (fun i => A.kw (ix2 0 i)) ⟨64 + (32 + k.val), by omega⟩ := by
  refine Eq.trans ?_ (v130_at hV b R h ⟨64 + (32 + k.val), by omega⟩)
  unfold res_main_v159 res_main_v132
  pointwise

/-- The attention's queries. -/
theorem aq_eq : val6 V0 (Proc.devRef .tc main_v271) = aq A := by
  refine (val6_main_v271 V0).trans ?_
  funext i
  obtain ⟨b, n, e, r, rfl⟩ : ∃ (b n : Fin 8) (e : Fin 1024) (r : Fin 512), i = ix4 b n e r := ⟨i 0, i 1, i 2, i 3, eq_ix4 i⟩
  show _ = aqAt A b (tOf n r) e
  have key : rotated (fun k => res_main_v72 V0 (ix4 b (tOf n r) (⟨e.val / 128, by omega⟩ : Fin 8) k)) (fun k => res_main_v73 V0 (ix4 b (tOf n r) (⟨e.val / 128, by omega⟩ : Fin 8) k))
      (fun k => res_main_v93 V0 (ix4 b (tOf n r) (⟨e.val / 128, by omega⟩ : Fin 8) k)) (fun k => res_main_v94 V0 (ix4 b (tOf n r) (⟨e.val / 128, by omega⟩ : Fin 8) k))
      (fun k => res_main_v69 V0 (ix3 (tOf n r) 0 k)) (fun k => res_main_v71 V0 (ix3 (tOf n r) 0 k)) (fun k => res_main_v90 V0 (ix3 (tOf n r) 0 k)) (fun k => res_main_v92 V0 (ix3 (tOf n r) 0 k)) ⟨e.val % 128, by omega⟩
      = headR (fun i => P A b (tOf n r) ⟨e.val / 128 * 128 + i.val, by omega⟩) (fun i => A.qw (ix2 0 i)) (cosAt ((tOf n r))) (ssinAt ((tOf n r))) ⟨e.val % 128, by omega⟩ := by
    simp only [v72_at hV, v73_at hV, v93_at hV, v94_at hV, v69_at, v71_at, v90_at, v92_at]
    exact quarters _ _ _ _
  pointwise
  exact (div_sqrt_log _).trans (congrArg (· * (((Real.sqrt 128 * Real.log 2)⁻¹ : ℝ) : EReal)) key)

/-- The attention's keys. -/
theorem ak_eq : val6 V0 (Proc.devRef .tc main_v273) = ak A := by
  refine (val6_main_v273 V0).trans ?_
  funext j
  obtain ⟨j, e, rfl⟩ : ∃ (l : Fin 32768) (e : Fin 256), j = ix2 l e := ⟨j 0, j 1, eq_ix2 j⟩
  show _ = akAt A (bOf j) (rOf j) e
  have key : rotated (fun k => res_main_v137 V0 (ix4 (bOf j) (rOf j) (⟨e.val / 128, by omega⟩ : Fin 2) k)) (fun k => res_main_v138 V0 (ix4 (bOf j) (rOf j) (⟨e.val / 128, by omega⟩ : Fin 2) k))
      (fun k => res_main_v158 V0 (ix4 (bOf j) (rOf j) (⟨e.val / 128, by omega⟩ : Fin 2) k)) (fun k => res_main_v159 V0 (ix4 (bOf j) (rOf j) (⟨e.val / 128, by omega⟩ : Fin 2) k))
      (fun k => res_main_v134 V0 (ix3 (rOf j) 0 k)) (fun k => res_main_v136 V0 (ix3 (rOf j) 0 k)) (fun k => res_main_v155 V0 (ix3 (rOf j) 0 k)) (fun k => res_main_v157 V0 (ix3 (rOf j) 0 k)) ⟨e.val % 128, by omega⟩
      = headR (fun i => P A (bOf j) (rOf j) ⟨1024 + e.val / 128 * 128 + i.val, by omega⟩) (fun i => A.kw (ix2 0 i)) (cosAt ((rOf j))) (ssinAt ((rOf j))) ⟨e.val % 128, by omega⟩ := by
    simp only [v137_at hV, v138_at hV, v158_at hV, v159_at hV, v134_at, v136_at, v155_at, v157_at]
    exact quarters _ _ _ _
  pointwise
  exact key

end Cert.Reference4Ideal

end
-- ==== Proof.ProjRefRest.lean ====
/- The reference's other results of the input projection, of its arguments. -/
module

public import proofs.«01_k».proof.Proof.ProjRef

@[expose] public section

set_option maxRecDepth 16384

noncomputable section

namespace Cert.Reference4Ideal

open Cert.Reference4Ideal.Gen Cert.Reference4Ideal.Value Idealize.ShloMosaic Idealize.ShloMosaic.TcCoe Idealize.SL.Sem Proj Norm
open scoped BigOperators

/-- The zero of the decays' softplus. -/
theorem cst_at (V0 : Valuation τ sig (Elt Ideal)) : res_main_call3_cst V0 ix0 = (0 : EReal) := by
  unfold res_main_call3_cst
  pointwise

/-- The decays' inputs less zero. -/
theorem v3_at (V0 : Valuation τ sig (Elt Ideal)) (b : Fin 8) (R : Fin 4096) (n : Fin 2) (q : Fin 4) : res_main_call3_v3 V0 (ix4 b R n q) = res_main_v250 V0 (ix4 b R n q) := by
  unfold res_main_call3_v3
  pointwise
  exact (congrArg (HSub.hSub (α := EReal) (β := EReal) (γ := EReal) (res_main_v250 V0 (ix4 b R n q))) (cst_at V0)).trans (sub_zero (G := EReal) _)

/-- Four decays, four strengths and zeros of each direction, in one row. -/
theorem lanes (x y : FVec Ideal S8x4096x2x4 .f32) (z : FVec Ideal S8x4096x2x120 .f32) (j : Fin 32768) (e : Fin 256) :
    shapeCast S32768x256 (concatenate S8x4096x2x128 3 [⟨S8x4096x2x4, x⟩, ⟨S8x4096x2x4, y⟩, ⟨S8x4096x2x120, z⟩] concatenates_S8x4096x2x4_S8x4096x2x4_S8x4096x2x120_S8x4096x2x128_d3)
        shapeCasts_S8x4096x2x128_S32768x256 (ix2 j e)
      = if h : e.val % 128 < 4 then x (ix4 (bOf j) (rOf j) (⟨e.val / 128, by omega⟩ : Fin 2) (⟨e.val % 128, h⟩ : Fin 4))
        else if h1 : e.val % 128 - 4 < 4 then y (ix4 (bOf j) (rOf j) (⟨e.val / 128, by omega⟩ : Fin 2) (⟨e.val % 128 - 4, h1⟩ : Fin 4))
        else z (ix4 (bOf j) (rOf j) (⟨e.val / 128, by omega⟩ : Fin 2) (⟨e.val % 128 - 4 - 4, by omega⟩ : Fin 120)) := by
  pointwise
  rfl

/-- The zeros. -/
theorem zeros_apply (i : S8x4096x2x120.Idx) : broadcastInDim S8x4096x2x120 ![] bcast_S_S8x4096x2x120 (constant (F := Ideal) S_ .f32 0x00000000#32) i = 0 := by
  obtain ⟨b, R, n, q, rfl⟩ : ∃ (b : Fin 8) (R : Fin 4096) (n : Fin 2) (q : Fin 120), i = ix4 b R n q := ⟨i 0, i 1, i 2, i 3, eq_ix4 i⟩
  pointwise

variable {V0 : Valuation τ sig (Elt Ideal)} {A : Args} (hV : Holds V0 A)
include hV

/-- The attention's values. -/
theorem av_eq : val6 V0 (Proc.devRef .tc main_v275) = av A := by
  refine (val6_main_v275 V0).trans ?_
  funext i
  obtain ⟨b, n, e, r, rfl⟩ : ∃ (b n : Fin 8) (e : Fin 288) (r : Fin 512), i = ix4 b n e r := ⟨i 0, i 1, i 2, i 3, eq_ix4 i⟩
  show _ = avAt A b (tOf n r) e
  pointwise
  simp only [v15_at hV]
  unfold avAt
  by_cases h : e.val % 144 < 128
  · rw [dif_pos h, dif_pos h]
    rfl
  · rw [dif_neg h, dif_neg h]
    by_cases h1 : e.val % 144 = 128
    · rw [dif_pos (by omega), if_pos h1]
    · rw [dif_neg (by omega), if_neg h1]

/-- The memory's queries. -/
theorem mq_eq : val6 V0 (Proc.devRef .tc main_v282) = mq A := by
  refine (val6_main_v282 V0).trans ?_
  funext j
  obtain ⟨j, e, rfl⟩ : ∃ (l : Fin 32768) (e : Fin 512), j = ix2 l e := ⟨j 0, j 1, eq_ix2 j⟩
  show _ = mqAt A (bOf j) (rOf j) e
  pointwise
  exact (div_sqrt _).trans (congrArg (· * (((Real.sqrt 128)⁻¹ : ℝ) : EReal)) (v15_at hV (bOf j) (rOf j) _))

/-- The gate of the heads. -/
theorem z_eq : val6 V0 (Proc.devRef .tc main_v284) = z A := by
  refine (val6_main_v284 V0).trans ?_
  funext j
  obtain ⟨j, e, rfl⟩ : ∃ (l : Fin 32768) (e : Fin 2048), j = ix2 l e := ⟨j 0, j 1, eq_ix2 j⟩
  show _ = zAt A (bOf j) (rOf j) e
  pointwise
  exact v15_at hV (bOf j) (rOf j) _

/-- The decays' inputs. -/
theorem v250_at (b : Fin 8) (R : Fin 4096) (n : Fin 2) (q : Fin 4) : res_main_v250 V0 (ix4 b R n q) = P A b R ⟨3072 + (n.val * 4 + q.val), by omega⟩ + A.dt (ix3 0 n q) := by
  rw [← v15_at hV]
  unfold res_main_v250
  rw [hV.dt]
  pointwise

/-- The decays. -/
theorem decays_at (b : Fin 8) (R : Fin 4096) (n : Fin 2) (q : Fin 4) :
    mulf (broadcastInDim S8x4096x2x4 ![0, 1, 2, 3] bcast_S1x1x2x4_S8x4096x2x4_0_1_2_3 (broadcastInDim S1x1x2x4 ![2, 3] bcast_S2x4_S1x1x2x4_2_3
        (Host.negf (Host.exp (shapeCast _ (V0 (Proc.devRef .tc main_arg6)) shapeCasts_S1x2x4_S2x4)))))
      (select (cmpf .une (res_main_call3_v3 V0) (res_main_call3_v3 V0)) (addf (res_main_v250 V0) (broadcastInDim S8x4096x2x4 ![] bcast_S_S8x4096x2x4 (res_main_call3_cst V0)))
        (addf (maximumf (res_main_v250 V0) (broadcastInDim S8x4096x2x4 ![] bcast_S_S8x4096x2x4 (res_main_call3_cst V0))) (Host.log1p (Host.exp (Host.negf (Host.absf (res_main_call3_v3 V0))))))) (ix4 b R n q)
      = decay (P A b R ⟨3072 + (n.val * 4 + q.val), by omega⟩) (A.al (ix3 0 n q)) (A.dt (ix3 0 n q)) := by
  rw [hV.al]
  unfold decay
  rw [← v250_at hV, zero_sub, zero_sub]
  pointwise
  simp only [v3_at, cst_at, ne_eq, not_true_eq_false, ↓reduceIte]

/-- The strengths. -/
theorem strengths_at (b : Fin 8) (R : Fin 4096) (n : Fin 2) (q : Fin 4) :
    Host.divf (broadcastInDim S8x4096x2x4 ![] bcast_S_S8x4096x2x4 (constant S_ .f32 0x3F800000#32)) (addf (broadcastInDim S8x4096x2x4 ![] bcast_S_S8x4096x2x4 (constant S_ .f32 0x3F800000#32))
        (Host.exp (Host.negf (shapeCast _ (extractStridedSlice S8x4096x8 ![0, 0, 3080] (res_main_v15 V0) slices_S8x4096x5648_S8x4096x8_0_0_3080) shapeCasts_S8x4096x8_S8x4096x2x4)))) (ix4 b R n q)
      = Ideal.logistic (P A b R ⟨3080 + (n.val * 4 + q.val), by omega⟩) := by
  rw [← v15_at hV]
  pointwise
  rfl

/-- The delta net's gates. -/
theorem gates_eq : val6 V0 (Proc.devRef .tc main_v277) = gates A := by
  refine (val6_main_v277 V0).trans ?_
  funext j
  obtain ⟨j, e, rfl⟩ : ∃ (l : Fin 32768) (e : Fin 256), j = ix2 l e := ⟨j 0, j 1, eq_ix2 j⟩
  show _ = gateAt A (bOf j) (rOf j) ⟨e.val / 128, _⟩ ⟨e.val % 128, _⟩
  refine (lanes _ _ _ j e).trans ?_
  unfold gateAt
  dsimp only
  by_cases h : e.val % 128 < 4
  · rw [dif_pos h, dif_pos h]
    exact decays_at hV _ _ _ _
  · rw [dif_neg h, dif_neg h]
    by_cases h1 : e.val % 128 < 8
    · rw [dif_pos (by omega), dif_pos h1]
      exact strengths_at hV _ _ _ _
    · rw [dif_neg (by omega), dif_neg h1]
      exact zeros_apply _

end Cert.Reference4Ideal

end
-- ==== Proof.ProjRefConv.lean ====
/- The reference's convolution and what the delta net takes of it, of its arguments. -/
module

public import proofs.«01_k».proof.Proof.ProjRef

@[expose] public section

set_option maxRecDepth 16384

noncomputable section

namespace Cert.Reference4Ideal

open Cert.Reference4Ideal.Gen Cert.Reference4Ideal.Value Idealize.ShloMosaic Idealize.ShloMosaic.TcCoe Idealize.SL.Sem Proj Norm
open scoped BigOperators

/-- Three arrays of 512 columns side by side. -/
theorem three (x y z : FVec Ideal S32768x512 .f32) (j : Fin 32768) (e : Fin 1536) :
    concatenate S32768x1536 1 [⟨S32768x512, x⟩, ⟨S32768x512, y⟩, ⟨S32768x512, z⟩] concatenates_S32768x512_S32768x512_S32768x512_S32768x1536_d1 (ix2 j e)
      = if h : e.val < 512 then x (ix2 j ⟨e.val, h⟩) else if h1 : e.val - 512 < 512 then y (ix2 j ⟨e.val - 512, h1⟩) else z (ix2 j ⟨e.val - 512 - 512, by omega⟩) := by
  pointwise

/-- Heads over their lengths. -/
def units (y : FVec Ideal S8x4096x4x128 .f32) : FVec Ideal S8x4096x4x128 .f32 :=
  mulf y (broadcastInDim S8x4096x4x128 ![0, 1, 2, 3] bcast_S8x4096x4x1_S8x4096x4x128_0_1_2_3 (Host.rsqrt (addf (broadcastInDim S8x4096x4x1 ![0, 1, 2] bcast_S8x4096x4_S8x4096x4x1_0_1_2
    (Host.reduceAdd (mulf y y) (constant S_ .f32 0x00000000#32) reducesTo_S8x4096x4x128_S8x4096x4_d3 h_S_)) (broadcastInDim S8x4096x4x1 ![] bcast_S_S8x4096x4x1 (constant S_ .f32 0x358637BD#32)))))

theorem units_apply (y : FVec Ideal S8x4096x4x128 .f32) (b : Fin 8) (R : Fin 4096) (h : Fin 4) (d : Fin 128) :
    units y (ix4 b R h d) = y (ix4 b R h d) * invLen (fun i => y (ix4 b R h i)) := by
  unfold units invLen
  pointwise

/-- The heads in one row. -/
theorem flat_apply (y : FVec Ideal S8x4096x4x128 .f32) (j : Fin 32768) (e : Fin 512) :
    shapeCast S32768x512 y shapeCasts_S8x4096x4x128_S32768x512 (ix2 j e) = y (ix4 (bOf j) (rOf j) (⟨e.val / 128, by omega⟩ : Fin 4) (⟨e.val % 128, by omega⟩ : Fin 128)) := by
  pointwise
  rfl

/-- The heads in one row, over √128. -/
theorem scaled_apply (y : FVec Ideal S8x4096x4x128 .f32) (b : Fin 8) (R : Fin 4096) (h : Fin 4) (d : Fin 128) :
    Host.divf y (broadcastInDim S8x4096x4x128 ![] bcast_S_S8x4096x4x128 (Host.sqrt (constant S_ .f32 0x43000000#32))) (ix4 b R h d)
      = y (ix4 b R h d) * (((Real.sqrt 128)⁻¹ : ℝ) : EReal) := by
  refine Eq.trans ?_ (div_sqrt _)
  pointwise

variable {V0 : Valuation τ sig (Elt Ideal)} {A : Args} (hV : Holds V0 A)
include hV

/-- The convolution's input, extended by zeros. -/
theorem v176_at (b : Fin 8) (ρ : Fin 4100) (j : Fin 1536) : res_main_v176 V0 (ix3 b ρ j) = Proj.ext A b ρ.val j := by
  unfold res_main_v176 Proj.ext
  simp only [← v15_at hV]
  pointwise
  by_cases h : 2 ≤ ρ.val ∧ ρ.val < 4098
  · rw [dif_pos ⟨h.1, by omega⟩, dif_pos h]
  · rw [dif_neg (by omega), dif_neg h]
    show ((((0#32 : BitVec 32).toInt : ℤ) : ℝ) : EReal) = 0
    simp

/-- The convolution, times its logistic. -/
theorem v213_at (b : Fin 8) (R : Fin 4096) (j : Fin 1536) : res_main_v213 V0 (ix3 b R j) = convAt A b R j := by
  unfold res_main_v213 res_main_v212
  rw [hV.cw]
  pointwise
  simp only [v176_at hV, Nat.add_comm _ R.val]
  rfl

/-- The queries' heads. -/
theorem v217_at (b : Fin 8) (R : Fin 4096) (h : Fin 4) (d : Fin 128) : res_main_v217 V0 (ix4 b R h d) = convAt A b R ⟨h.val * 128 + d.val, by omega⟩ := by
  refine Eq.trans ?_ (v213_at hV b R ⟨h.val * 128 + d.val, by omega⟩)
  unfold res_main_v217
  pointwise

/-- The keys' heads. -/
theorem v218_at (b : Fin 8) (R : Fin 4096) (h : Fin 4) (d : Fin 128) : res_main_v218 V0 (ix4 b R h d) = convAt A b R ⟨512 + (h.val * 128 + d.val), by omega⟩ := by
  refine Eq.trans ?_ (v213_at hV b R ⟨512 + (h.val * 128 + d.val), by omega⟩)
  unfold res_main_v218
  pointwise

/-- The values' heads. -/
theorem values_at (b : Fin 8) (R : Fin 4096) (h : Fin 4) (d : Fin 128) :
    shapeCast S8x4096x4x128 (extractStridedSlice S8x4096x512 ![0, 0, 1024] (res_main_v213 V0) slices_S8x4096x1536_S8x4096x512_0_0_1024) shapeCasts_S8x4096x512_S8x4096x4x128 (ix4 b R h d)
      = convAt A b R ⟨1024 + (h.val * 128 + d.val), by omega⟩ := by
  refine Eq.trans ?_ (v213_at hV b R ⟨1024 + (h.val * 128 + d.val), by omega⟩)
  pointwise

/-- The delta net's queries, keys and values. -/
theorem qkv_eq : val6 V0 (Proc.devRef .tc main_v276) = qkv A := by
  refine (val6_main_v276 V0).trans ?_
  funext j
  obtain ⟨j, e, rfl⟩ : ∃ (l : Fin 32768) (e : Fin 1536), j = ix2 l e := ⟨j 0, j 1, eq_ix2 j⟩
  show _ = qkvAt A (bOf j) (rOf j) e
  refine (three _ _ _ j e).trans ?_
  unfold qkvAt
  by_cases h : e.val < 512
  · rw [dif_pos h, if_pos h]
    refine (flat_apply _ j _).trans ((scaled_apply _ _ _ _ _).trans (congrArg (· * (((Real.sqrt 128)⁻¹ : ℝ) : EReal)) ?_))
    refine (units_apply (res_main_v217 V0) _ _ _ _).trans ?_
    simp only [v217_at hV]
    unfold unitAt
    refine congrArg₂ (· * ·) (congrArg (convAt A _ _) (Fin.ext ?_)) rfl
    show e.val / 128 * 128 + e.val % 128 = e.val
    omega
  · rw [dif_neg h, if_neg h]
    by_cases h1 : e.val < 1024
    · rw [dif_pos (by omega), if_pos h1]
      refine (flat_apply _ j _).trans ((units_apply (res_main_v218 V0) _ _ _ _).trans ?_)
      simp only [v218_at hV]
      unfold unitAt
      refine congrArg₂ (· * ·) (congrArg (convAt A _ _) (Fin.ext ?_)) (congrArg invLen (funext fun d => congrArg (convAt A _ _) (Fin.ext ?_)))
      · show 512 + ((e.val - 512) / 128 * 128 + (e.val - 512) % 128) = e.val
        omega
      · show 512 + ((e.val - 512) / 128 * 128 + d.val) = e.val / 128 * 128 + d.val
        omega
    · rw [dif_neg (by omega), if_neg h1]
      refine (flat_apply _ j _).trans ((values_at hV _ _ _ _).trans (congrArg (convAt A _ _) (Fin.ext ?_)))
      show 1024 + ((e.val - 512 - 512) / 128 * 128 + (e.val - 512 - 512) % 128) = e.val
      omega

end Cert.Reference4Ideal

end
-- ==== Proof.ProjRefRun.lean ====
/- The reference's run: the input projection's seven results, of its arguments. -/
module

public import proofs.«01_k».proof.Proof.ProjRefHeads
public import proofs.«01_k».proof.Proof.ProjRefRest
public import proofs.«01_k».proof.Proof.ProjRefConv

@[expose] public section

set_option maxRecDepth 16384

noncomputable section

namespace Cert.Reference4Ideal

open Cert.Reference4Ideal.Gen Cert.Reference4Ideal.Value Idealize.ShloMosaic Idealize.ShloMosaic.TcCoe Idealize.SL.Sem Proj

/-- Every execution ends with the seven results and the arguments as they were. -/
theorem run_value (m : (ℓ : Loc nD τ sig) → Buf (Elt Ideal) ℓ) (ρ : Dev nD → PrngReg) (A : Dev nD → Args)
    (hm : ∀ c : Dev nD, m ((c.tc : Thread nD τ).loc main_arg0) = (A c).x
      ∧ m ((c.tc : Thread nD τ).loc main_arg1) = (A c).nw
      ∧ m ((c.tc : Thread nD τ).loc main_arg2) = (A c).w
      ∧ m ((c.tc : Thread nD τ).loc main_arg3) = (A c).qw
      ∧ m ((c.tc : Thread nD τ).loc main_arg4) = (A c).kw
      ∧ m ((c.tc : Thread nD τ).loc main_arg5) = (A c).cw
      ∧ m ((c.tc : Thread nD τ).loc main_arg6) = (A c).al
      ∧ m ((c.tc : Thread nD τ).loc main_arg7) = (A c).dt) :
    θ_run defs (onTc (τ := τ) (main (F := Ideal))) ⟨m, fun _ => 0, ρ⟩ (fun r => ∀ c : Dev nD,
      r.2.mem ((c.tc : Thread nD τ).loc main_v271) = Proj.aq (A c)
      ∧ r.2.mem ((c.tc : Thread nD τ).loc main_v273) = Proj.ak (A c)
      ∧ r.2.mem ((c.tc : Thread nD τ).loc main_v275) = Proj.av (A c)
      ∧ r.2.mem ((c.tc : Thread nD τ).loc main_v276) = Proj.qkv (A c)
      ∧ r.2.mem ((c.tc : Thread nD τ).loc main_v277) = Proj.gates (A c)
      ∧ r.2.mem ((c.tc : Thread nD τ).loc main_v282) = Proj.mq (A c)
      ∧ r.2.mem ((c.tc : Thread nD τ).loc main_v284) = Proj.z (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (Value.run (F := Ideal) m ρ)
  have hV : Holds (StableHlo.launchContents m c) (A c) := by
    obtain ⟨h0, h1, h2, h3, h4, h5, h6, h7⟩ := hm c
    exact ⟨h0, h1, h2, h3, h4, h5, h6, h7⟩
  obtain ⟨h0, h1, h2, h3, h4, h5, h6, h⟩ := h c
  exact ⟨h0.trans ((val6_main_v271 _).symm.trans (aq_eq hV)), h1.trans ((val6_main_v273 _).symm.trans (ak_eq hV)), h2.trans ((val6_main_v275 _).symm.trans (av_eq hV)),
    h3.trans ((val6_main_v276 _).symm.trans (qkv_eq hV)), h4.trans ((val6_main_v277 _).symm.trans (gates_eq hV)), h5.trans ((val6_main_v282 _).symm.trans (mq_eq hV)),
    h6.trans ((val6_main_v284 _).symm.trans (z_eq hV)), h⟩

end Cert.Reference4Ideal

end
-- ==== Proof.lean ====
/- The proof of the certificate's claim: the frames of the three programs, the naming of the scores' scale, and the equality of
   the two results. -/
module

public import proofs.«01_k».proof.Defs
public import proofs.«01_k».proof.Proof.Body
public import proofs.«01_k».proof.Proof.BitsBody
public import proofs.«01_k».proof.Proof.KernelValue
public import proofs.«01_k».proof.Proof.RefValue
public import proofs.«01_k».proof.Proof.Finite
public import proofs.«01_k».proof.Proof.OutValue
public import proofs.«01_k».proof.Proof.OutRef
public import proofs.«01_k».proof.Proof.FiniteMemory
public import proofs.«01_k».proof.Proof.MemKv
public import proofs.«01_k».proof.Proof.Gen.Kernel2.Frame
public import proofs.«01_k».proof.Proof.Gen.Kernel2Ideal.Value
public import proofs.«01_k».proof.Proof.Gen.Kernel3.Frame
public import proofs.«01_k».proof.Proof.Gen.Kernel3Ideal.Value
public import proofs.«01_k».proof.Proof.Gen.Kernel4.Frame
public import proofs.«01_k».proof.Proof.Gen.Kernel4Ideal.Value
public import proofs.«01_k».proof.Proof.Gen.Reference4Ideal
public import proofs.«01_k».proof.Proof.Gen.Reference4Ideal.Run
public import proofs.«01_k».proof.Proof.ProjValue
public import proofs.«01_k».proof.Proof.ProjRefRun
public import proofs.«01_k».proof.Proof.Gen.Reference2Ideal
public import proofs.«01_k».proof.Proof.Gen.Reference2Ideal.Run
public import proofs.«01_k».proof.Proof.Gen.Reference3Ideal
public import proofs.«01_k».proof.Proof.Gen.Reference3Ideal.Run
public import Idealize.ShloMosaic.Adequacy
public import Idealize.ShloMosaic.Init

@[expose] public section

noncomputable section

namespace Cert.Proof

open Idealize.ShloMosaic Idealize.ShloMosaic.TcCoe Idealize.SL.Sem

/-- The reference ends with the arguments as they were and every counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- From equal arguments with finite queries and keys, the kernel and the reference leave the same result: the gated attention. -/
theorem values : Cert.algebraic_KernelIdeal_ReferenceIdeal_pre_finite_scores := by
  intro m g m' g' hpre hargs
  have hq : ∀ c i, ∃ r : ℝ, Cert.KernelIdeal.argQ m c i = (r : EReal) := fun c => Cert.Pre_finite_scores.q_real _ _ _ _ (hpre c).1
  have hk : ∀ c i, ∃ r : ℝ, Cert.KernelIdeal.argK m c i = (r : EReal) := fun c => Cert.Pre_finite_scores.k_real _ _ _ _ (hpre c).2
  exact ⟨fun c => Attn.attn (Cert.KernelIdeal.argQ m c) (Cert.KernelIdeal.argK m c) (Cert.KernelIdeal.argV m c) (Cert.KernelIdeal.argZ m c),
    Cert.KernelIdeal.run_value m g hq hk,
    Cert.ReferenceIdeal.run_value m' g' (Cert.KernelIdeal.argQ m) (Cert.KernelIdeal.argK m) (Cert.KernelIdeal.argV m) (Cert.KernelIdeal.argZ m)
      hargs hq hk⟩

/-- The output call's reference ends with the arguments as they were and every counter at zero. -/
theorem reference2_frame (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩
      (fun r => (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
        ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
        ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
        ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
        ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
        ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
        ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
        ∧ r.2.sem = fun _ => 0) :=
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- From equal arguments with finite queries and keys of the memory, the output call and its reference leave the layer's result. -/
theorem values2 : Cert.algebraic_Kernel2Ideal_Reference2Ideal_pre_finite_memory := by
  intro m g m' g' hpre hargs
  have h : ∀ c, (Cert.Kernel2Ideal.args m c).Finite := fun c => Cert.Pre_finite_memory.finite (Cert.Kernel2Ideal.args m c) (hpre c).1 (hpre c).2
  exact ⟨fun c => OutProj.out (Cert.Kernel2Ideal.args m c), Cert.Kernel2Ideal.run_value m g h,
    Cert.Reference2Ideal.run_value m' g' (Cert.Kernel2Ideal.args m) h hargs⟩

/-- The reference of the memory's keys and values ends with the arguments as they were and every counter at zero. -/
theorem reference3_frame (m : (ℓ : Loc Cert.Reference3Ideal.nD Cert.Reference3Ideal.τ Cert.Reference3Ideal.sig) → Buf (Elt Ideal) ℓ)
    (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩
      (fun r => (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
        ∧ r.2.sem = fun _ => 0) :=
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- From equal arguments, the memory's call and its reference leave the same rows of keys and values. -/
theorem values3 : Cert.algebraic_Kernel3Ideal_Reference3Ideal := by
  intro m g m' g' _ hargs
  exact ⟨fun c => MemKv.rows (Cert.Kernel3Ideal.argX m c) (Cert.Kernel3Ideal.argN m c) (Cert.Kernel3Ideal.argW m c),
    Cert.Kernel3Ideal.run_value m g,
    Cert.Reference3Ideal.run_value m' g' (Cert.Kernel3Ideal.argX m) (Cert.Kernel3Ideal.argN m) (Cert.Kernel3Ideal.argW m) hargs⟩

/-- The input projection's reference ends with the arguments as they were and every counter at zero. -/
theorem reference4_frame (m : (ℓ : Loc Cert.Reference4Ideal.nD Cert.Reference4Ideal.τ Cert.Reference4Ideal.sig) → Buf (Elt Ideal) ℓ)
    (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩
      (fun r => (∀ c : Dev Cert.Reference4Ideal.nD,
        r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
        ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
        ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
        ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
        ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
        ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
        ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
        ∧ r.2.sem = fun _ => 0) :=
  (θ_run Cert.Reference4Ideal.defs _ _).mono (fun r h => ⟨fun c => (h c).2.2.2.2.2.2.2, Idealize.ShloMosaic.sem_eq_zero_of_no_sems (by decide) r.2⟩)
    (Cert.Reference4Ideal.Value.run (F := Ideal) m ρ)

/-- From equal arguments, the input projection's call and its reference leave the same seven results. -/
theorem values4 : Cert.algebraic_Kernel4Ideal_Reference4Ideal := by
  intro m g m' g' _ hargs
  exact ⟨fun c => Proj.aq (Cert.Kernel4Ideal.args m c), fun c => Proj.ak (Cert.Kernel4Ideal.args m c), fun c => Proj.av (Cert.Kernel4Ideal.args m c),
    fun c => Proj.qkv (Cert.Kernel4Ideal.args m c), fun c => Proj.gates (Cert.Kernel4Ideal.args m c), fun c => Proj.mq (Cert.Kernel4Ideal.args m c),
    fun c => Proj.z (Cert.Kernel4Ideal.args m c), Cert.Kernel4Ideal.run_value m g, Cert.Reference4Ideal.run_value m' g' (Cert.Kernel4Ideal.args m) hargs⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_finite_scores.facts, Cert.Pre_finite_memory.facts,
  fun m g _ => Cert.Kernel.frame (F := Bits) m g,
  fun m g _ => Cert.KernelIdeal.frame (F := Ideal) m g,
  fun m g _ => Cert.KernelIdeal.frame (F := Ideal) m g,
  fun m g _ => reference_frame m g,
  fun m g _ => reference_frame m g,
  fun m g _ => Cert.Kernel2.Gen.frame (F := Bits) m g,
  fun m g _ => Cert.Kernel2Ideal.Gen.frame (F := Ideal) m g,
  fun m g _ => Cert.Kernel2Ideal.Gen.frame (F := Ideal) m g,
  fun m g _ => reference2_frame m g,
  fun m g _ => reference2_frame m g,
  fun m g _ => Cert.Kernel3.Gen.frame (F := Bits) m g,
  fun m g _ => Cert.Kernel3Ideal.Gen.frame (F := Ideal) m g,
  fun m g _ => reference3_frame m g,
  fun m g _ => Cert.Kernel4.Gen.frame (F := Bits) m g,
  fun m g _ => Cert.Kernel4Ideal.Gen.frame (F := Ideal) m g,
  fun m g _ => reference4_frame m g,
  IdealRules.named_const.statement Cert.KernelIdeal.κ "scale_log2e" .f32 0x3E0293EE#32 _ rfl,
  values, trivial, values2, trivial, values3,
  ⟨IdealRules.named_const.statement Cert.Kernel4Ideal.κ "scale_log2e" .f32 0x3E0293EE#32 _ rfl, IdealRules.named_const.statement Cert.Kernel4Ideal.κ "scale" .f32 0x3DB504F3#32 _ rfl⟩,
  values4⟩

end Cert.Proof

end
